-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gradient [hPre_finite_gradient : Cert.Pre_finite_gradient.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gradient.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gradient [hPre_finite_gradient : Cert.Pre_finite_gradient.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gradient.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_rows [hPre_finite_rows : Cert.Pre_finite_rows.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_rows.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_rows [hPre_finite_rows : Cert.Pre_finite_rows.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_rows.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite_factors [hPre_finite_factors : Cert.Pre_finite_factors.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite_factors.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite_factors [hPre_finite_factors : Cert.Pre_finite_factors.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite_factors.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Kernel23Ideal_finite_scale [hPre_finite_scale : Cert.Pre_finite_scale.Facts] (m : (ℓ : Loc Cert.Kernel23Ideal.nD Cert.Kernel23Ideal.τ Cert.Kernel23Ideal.sig) → Buf (Elt Ideal) ℓ) : Prop :=
  ∀ c : Dev Cert.Kernel23Ideal.nD,
    (Cert.Pre_finite_scale.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3))) = (fun _ => 1#1)

def Pre_Reference23Ideal (m : (ℓ : Loc Cert.Reference23Ideal.nD Cert.Reference23Ideal.τ Cert.Reference23Ideal.sig) → Buf (Elt Ideal) ℓ) : Prop :=
  True

def Pre_Reference23Ideal_finite_scale [hPre_finite_scale : Cert.Pre_finite_scale.Facts] (m : (ℓ : Loc Cert.Reference23Ideal.nD Cert.Reference23Ideal.τ Cert.Reference23Ideal.sig) → Buf (Elt Ideal) ℓ) : Prop :=
  ∀ c : Dev Cert.Reference23Ideal.nD,
    (Cert.Pre_finite_scale.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2)) (m ((c.tc : Thread Cert.Reference23Ideal.nD Cert.Reference23Ideal.τ).loc Cert.Reference23Ideal.main_arg3))) = (fun _ => 1#1)

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Kernel24Ideal_finite_ends [hPre_finite_ends : Cert.Pre_finite_ends.Facts] (m : (ℓ : Loc Cert.Kernel24Ideal.nD Cert.Kernel24Ideal.τ Cert.Kernel24Ideal.sig) → Buf (Elt Ideal) ℓ) : Prop :=
  ∀ c : Dev Cert.Kernel24Ideal.nD,
    (Cert.Pre_finite_ends.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3)) (m ((c.tc : Thread Cert.Kernel24Ideal.nD Cert.Kernel24Ideal.τ).loc Cert.Kernel24Ideal.main_arg4))) = (fun _ => 1#1)

def Pre_Reference24Ideal (m : (ℓ : Loc Cert.Reference24Ideal.nD Cert.Reference24Ideal.τ Cert.Reference24Ideal.sig) → Buf (Elt Ideal) ℓ) : Prop :=
  True

def Pre_Reference24Ideal_finite_ends [hPre_finite_ends : Cert.Pre_finite_ends.Facts] (m : (ℓ : Loc Cert.Reference24Ideal.nD Cert.Reference24Ideal.τ Cert.Reference24Ideal.sig) → Buf (Elt Ideal) ℓ) : Prop :=
  ∀ c : Dev Cert.Reference24Ideal.nD,
    (Cert.Pre_finite_ends.fn (F := Ideal) (m ((c.tc : Thread Cert.Reference24Ideal.nD Cert.Reference24Ideal.τ).loc Cert.Reference24Ideal.main_arg0)) (m ((c.tc : Thread Cert.Reference24Ideal.nD Cert.Reference24Ideal.τ).loc Cert.Reference24Ideal.main_arg1)) (m ((c.tc : Thread Cert.Reference24Ideal.nD Cert.Reference24Ideal.τ).loc Cert.Reference24Ideal.main_arg2)) (m ((c.tc : Thread Cert.Reference24Ideal.nD Cert.Reference24Ideal.τ).loc Cert.Reference24Ideal.main_arg3)) (m ((c.tc : Thread Cert.Reference24Ideal.nD Cert.Reference24Ideal.τ).loc Cert.Reference24Ideal.main_arg4))) = (fun _ => 1#1)

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Kernel28Ideal_finite_input [hPre_finite_input : Cert.Pre_finite_input.Facts] (m : (ℓ : Loc Cert.Kernel28Ideal.nD Cert.Kernel28Ideal.τ Cert.Kernel28Ideal.sig) → Buf (Elt Ideal) ℓ) : Prop :=
  ∀ c : Dev Cert.Kernel28Ideal.nD,
    (Cert.Pre_finite_input.fn (F := Ideal) (m ((c.tc : Thread Cert.Kernel28Ideal.nD Cert.Kernel28Ideal.τ).loc Cert.Kernel28Ideal.main_arg0))) = (fun _ => 1#1)

def Pre_Reference28Ideal (m : (ℓ : Loc Cert.Reference28Ideal.nD Cert.Reference28Ideal.τ Cert.Reference28Ideal.sig) → Buf (Elt Ideal) ℓ) : Prop :=
  True

def Pre_Reference28Ideal_finite_input [hPre_finite_input : Cert.Pre_finite_input.Facts] (m : (ℓ : Loc Cert.Reference28Ideal.nD Cert.Reference28Ideal.τ Cert.Reference28Ideal.sig) → Buf (Elt Ideal) ℓ) : Prop :=
  ∀ c : Dev Cert.Reference28Ideal.nD,
    (Cert.Pre_finite_input.fn (F := Ideal) (m ((c.tc : Thread Cert.Reference28Ideal.nD Cert.Reference28Ideal.τ).loc Cert.Reference28Ideal.main_arg0))) = (fun _ => 1#1)

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_gradient [hKernelIdeal : Cert.KernelIdeal.Facts] [hPre_finite_gradient : Cert.Pre_finite_gradient.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gradient m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_gradient [hReferenceIdeal : Cert.ReferenceIdeal.Facts] [hPre_finite_gradient : Cert.Pre_finite_gradient.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gradient m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Kernel8Ideal_pre_finite_rows [hKernel8Ideal : Cert.Kernel8Ideal.Facts] [hPre_finite_rows : Cert.Pre_finite_rows.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_rows m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_finite_rows [hReference8Ideal : Cert.Reference8Ideal.Facts] [hPre_finite_rows : Cert.Pre_finite_rows.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_rows m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Kernel9Ideal_pre_finite_factors [hKernel9Ideal : Cert.Kernel9Ideal.Facts] [hPre_finite_factors : Cert.Pre_finite_factors.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite_factors m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def quiescent_Reference9Ideal_pre_finite_factors [hReference9Ideal : Cert.Reference9Ideal.Facts] [hPre_finite_factors : Cert.Pre_finite_factors.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite_factors m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Kernel23Ideal_pre_finite_scale [hKernel23Ideal : Cert.Kernel23Ideal.Facts] [hPre_finite_scale : Cert.Pre_finite_scale.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal_finite_scale m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Reference23Ideal_pre_finite_scale [hReference23Ideal : Cert.Reference23Ideal.Facts] [hPre_finite_scale : Cert.Pre_finite_scale.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal_finite_scale m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ r.2.sem = fun _ => 0)

def quiescent_Kernel24Ideal_pre_finite_ends [hKernel24Ideal : Cert.Kernel24Ideal.Facts] [hPre_finite_ends : Cert.Pre_finite_ends.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal_finite_ends m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4))
      ∧ r.2.sem = fun _ => 0)

def quiescent_Reference24Ideal_pre_finite_ends [hReference24Ideal : Cert.Reference24Ideal.Facts] [hPre_finite_ends : Cert.Pre_finite_ends.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal_finite_ends m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4)
      ∧ r.2.mem ((c.tc : Thread Cert.Kernel26.nD Cert.Kernel26.τ).loc Cert.Kernel26.main_arg5) = m ((c.tc : Thread Cert.Kernel26.nD Cert.Kernel26.τ).loc Cert.Kernel26.main_arg5)
      ∧ r.2.mem ((c.tc : Thread Cert.Kernel26.nD Cert.Kernel26.τ).loc Cert.Kernel26.main_arg6) = m ((c.tc : Thread Cert.Kernel26.nD Cert.Kernel26.τ).loc Cert.Kernel26.main_arg6))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
      ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5)
      ∧ r.2.mem ((c.tc : Thread Cert.Kernel26Ideal.nD Cert.Kernel26Ideal.τ).loc Cert.Kernel26Ideal.main_arg6) = m ((c.tc : Thread Cert.Kernel26Ideal.nD Cert.Kernel26Ideal.τ).loc Cert.Kernel26Ideal.main_arg6))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4)
      ∧ r.2.mem ((c.tc : Thread Cert.Reference26Ideal.nD Cert.Reference26Ideal.τ).loc Cert.Reference26Ideal.main_arg5) = m ((c.tc : Thread Cert.Reference26Ideal.nD Cert.Reference26Ideal.τ).loc Cert.Reference26Ideal.main_arg5)
      ∧ r.2.mem ((c.tc : Thread Cert.Reference26Ideal.nD Cert.Reference26Ideal.τ).loc Cert.Reference26Ideal.main_arg6) = m ((c.tc : Thread Cert.Reference26Ideal.nD Cert.Reference26Ideal.τ).loc Cert.Reference26Ideal.main_arg6))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0))
      ∧ r.2.sem = fun _ => 0)

def quiescent_Kernel28Ideal_pre_finite_input [hKernel28Ideal : Cert.Kernel28Ideal.Facts] [hPre_finite_input : Cert.Pre_finite_input.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal_finite_input m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0))
      ∧ r.2.sem = fun _ => 0)

def quiescent_Reference28Ideal_pre_finite_input [hReference28Ideal : Cert.Reference28Ideal.Facts] [hPre_finite_input : Cert.Pre_finite_input.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal_finite_input m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3)
      ∧ r.2.mem ((c.tc : Thread Cert.Kernel31.nD Cert.Kernel31.τ).loc Cert.Kernel31.main_arg4) = m ((c.tc : Thread Cert.Kernel31.nD Cert.Kernel31.τ).loc Cert.Kernel31.main_arg4))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
      ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3)
      ∧ r.2.mem ((c.tc : Thread Cert.Reference31Ideal.nD Cert.Reference31Ideal.τ).loc Cert.Reference31Ideal.main_arg4) = m ((c.tc : Thread Cert.Reference31Ideal.nD Cert.Reference31Ideal.τ).loc Cert.Reference31Ideal.main_arg4))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def preserves_Kernel_KernelIdeal : Prop :=
  True

def algebraic_KernelIdeal_ReferenceIdeal_pre_finite_gradient [hKernelIdeal : Cert.KernelIdeal.Facts] [hReferenceIdeal : Cert.ReferenceIdeal.Facts] [hPre_finite_gradient : Cert.Pre_finite_gradient.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gradient m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal_pre_finite_rows [hKernel8Ideal : Cert.Kernel8Ideal.Facts] [hReference8Ideal : Cert.Reference8Ideal.Facts] [hPre_finite_rows : Cert.Pre_finite_rows.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_rows m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v49) = v0 c
          ∧ r.2.mem ((c.tc : Thread Cert.Reference8Ideal.nD Cert.Reference8Ideal.τ).loc Cert.Reference8Ideal.main_v24) = v1 c
          ∧ r.2.mem ((c.tc : Thread Cert.Reference8Ideal.nD Cert.Reference8Ideal.τ).loc Cert.Reference8Ideal.main_v27) = v2 c
          ∧ r.2.mem ((c.tc : Thread Cert.Reference8Ideal.nD Cert.Reference8Ideal.τ).loc Cert.Reference8Ideal.main_v32) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal_pre_finite_factors [hKernel9Ideal : Cert.Kernel9Ideal.Facts] [hReference9Ideal : Cert.Reference9Ideal.Facts] [hPre_finite_factors : Cert.Pre_finite_factors.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite_factors m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v16_0)) (v1 : (c : Dev Cert.Kernel9Ideal.nD) → Buf (Elt Ideal) ((c.tc : Thread Cert.Kernel9Ideal.nD Cert.Kernel9Ideal.τ).loc Cert.Kernel9Ideal.main_v16_1)) (v2 : (c : Dev Cert.Kernel9Ideal.nD) → Buf (Elt Ideal) ((c.tc : Thread Cert.Kernel9Ideal.nD Cert.Kernel9Ideal.τ).loc Cert.Kernel9Ideal.main_v16_2)) (v3 : (c : Dev Cert.Kernel9Ideal.nD) → Buf (Elt Ideal) ((c.tc : Thread Cert.Kernel9Ideal.nD Cert.Kernel9Ideal.τ).loc Cert.Kernel9Ideal.main_v16_3)) (v4 : (c : Dev Cert.Kernel9Ideal.nD) → Buf (Elt Ideal) ((c.tc : Thread Cert.Kernel9Ideal.nD Cert.Kernel9Ideal.τ).loc Cert.Kernel9Ideal.main_v16_4)) (v5 : (c : Dev Cert.Kernel9Ideal.nD) → Buf (Elt Ideal) ((c.tc : Thread Cert.Kernel9Ideal.nD Cert.Kernel9Ideal.τ).loc Cert.Kernel9Ideal.main_v16_5)) (v6 : (c : Dev Cert.Kernel9Ideal.nD) → Buf (Elt Ideal) ((c.tc : Thread Cert.Kernel9Ideal.nD Cert.Kernel9Ideal.τ).loc Cert.Kernel9Ideal.main_v16_6)) (v7 : (c : Dev Cert.Kernel9Ideal.nD) → Buf (Elt Ideal) ((c.tc : Thread Cert.Kernel9Ideal.nD Cert.Kernel9Ideal.τ).loc Cert.Kernel9Ideal.main_v16_7)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v16_0) = v0 c
          ∧ r.2.mem ((c.tc : Thread Cert.Kernel9Ideal.nD Cert.Kernel9Ideal.τ).loc Cert.Kernel9Ideal.main_v16_1) = v1 c
          ∧ r.2.mem ((c.tc : Thread Cert.Kernel9Ideal.nD Cert.Kernel9Ideal.τ).loc Cert.Kernel9Ideal.main_v16_2) = v2 c
          ∧ r.2.mem ((c.tc : Thread Cert.Kernel9Ideal.nD Cert.Kernel9Ideal.τ).loc Cert.Kernel9Ideal.main_v16_3) = v3 c
          ∧ r.2.mem ((c.tc : Thread Cert.Kernel9Ideal.nD Cert.Kernel9Ideal.τ).loc Cert.Kernel9Ideal.main_v16_4) = v4 c
          ∧ r.2.mem ((c.tc : Thread Cert.Kernel9Ideal.nD Cert.Kernel9Ideal.τ).loc Cert.Kernel9Ideal.main_v16_5) = v5 c
          ∧ r.2.mem ((c.tc : Thread Cert.Kernel9Ideal.nD Cert.Kernel9Ideal.τ).loc Cert.Kernel9Ideal.main_v16_6) = v6 c
          ∧ r.2.mem ((c.tc : Thread Cert.Kernel9Ideal.nD Cert.Kernel9Ideal.τ).loc Cert.Kernel9Ideal.main_v16_7) = v7 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v70) = v0 c
          ∧ r.2.mem ((c.tc : Thread Cert.Reference9Ideal.nD Cert.Reference9Ideal.τ).loc Cert.Reference9Ideal.main_v98) = v1 c
          ∧ r.2.mem ((c.tc : Thread Cert.Reference9Ideal.nD Cert.Reference9Ideal.τ).loc Cert.Reference9Ideal.main_v45) = v2 c
          ∧ r.2.mem ((c.tc : Thread Cert.Reference9Ideal.nD Cert.Reference9Ideal.τ).loc Cert.Reference9Ideal.main_v48) = v3 c
          ∧ r.2.mem ((c.tc : Thread Cert.Reference9Ideal.nD Cert.Reference9Ideal.τ).loc Cert.Reference9Ideal.main_v53) = v4 c
          ∧ r.2.mem ((c.tc : Thread Cert.Reference9Ideal.nD Cert.Reference9Ideal.τ).loc Cert.Reference9Ideal.main_v79) = v5 c
          ∧ r.2.mem ((c.tc : Thread Cert.Reference9Ideal.nD Cert.Reference9Ideal.τ).loc Cert.Reference9Ideal.main_v76) = v6 c
          ∧ r.2.mem ((c.tc : Thread Cert.Reference9Ideal.nD Cert.Reference9Ideal.τ).loc Cert.Reference9Ideal.main_v97) = v7 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v8) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v10) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v7) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v10) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v7) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v13) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v13) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v7) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal_pre_finite_scale [hKernel23Ideal : Cert.Kernel23Ideal.Facts] [hReference23Ideal : Cert.Reference23Ideal.Facts] [hPre_finite_scale : Cert.Pre_finite_scale.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal_finite_scale m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v11) = v0 c
          ∧ r.2.mem ((c.tc : Thread Cert.Reference23Ideal.nD Cert.Reference23Ideal.τ).loc Cert.Reference23Ideal.main_v6) = v1 c
          ∧ r.2.mem ((c.tc : Thread Cert.Reference23Ideal.nD Cert.Reference23Ideal.τ).loc Cert.Reference23Ideal.main_v10) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal_pre_finite_ends [hKernel24Ideal : Cert.Kernel24Ideal.Facts] [hReference24Ideal : Cert.Reference24Ideal.Facts] [hPre_finite_ends : Cert.Pre_finite_ends.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal_finite_ends m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)) (v4 : (c : Dev Cert.Kernel24Ideal.nD) → Buf (Elt Ideal) ((c.tc : Thread Cert.Kernel24Ideal.nD Cert.Kernel24Ideal.τ).loc Cert.Kernel24Ideal.main_v0_4)) (v5 : (c : Dev Cert.Kernel24Ideal.nD) → Buf (Elt Ideal) ((c.tc : Thread Cert.Kernel24Ideal.nD Cert.Kernel24Ideal.τ).loc Cert.Kernel24Ideal.main_v0_5)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_v0_4) = v4 c
          ∧ r.2.mem ((c.tc : Thread Cert.Kernel24Ideal.nD Cert.Kernel24Ideal.τ).loc Cert.Kernel24Ideal.main_v0_5) = v5 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v36) = v0 c
          ∧ r.2.mem ((c.tc : Thread Cert.Reference24Ideal.nD Cert.Reference24Ideal.τ).loc Cert.Reference24Ideal.main_v63) = v1 c
          ∧ r.2.mem ((c.tc : Thread Cert.Reference24Ideal.nD Cert.Reference24Ideal.τ).loc Cert.Reference24Ideal.main_v44) = v2 c
          ∧ r.2.mem ((c.tc : Thread Cert.Reference24Ideal.nD Cert.Reference24Ideal.τ).loc Cert.Reference24Ideal.main_v41) = v3 c
          ∧ r.2.mem ((c.tc : Thread Cert.Reference24Ideal.nD Cert.Reference24Ideal.τ).loc Cert.Reference24Ideal.main_v62) = v4 c
          ∧ r.2.mem ((c.tc : Thread Cert.Reference24Ideal.nD Cert.Reference24Ideal.τ).loc Cert.Reference24Ideal.main_v64) = v5 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v18) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)
      ∧ m' ((c.tc : Thread Cert.Reference26Ideal.nD Cert.Reference26Ideal.τ).loc Cert.Reference26Ideal.main_arg5) = m ((c.tc : Thread Cert.Kernel26Ideal.nD Cert.Kernel26Ideal.τ).loc Cert.Kernel26Ideal.main_arg5)
      ∧ m' ((c.tc : Thread Cert.Reference26Ideal.nD Cert.Reference26Ideal.τ).loc Cert.Reference26Ideal.main_arg6) = m ((c.tc : Thread Cert.Kernel26Ideal.nD Cert.Kernel26Ideal.τ).loc Cert.Kernel26Ideal.main_arg6)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
          ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5)
          ∧ r.2.mem ((c.tc : Thread Cert.Kernel26Ideal.nD Cert.Kernel26Ideal.τ).loc Cert.Kernel26Ideal.main_arg6) = m ((c.tc : Thread Cert.Kernel26Ideal.nD Cert.Kernel26Ideal.τ).loc Cert.Kernel26Ideal.main_arg6))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v15) = v0 c
          ∧ r.2.mem ((c.tc : Thread Cert.Reference26Ideal.nD Cert.Reference26Ideal.τ).loc Cert.Reference26Ideal.main_v34) = v1 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4)
          ∧ r.2.mem ((c.tc : Thread Cert.Reference26Ideal.nD Cert.Reference26Ideal.τ).loc Cert.Reference26Ideal.main_arg5) = m' ((c.tc : Thread Cert.Reference26Ideal.nD Cert.Reference26Ideal.τ).loc Cert.Reference26Ideal.main_arg5)
          ∧ r.2.mem ((c.tc : Thread Cert.Reference26Ideal.nD Cert.Reference26Ideal.τ).loc Cert.Reference26Ideal.main_arg6) = m' ((c.tc : Thread Cert.Reference26Ideal.nD Cert.Reference26Ideal.τ).loc Cert.Reference26Ideal.main_arg6))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v4) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def preserves_Kernel28_Kernel28Ideal : Prop :=
  True

def algebraic_Kernel28Ideal_Reference28Ideal_pre_finite_input [hKernel28Ideal : Cert.Kernel28Ideal.Facts] [hReference28Ideal : Cert.Reference28Ideal.Facts] [hPre_finite_input : Cert.Pre_finite_input.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal_finite_input m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v41) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v0) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v33) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)
      ∧ m' ((c.tc : Thread Cert.Reference31Ideal.nD Cert.Reference31Ideal.τ).loc Cert.Reference31Ideal.main_arg4) = m ((c.tc : Thread Cert.Kernel31Ideal.nD Cert.Kernel31Ideal.τ).loc Cert.Kernel31Ideal.main_arg4)) →
    ∃ (v0 : (c : Dev Cert.Kernel31Ideal.nD) → Buf (Elt Ideal) ((c.tc : Thread Cert.Kernel31Ideal.nD Cert.Kernel31Ideal.τ).loc Cert.Kernel31Ideal.main_v1_0)) (v1 : (c : Dev Cert.Kernel31Ideal.nD) → Buf (Elt Ideal) ((c.tc : Thread Cert.Kernel31Ideal.nD Cert.Kernel31Ideal.τ).loc Cert.Kernel31Ideal.main_v1_1)) (v2 : (c : Dev Cert.Kernel31Ideal.nD) → Buf (Elt Ideal) ((c.tc : Thread Cert.Kernel31Ideal.nD Cert.Kernel31Ideal.τ).loc Cert.Kernel31Ideal.main_v1_2)) (v3 : (c : Dev Cert.Kernel31Ideal.nD) → Buf (Elt Ideal) ((c.tc : Thread Cert.Kernel31Ideal.nD Cert.Kernel31Ideal.τ).loc Cert.Kernel31Ideal.main_v1_3)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v1_0) = v0 c
          ∧ r.2.mem ((c.tc : Thread Cert.Kernel31Ideal.nD Cert.Kernel31Ideal.τ).loc Cert.Kernel31Ideal.main_v1_1) = v1 c
          ∧ r.2.mem ((c.tc : Thread Cert.Kernel31Ideal.nD Cert.Kernel31Ideal.τ).loc Cert.Kernel31Ideal.main_v1_2) = v2 c
          ∧ r.2.mem ((c.tc : Thread Cert.Kernel31Ideal.nD Cert.Kernel31Ideal.τ).loc Cert.Kernel31Ideal.main_v1_3) = v3 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
          ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v61) = v0 c
          ∧ r.2.mem ((c.tc : Thread Cert.Reference31Ideal.nD Cert.Reference31Ideal.τ).loc Cert.Reference31Ideal.main_v85) = v1 c
          ∧ r.2.mem ((c.tc : Thread Cert.Reference31Ideal.nD Cert.Reference31Ideal.τ).loc Cert.Reference31Ideal.main_v66) = v2 c
          ∧ r.2.mem ((c.tc : Thread Cert.Reference31Ideal.nD Cert.Reference31Ideal.τ).loc Cert.Reference31Ideal.main_v72) = v3 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3)
          ∧ r.2.mem ((c.tc : Thread Cert.Reference31Ideal.nD Cert.Reference31Ideal.τ).loc Cert.Reference31Ideal.main_arg4) = m' ((c.tc : Thread Cert.Reference31Ideal.nD Cert.Reference31Ideal.τ).loc Cert.Reference31Ideal.main_arg4))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v23) = v0 c
          ∧ r.2.mem ((c.tc : Thread Cert.Reference32Ideal.nD Cert.Reference32Ideal.τ).loc Cert.Reference32Ideal.main_v4) = v1 c
          ∧ r.2.mem ((c.tc : Thread Cert.Reference32Ideal.nD Cert.Reference32Ideal.τ).loc Cert.Reference32Ideal.main_v10) = v2 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hPre_finite_gradient : Cert.Pre_finite_gradient.Facts) (hPre_finite_rows : Cert.Pre_finite_rows.Facts) (hPre_finite_factors : Cert.Pre_finite_factors.Facts) (hPre_finite_scale : Cert.Pre_finite_scale.Facts) (hPre_finite_ends : Cert.Pre_finite_ends.Facts) (hPre_finite_input : Cert.Pre_finite_input.Facts),
    quiescent_Kernel (hKernel := hKernel)
    ∧ quiescent_KernelIdeal (hKernelIdeal := hKernelIdeal)
    ∧ quiescent_KernelIdeal_pre_finite_gradient (hKernelIdeal := hKernelIdeal) (hPre_finite_gradient := hPre_finite_gradient)
    ∧ quiescent_ReferenceIdeal (hReferenceIdeal := hReferenceIdeal)
    ∧ quiescent_ReferenceIdeal_pre_finite_gradient (hReferenceIdeal := hReferenceIdeal) (hPre_finite_gradient := hPre_finite_gradient)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_rows (hKernel8Ideal := hKernel8Ideal) (hPre_finite_rows := hPre_finite_rows)
    ∧ quiescent_Reference8Ideal (hReference8Ideal := hReference8Ideal)
    ∧ quiescent_Reference8Ideal_pre_finite_rows (hReference8Ideal := hReference8Ideal) (hPre_finite_rows := hPre_finite_rows)
    ∧ quiescent_Kernel9 (hKernel9 := hKernel9)
    ∧ quiescent_Kernel9Ideal (hKernel9Ideal := hKernel9Ideal)
    ∧ quiescent_Kernel9Ideal_pre_finite_factors (hKernel9Ideal := hKernel9Ideal) (hPre_finite_factors := hPre_finite_factors)
    ∧ quiescent_Reference9Ideal (hReference9Ideal := hReference9Ideal)
    ∧ quiescent_Reference9Ideal_pre_finite_factors (hReference9Ideal := hReference9Ideal) (hPre_finite_factors := hPre_finite_factors)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Kernel23Ideal_pre_finite_scale (hKernel23Ideal := hKernel23Ideal) (hPre_finite_scale := hPre_finite_scale)
    ∧ quiescent_Reference23Ideal (hReference23Ideal := hReference23Ideal)
    ∧ quiescent_Reference23Ideal_pre_finite_scale (hReference23Ideal := hReference23Ideal) (hPre_finite_scale := hPre_finite_scale)
    ∧ quiescent_Kernel24 (hKernel24 := hKernel24)
    ∧ quiescent_Kernel24Ideal (hKernel24Ideal := hKernel24Ideal)
    ∧ quiescent_Kernel24Ideal_pre_finite_ends (hKernel24Ideal := hKernel24Ideal) (hPre_finite_ends := hPre_finite_ends)
    ∧ quiescent_Reference24Ideal (hReference24Ideal := hReference24Ideal)
    ∧ quiescent_Reference24Ideal_pre_finite_ends (hReference24Ideal := hReference24Ideal) (hPre_finite_ends := hPre_finite_ends)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Kernel28Ideal_pre_finite_input (hKernel28Ideal := hKernel28Ideal) (hPre_finite_input := hPre_finite_input)
    ∧ quiescent_Reference28Ideal (hReference28Ideal := hReference28Ideal)
    ∧ quiescent_Reference28Ideal_pre_finite_input (hReference28Ideal := hReference28Ideal) (hPre_finite_input := hPre_finite_input)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ preserves_Kernel_KernelIdeal
    ∧ algebraic_KernelIdeal_ReferenceIdeal_pre_finite_gradient (hKernelIdeal := hKernelIdeal) (hReferenceIdeal := hReferenceIdeal) (hPre_finite_gradient := hPre_finite_gradient)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite_rows (hKernel8Ideal := hKernel8Ideal) (hReference8Ideal := hReference8Ideal) (hPre_finite_rows := hPre_finite_rows)
    ∧ preserves_Kernel9_Kernel9Ideal
    ∧ algebraic_Kernel9Ideal_Reference9Ideal_pre_finite_factors (hKernel9Ideal := hKernel9Ideal) (hReference9Ideal := hReference9Ideal) (hPre_finite_factors := hPre_finite_factors)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal_pre_finite_scale (hKernel23Ideal := hKernel23Ideal) (hReference23Ideal := hReference23Ideal) (hPre_finite_scale := hPre_finite_scale)
    ∧ preserves_Kernel24_Kernel24Ideal
    ∧ algebraic_Kernel24Ideal_Reference24Ideal_pre_finite_ends (hKernel24Ideal := hKernel24Ideal) (hReference24Ideal := hReference24Ideal) (hPre_finite_ends := hPre_finite_ends)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal_pre_finite_input (hKernel28Ideal := hKernel28Ideal) (hReference28Ideal := hReference28Ideal) (hPre_finite_input := hPre_finite_input)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
-- ==== Pre_finite_ends.lean ====
abbrev S8192x1024 : Shape := ⟨2, ![8192, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S1x1024_S8192x1024_0_1 : S1x1024.BroadcastsInDim S8192x1024 (![0, 1] : Fin 2 → Fin S8192x1024.rank)

variable [Facts]

def fn {F : FTy → Type} [FloatOps F] (main_arg0 : FVec F S8192x1024 .f32) (main_arg1 : FVec F S8192x1024 .bf16) (main_arg2 : FVec F S8192x1024 .f32) (main_arg3 : FVec F S1x1024 .f32) (main_arg4 : FVec F S1x1024 .f32) : IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg2
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : IVec S8192x1024 1 := andi main_v2 main_v5
  let main_v7 : FVec F S1x1024 .f32 := Host.absf main_arg3
  let main_cst_1 : FVec F S_ .f32 := constant S_ .f32 0x7F800000#32
  let main_v8 : FVec F S1x1024 .f32 := broadcastInDim S1x1024 ![] bcast_S_S1x1024 main_cst_1
  let main_v9 : IVec S1x1024 1 := cmpf .olt main_v7 main_v8
  let main_v10 : IVec S8192x1024 1 := broadcastInDim S8192x1024 ![0, 1] bcast_S1x1024_S8192x1024_0_1 main_v9
  let main_v11 : IVec S8192x1024 1 := andi main_v6 main_v10
  let main_v12 : FVec F S1x1024 .f32 := Host.absf main_arg4
  let main_cst_2 : FVec F S_ .f32 := constant S_ .f32 0x7F800000#32
  let main_v13 : FVec F S1x1024 .f32 := broadcastInDim S1x1024 ![] bcast_S_S1x1024 main_cst_2
  let main_v14 : IVec S1x1024 1 := cmpf .olt main_v12 main_v13
  let main_v15 : IVec S8192x1024 1 := broadcastInDim S8192x1024 ![0, 1] bcast_S1x1024_S8192x1024_0_1 main_v14
  let main_v16 : IVec S8192x1024 1 := andi main_v11 main_v15
  main_v16
-- ==== Pre_finite_factors.lean ====
abbrev S8192x1024 : Shape := ⟨2, ![8192, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S1x1024_S8192x1024_0_1 : S1x1024.BroadcastsInDim S8192x1024 (![0, 1] : Fin 2 → Fin S8192x1024.rank)

variable [Facts]

def fn_part1 {F : FTy → Type} [FloatOps F] (main_arg7 : FVec F S1x1024 .f32) (main_v16 : IVec S8192x1024 1) (main_v17 : FVec F S1x1024 .f32) (main_v18 : FVec F S1x1024 .f32) : IVec S8192x1024 1 :=
  let main_v19 : IVec S1x1024 1 := cmpf .olt main_v17 main_v18
  let main_v20 : IVec S8192x1024 1 := broadcastInDim S8192x1024 ![0, 1] bcast_S1x1024_S8192x1024_0_1 main_v19
  let main_v21 : IVec S8192x1024 1 := andi main_v16 main_v20
  let main_v22 : FVec F S1x1024 .f32 := Host.absf main_arg7
  let main_cst_4 : FVec F S_ .f32 := constant S_ .f32 0x7F800000#32
  let main_v23 : FVec F S1x1024 .f32 := broadcastInDim S1x1024 ![] bcast_S_S1x1024 main_cst_4
  let main_v24 : IVec S1x1024 1 := cmpf .olt main_v22 main_v23
  let main_v25 : IVec S8192x1024 1 := broadcastInDim S8192x1024 ![0, 1] bcast_S1x1024_S8192x1024_0_1 main_v24
  let main_v26 : IVec S8192x1024 1 := andi main_v21 main_v25
  main_v26

def fn {F : FTy → Type} [FloatOps F] (main_arg0 : FVec F S8192x1024 .f32) (main_arg1 : FVec F S8192x1024 .f32) (main_arg2 : FVec F S8192x1024 .f32) (main_arg3 : FVec F S1x1024 .f32) (main_arg4 : FVec F S1x1024 .f32) (main_arg5 : FVec F S8192x1024 .bf16) (main_arg6 : FVec F S1x1024 .f32) (main_arg7 : FVec F S1x1024 .f32) : IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : IVec S8192x1024 1 := andi main_v2 main_v5
  let main_v7 : FVec F S1x1024 .f32 := Host.absf main_arg3
  let main_cst_1 : FVec F S_ .f32 := constant S_ .f32 0x7F800000#32
  let main_v8 : FVec F S1x1024 .f32 := broadcastInDim S1x1024 ![] bcast_S_S1x1024 main_cst_1
  let main_v9 : IVec S1x1024 1 := cmpf .olt main_v7 main_v8
  let main_v10 : IVec S8192x1024 1 := broadcastInDim S8192x1024 ![0, 1] bcast_S1x1024_S8192x1024_0_1 main_v9
  let main_v11 : IVec S8192x1024 1 := andi main_v6 main_v10
  let main_v12 : FVec F S1x1024 .f32 := Host.absf main_arg4
  let main_cst_2 : FVec F S_ .f32 := constant S_ .f32 0x7F800000#32
  let main_v13 : FVec F S1x1024 .f32 := broadcastInDim S1x1024 ![] bcast_S_S1x1024 main_cst_2
  let main_v14 : IVec S1x1024 1 := cmpf .olt main_v12 main_v13
  let main_v15 : IVec S8192x1024 1 := broadcastInDim S8192x1024 ![0, 1] bcast_S1x1024_S8192x1024_0_1 main_v14
  let main_v16 : IVec S8192x1024 1 := andi main_v11 main_v15
  let main_v17 : FVec F S1x1024 .f32 := Host.absf main_arg6
  let main_cst_3 : FVec F S_ .f32 := constant S_ .f32 0x7F800000#32
  let main_v18 : FVec F S1x1024 .f32 := broadcastInDim S1x1024 ![] bcast_S_S1x1024 main_cst_3
  fn_part1 (F := F) main_arg7 main_v16 main_v17 main_v18
-- ==== Pre_finite_gradient.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)

variable [Facts]

def fn {F : FTy → Type} [FloatOps F] (main_arg0 : FVec F S8192x1024 .f32) : IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  main_v2
-- ==== Pre_finite_input.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)

variable [Facts]

def fn {F : FTy → Type} [FloatOps F] (main_arg0 : FVec F S8192x1024 .f32) : IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  main_v2
-- ==== Pre_finite_rows.lean ====
abbrev S8192x1024 : Shape := ⟨2, ![8192, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S1x1024_S8192x1024_0_1 : S1x1024.BroadcastsInDim S8192x1024 (![0, 1] : Fin 2 → Fin S8192x1024.rank)

variable [Facts]

def fn {F : FTy → Type} [FloatOps F] (main_arg0 : FVec F S8192x1024 .f32) (main_arg1 : FVec F S8192x1024 .f32) (main_arg2 : FVec F S8192x1024 .f32) (main_arg3 : FVec F S1x1024 .f32) (main_arg4 : FVec F S1x1024 .f32) : IVec S8192x1024 1 :=
  let main_v0 : FVec F S8192x1024 .f32 := Host.absf main_arg1
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg3
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : IVec S8192x1024 1 := broadcastInDim S8192x1024 ![0, 1] bcast_S1x1024_S8192x1024_0_1 main_v5
  let main_v7 : IVec S8192x1024 1 := andi main_v2 main_v6
  let main_v8 : FVec F S1x1024 .f32 := Host.absf main_arg4
  let main_cst_1 : FVec F S_ .f32 := constant S_ .f32 0x7F800000#32
  let main_v9 : FVec F S1x1024 .f32 := broadcastInDim S1x1024 ![] bcast_S_S1x1024 main_cst_1
  let main_v10 : IVec S1x1024 1 := cmpf .olt main_v8 main_v9
  let main_v11 : IVec S8192x1024 1 := broadcastInDim S8192x1024 ![0, 1] bcast_S1x1024_S8192x1024_0_1 main_v10
  let main_v12 : IVec S8192x1024 1 := andi main_v7 main_v11
  main_v12
-- ==== Pre_finite_scale.lean ====
abbrev S8192x1024 : Shape := ⟨2, ![8192, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S1x1024_S8192x1024_0_1 : S1x1024.BroadcastsInDim S8192x1024 (![0, 1] : Fin 2 → Fin S8192x1024.rank)

variable [Facts]

def fn {F : FTy → Type} [FloatOps F] (main_arg0 : FVec F S8192x1024 .f32) (main_arg1 : FVec F S8192x1024 .f32) (main_arg2 : FVec F S1x1024 .f32) (main_arg3 : FVec F S1x1024 .f32) : IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg3
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : IVec S8192x1024 1 := broadcastInDim S8192x1024 ![0, 1] bcast_S1x1024_S8192x1024_0_1 main_v5
  let main_v7 : IVec S8192x1024 1 := andi main_v2 main_v6
  main_v7
-- ==== Kernel.lean ====
abbrev S8192x1024 : Shape := ⟨2, ![8192, 1024]⟩
abbrev S256x1024 : Shape := ⟨2, ![256, 1024]⟩
abbrev S16x1024 : Shape := ⟨2, ![16, 1024]⟩
abbrev S272x1024 : Shape := ⟨2, ![272, 1024]⟩
abbrev S256x256 : Shape := ⟨2, ![256, 256]⟩
abbrev S256x1 : Shape := ⟨2, ![256, 1]⟩
abbrev S16x256 : Shape := ⟨2, ![16, 256]⟩
abbrev S272x256 : Shape := ⟨2, ![272, 256]⟩

abbrev nBuf : Space → Nat
  | .hbm => 2
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S16x1024, .f32⟩
  | .local _ .vmem, ⟨3, _⟩ => ⟨S16x1024, .f32⟩
  | .local _ .vmem, ⟨4, _⟩ => ⟨S256x1024, .f32⟩
  | .local _ .vmem, ⟨5, _⟩ => ⟨S256x1024, .f32⟩
  | .local _ .vmem, ⟨6, _⟩ => ⟨S272x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S8192x1024 : Shape := ⟨2, ![8192, 1024]⟩
abbrev S_ : Shape := ⟨0, ![]⟩
abbrev S1x8192x1024 : Shape := ⟨3, ![1, 8192, 1024]⟩
abbrev S8192 : Shape := ⟨1, ![8192]⟩
abbrev S1x8192x1 : Shape := ⟨3, ![1, 8192, 1]⟩
abbrev S1x8192x256 : Shape := ⟨3, ![1, 8192, 256]⟩
abbrev S1x2x256 : Shape := ⟨3, ![1, 2, 256]⟩
abbrev S1x8190x256 : Shape := ⟨3, ![1, 8190, 256]⟩
abbrev S1x4x256 : Shape := ⟨3, ![1, 4, 256]⟩
abbrev S1x8188x256 : Shape := ⟨3, ![1, 8188, 256]⟩
abbrev S1x8x256 : Shape := ⟨3, ![1, 8, 256]⟩
abbrev S1x8184x256 : Shape := ⟨3, ![1, 8184, 256]⟩
abbrev S1x16x256 : Shape := ⟨3, ![1, 16, 256]⟩
abbrev S1x8176x256 : Shape := ⟨3, ![1, 8176, 256]⟩

abbrev nBuf : Space → Nat
  | .hbm => 119
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S_, .f32⟩
  | .hbm, ⟨2, _⟩ => ⟨S1x8192x1024, .f32⟩
  | .hbm, ⟨3, _⟩ => ⟨S_, .f32⟩
  | .hbm, ⟨4, _⟩ => ⟨S_, .f32⟩
  | .hbm, ⟨5, _⟩ => ⟨S1x8192x1024, .f32⟩
  | .hbm, ⟨6, _⟩ => ⟨S8192, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S1x8192x1, .f32⟩
  | .hbm, ⟨11, _⟩ => ⟨S1x8192x256, .f32⟩
  | .hbm, ⟨12, _⟩ => ⟨S_, .f32⟩
  | .hbm, ⟨13, _⟩ => ⟨S1x2x256, .f32⟩
  | .hbm, ⟨14, _⟩ => ⟨S1x8190x256, .f32⟩
  | .hbm, ⟨15, _⟩ => ⟨S1x8192x256, .f32⟩
  | .hbm, ⟨16, _⟩ => ⟨S_, .f32⟩
  | .hbm, ⟨17, _⟩ => ⟨S1x2x256, .f32⟩
  | .hbm, ⟨18, _⟩ => ⟨S1x8192x256, .f32⟩
  | .hbm, ⟨19, _⟩ => ⟨S_, .f32⟩
  | .hbm, ⟨20, _⟩ => ⟨S1x8192x1, .f32⟩
  | .hbm, ⟨21, _⟩ => ⟨S1x8192x1, .f32⟩
  | .hbm, ⟨22, _⟩ => ⟨S1x8192x256, .f32⟩
  | .hbm, ⟨23, _⟩ => ⟨S1x8192x256, .f32⟩
  | .hbm, ⟨24, _⟩ => ⟨S1x8192x256, .f32⟩
  | .hbm, ⟨25, _⟩ => ⟨S_, .f32⟩
  | .hbm, ⟨26, _⟩ => ⟨S1x4x256, .f32⟩
  | .hbm, ⟨27, _⟩ => ⟨S1x8188x256, .f32⟩
  | .hbm, ⟨28, _⟩ => ⟨S1x8192x256, .f32⟩
  | .hbm, ⟨29, _⟩ => ⟨S_, .f32⟩
  | .hbm, ⟨30, _⟩ => ⟨S1x4x256, .f32⟩
  | .hbm, ⟨31, _⟩ => ⟨S1x8192x256, .f32⟩
  | .hbm, ⟨32, _⟩ => ⟨S_, .f32⟩
  | .hbm, ⟨33, _⟩ => ⟨S1x8192x1, .f32⟩
  | .hbm, ⟨34, _⟩ => ⟨S1x8192x1, .f32⟩
  | .hbm, ⟨35, _⟩ => ⟨S1x8192x256, .f32⟩
  | .hbm, ⟨36, _⟩ => ⟨S1x8192x256, .f32⟩
  | .hbm, ⟨37, _⟩ => ⟨S1x8192x256, .f32⟩
  | .hbm, ⟨38, _⟩ => ⟨S_, .f32⟩
  | .hbm, ⟨39, _⟩ => ⟨S1x8x256, .f32⟩
  | .hbm, ⟨40, _⟩ => ⟨S1x8184x256, .f32⟩
  | .hbm, ⟨41, _⟩ => ⟨S1x8192x256, .f32⟩
  | .hbm, ⟨42, _⟩ => ⟨S_, .f32⟩
  | .hbm, ⟨43, _⟩ => ⟨S1x8x256, .f32⟩
  | .hbm, ⟨44, _⟩ => ⟨S1x8192x256, .f32⟩
  | .hbm, ⟨45, _⟩ => ⟨S_, .f32⟩
  | .hbm, ⟨46, _⟩ => ⟨S1x8192x1, .f32⟩
  | .hbm, ⟨47, _⟩ => ⟨S1x8192x1, .f32⟩
  | .hbm, ⟨48, _⟩ => ⟨S1x8192x256, .f32⟩
  | .hbm, ⟨49, _⟩ => ⟨S1x8192x256, .f32⟩
  | .hbm, ⟨50, _⟩ => ⟨S1x8192x256, .f32⟩
  | .hbm, ⟨51, _⟩ => ⟨S_, .f32⟩
  | .hbm, ⟨52, _⟩ => ⟨S1x16x256, .f32⟩
  | .hbm, ⟨53, _⟩ => ⟨S1x8176x256, .f32⟩
  | .hbm, ⟨54, _⟩ => ⟨S1x8192x256, .f32⟩
  | .hbm, ⟨55, _⟩ => ⟨S_, .f32⟩
  | .hbm, ⟨56, _⟩ => ⟨S1x16x256, .f32⟩
  | .hbm, ⟨57, _⟩ => ⟨S1x8192x256, .f32⟩
  | .hbm, ⟨58, _⟩ => ⟨S_, .f32⟩
  | .hbm, ⟨59, _⟩ => ⟨S1x8192x1, .f32⟩
  | .hbm, ⟨60, _⟩ => ⟨S1x8192x1, .f32⟩
  | .hbm, ⟨61, _⟩ => ⟨S1x8192x256, .f32⟩
  | .hbm, ⟨62, _⟩ => ⟨S1x8192x256, .f32⟩
  | .hbm, ⟨63, _⟩ => ⟨S1x8192x1024, .f32⟩
  | .hbm, ⟨64, _⟩ => ⟨S1x8192x1024, .f32⟩
  | .hbm, ⟨65, _⟩ => ⟨S1x8192x1024, .f32⟩
  | .hbm, ⟨66, _⟩ => ⟨S1x8192x1024, .f32⟩
  | .hbm, ⟨67, _⟩ => ⟨S1x8192x256, .f32⟩
  | .hbm, ⟨68, _⟩ => ⟨S1x8192x256, .f32⟩
  | .hbm, ⟨69, _⟩ => ⟨S1x8192x256, .f32⟩
  | .hbm, ⟨70, _⟩ => ⟨S1x8192x256, .f32⟩
  | .hbm, ⟨71, _⟩ => ⟨S1x8192x256, .f32⟩
  | .hbm, ⟨72, _⟩ => ⟨S1x8192x256, .f32⟩
  | .hbm, ⟨73, _⟩ => ⟨S1x8192x256, .f32⟩
  | .hbm, ⟨74, _⟩ => ⟨S1x16x256, .f32⟩
  | .hbm, ⟨75, _⟩ => ⟨S1x8176x256, .f32⟩
  | .hbm, ⟨76, _⟩ => ⟨S_, .f32⟩
  | .hbm, ⟨77, _⟩ => ⟨S1x8192x256, .f32⟩
  | .hbm, ⟨78, _⟩ => ⟨S1x8192x256, .f32⟩
  | .hbm, ⟨79, _⟩ => ⟨S_, .f32⟩
  | .hbm, ⟨80, _⟩ => ⟨S1x8192x1024, .f32⟩
  | .hbm, ⟨81, _⟩ => ⟨S1x8192x256, .f32⟩
  | .hbm, ⟨82, _⟩ => ⟨S1x8192x256, .f32⟩
  | .hbm, ⟨83, _⟩ => ⟨S1x8192x256, .f32⟩
  | .hbm, ⟨84, _⟩ => ⟨S1x8x256, .f32⟩
  | .hbm, ⟨85, _⟩ => ⟨S1x8184x256, .f32⟩
  | .hbm, ⟨86, _⟩ => ⟨S_, .f32⟩
  | .hbm, ⟨87, _⟩ => ⟨S1x8192x256, .f32⟩
  | .hbm, ⟨88, _⟩ => ⟨S1x8192x256, .f32⟩
  | .hbm, ⟨89, _⟩ => ⟨S_, .f32⟩
  | .hbm, ⟨90, _⟩ => ⟨S1x8192x1024, .f32⟩
  | .hbm, ⟨91, _⟩ => ⟨S1x8192x1024, .f32⟩
  | .hbm, ⟨92, _⟩ => ⟨S1x8192x256, .f32⟩
  | .hbm, ⟨93, _⟩ => ⟨S1x8192x256, .f32⟩
  | .hbm, ⟨94, _⟩ => ⟨S1x8192x256, .f32⟩
  | .hbm, ⟨95, _⟩ => ⟨S1x4x256, .f32⟩
  | .hbm, ⟨96, _⟩ => ⟨S1x8188x256, .f32⟩
  | .hbm, ⟨97, _⟩ => ⟨S_, .f32⟩
  | .hbm, ⟨98, _⟩ => ⟨S1x8192x256, .f32⟩
  | .hbm, ⟨99, _⟩ => ⟨S1x8192x256, .f32⟩
  | .hbm, ⟨100, _⟩ => ⟨S_, .f32⟩
  | .hbm, ⟨101, _⟩ => ⟨S1x8192x1024, .f32⟩
  | .hbm, ⟨102, _⟩ => ⟨S1x8192x1024, .f32⟩
  | .hbm, ⟨103, _⟩ => ⟨S1x8192x256, .f32⟩
  | .hbm, ⟨104, _⟩ => ⟨S1x8192x256, .f32⟩
  | .hbm, ⟨105, _⟩ => ⟨S1x8192x256, .f32⟩
  | .hbm, ⟨106, _⟩ => ⟨S1x2x256, .f32⟩
  | .hbm, ⟨107, _⟩ => ⟨S1x8190x256, .f32⟩
  | .hbm, ⟨108, _⟩ => ⟨S_, .f32⟩
  | .hbm, ⟨109, _⟩ => ⟨S1x8192x256, .f32⟩
  | .hbm, ⟨110, _⟩ => ⟨S1x8192x256, .f32⟩
  | .hbm, ⟨111, _⟩ => ⟨S_, .f32⟩
  | .hbm, ⟨112, _⟩ => ⟨S1x8192x1024, .f32⟩
  | .hbm, ⟨113, _⟩ => ⟨S1x8192x1024, .f32⟩
  | .hbm, ⟨114, _⟩ => ⟨S_, .f32⟩
  | .hbm, ⟨115, _⟩ => ⟨S_, .f32⟩
  | .hbm, ⟨116, _⟩ => ⟨S1x8192x1024, .f32⟩
  | .hbm, ⟨117, _⟩ => ⟨S1x8192x1024, .f32⟩
  | .hbm, ⟨118, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_call0_call0_cst : Ref sig .tc := ⟨.hbm, 3, rfl⟩
abbrev main_call0_call0_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_cst_9 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_10 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_11 : Ref sig .tc := ⟨.hbm, 55, rfl⟩
abbrev main_v40 : Ref sig .tc := ⟨.hbm, 56, rfl⟩
abbrev main_v41 : Ref sig .tc := ⟨.hbm, 57, rfl⟩
abbrev main_cst_12 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_13 : Ref sig .tc := ⟨.hbm, 76, rfl⟩
abbrev main_v59 : Ref sig .tc := ⟨.hbm, 77, rfl⟩
abbrev main_v60 : Ref sig .tc := ⟨.hbm, 78, rfl⟩
abbrev main_cst_14 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_15 : Ref sig .tc := ⟨.hbm, 86, rfl⟩
abbrev main_v67 : Ref sig .tc := ⟨.hbm, 87, rfl⟩
abbrev main_v68 : Ref sig .tc := ⟨.hbm, 88, rfl⟩
abbrev main_cst_16 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_17 : Ref sig .tc := ⟨.hbm, 97, rfl⟩
abbrev main_v76 : Ref sig .tc := ⟨.hbm, 98, rfl⟩
abbrev main_v77 : Ref sig .tc := ⟨.hbm, 99, rfl⟩
abbrev main_cst_18 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_cst_19 : Ref sig .tc := ⟨.hbm, 108, rfl⟩
abbrev main_v85 : Ref sig .tc := ⟨.hbm, 109, rfl⟩
abbrev main_v86 : Ref sig .tc := ⟨.hbm, 110, rfl⟩
abbrev main_cst_20 : Ref sig .tc := ⟨.hbm, 111, rfl⟩
abbrev main_v87 : Ref sig .tc := ⟨.hbm, 112, rfl⟩
abbrev main_v88 : Ref sig .tc := ⟨.hbm, 113, rfl⟩
abbrev main_call1_call0_cst : Ref sig .tc := ⟨.hbm, 114, rfl⟩
abbrev main_call1_call0_v0 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩

abbrev nD : Nat := 1
abbrev τ : Topo := Topo.v7x

variable {F : FTy → Type} [FloatOps F]
-- ==== Kernel2.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S_, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S8192x2816, .f32⟩
  | .hbm, ⟨8, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S8192x5632 : Shape := ⟨2, ![8192, 5632]⟩
abbrev S4x4x1024x1408 : Shape := ⟨4, ![4, 4, 1024, 1408]⟩
abbrev S8192x1024 : Shape := ⟨2, ![8192, 1024]⟩
abbrev S1024x1408 : Shape := ⟨2, ![1024, 1408]⟩
abbrev S1x1x1024x1408 : Shape := ⟨4, ![1, 1, 1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S4x4x1024x1408, .bf16⟩
  | .hbm, ⟨2, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x5632 : Shape := ⟨2, ![8192, 5632]⟩
abbrev S4x4x1024x1408 : Shape := ⟨4, ![4, 4, 1024, 1408]⟩
abbrev S_ : Shape := ⟨0, ![]⟩
abbrev S8192x1024 : Shape := ⟨2, ![8192, 1024]⟩
abbrev S4x1x1024x1408 : Shape := ⟨4, ![4, 1, 1024, 1408]⟩
abbrev S4x1024x1408 : Shape := ⟨3, ![4, 1024, 1408]⟩
abbrev S1024x4x1408 : Shape := ⟨3, ![1024, 4, 1408]⟩
abbrev S1024x5632 : Shape := ⟨2, ![1024, 5632]⟩

abbrev nBuf : Space → Nat
  | .hbm => 12
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S4x4x1024x1408, .bf16⟩
  | .hbm, ⟨2, _⟩ => ⟨S_, .f32⟩
  | .hbm, ⟨3, _⟩ => ⟨S8192x1024, .f32⟩
  | .hbm, ⟨4, _⟩ => ⟨S4x1x1024x1408, .bf16⟩
  | .hbm, ⟨5, _⟩ => ⟨S4x1024x1408, .bf16⟩
  | .hbm, ⟨6, _⟩ => ⟨S4x1024x1408, .f32⟩
  | .hbm, ⟨7, _⟩ => ⟨S1024x4x1408, .f32⟩
  | .hbm, ⟨8, _⟩ => ⟨S1024x5632, .f32⟩
  | .hbm, ⟨9, _⟩ => ⟨S8192x5632, .f32⟩
  | .hbm, ⟨10, _⟩ => ⟨S8192x5632, .f32⟩
  | .hbm, ⟨11, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S8192x1024 : Shape := ⟨2, ![8192, 1024]⟩
abbrev S8192x5632 : Shape := ⟨2, ![8192, 5632]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S4x1024x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S8192x5632 : Shape := ⟨2, ![8192, 5632]⟩
abbrev S_ : Shape := ⟨0, ![]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S5632x1024 : Shape := ⟨2, ![5632, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S_, .f32⟩
  | .hbm, ⟨3, _⟩ => ⟨S4x1024x1408, .f32⟩
  | .hbm, ⟨4, _⟩ => ⟨S8192x1024, .f32⟩
  | .hbm, ⟨5, _⟩ => ⟨S1024x4x1408, .f32⟩
  | .hbm, ⟨6, _⟩ => ⟨S1024x5632, .f32⟩
  | .hbm, ⟨7, _⟩ => ⟨S8192x5632, .f32⟩
  | .hbm, ⟨8, _⟩ => ⟨S8192x5632, .f32⟩
  | .hbm, ⟨9, _⟩ => ⟨S5632x1024, .f32⟩
  | .hbm, ⟨10, _⟩ => ⟨S1024x5632, .f32⟩
  | .hbm, ⟨11, _⟩ => ⟨S1024x4x1408, .f32⟩
  | .hbm, ⟨12, _⟩ => ⟨S4x1024x1408, .f32⟩
  | .hbm, ⟨13, _⟩ => ⟨S4x1024x1408, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel6.lean ====
abbrev S8192x1024 : Shape := ⟨2, ![8192, 1024]⟩
abbrev S4x4x1024x1408 : Shape := ⟨4, ![4, 4, 1024, 1408]⟩
abbrev S8192x5632 : Shape := ⟨2, ![8192, 5632]⟩
abbrev S1024x1024 : Shape := ⟨2, ![1024, 1024]⟩
abbrev S1x1x1024x1408 : Shape := ⟨4, ![1, 1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S4x4x1024x1408, .bf16⟩
  | .hbm, ⟨2, _⟩ => ⟨S8192x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1024x1408, .bf16⟩
  | .local _ .vmem, ⟨5, _⟩ => ⟨S1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, arg2.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S4x4x1024x1408 : Shape := ⟨4, ![4, 4, 1024, 1408]⟩
abbrev S4x1x1024x1408 : Shape := ⟨4, ![4, 1, 1024, 1408]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S8192x5632 : Shape := ⟨2, ![8192, 5632]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x4x1024x1408, .bf16⟩
  | .hbm, ⟨2, _⟩ => ⟨S8192x1024, .f32⟩
  | .hbm, ⟨3, _⟩ => ⟨S4x1x1024x1408, .bf16⟩
  | .hbm, ⟨4, _⟩ => ⟨S4x1024x1408, .bf16⟩
  | .hbm, ⟨5, _⟩ => ⟨S4x1024x1408, .f32⟩
  | .hbm, ⟨6, _⟩ => ⟨S1024x4x1408, .f32⟩
  | .hbm, ⟨7, _⟩ => ⟨S1024x5632, .f32⟩
  | .hbm, ⟨8, _⟩ => ⟨S8192x5632, .f32⟩
  | .hbm, ⟨9, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel7.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .bf16⟩
  | .local _ .vmem, ⟨4, _⟩ => ⟨S1024x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x2816, .f32⟩
  | .hbm, ⟨3, _⟩ => ⟨S2816x1024, .f32⟩
  | .hbm, ⟨4, _⟩ => ⟨S8192x1024, .f32⟩
  | .hbm, ⟨5, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel8.lean ====
abbrev S8192x1024 : Shape := ⟨2, ![8192, 1024]⟩
abbrev S1x1024 : Shape := ⟨2, ![1, 1024]⟩
abbrev S512x1024 : Shape := ⟨2, ![512, 1024]⟩
abbrev S8x1024 : Shape := ⟨2, ![8, 1024]⟩
abbrev S512 : Shape := ⟨1, ![512]⟩
abbrev S512x1 : Shape := ⟨2, ![512, 1]⟩
abbrev S64x8x1024 : Shape := ⟨3, ![64, 8, 1024]⟩
abbrev S1024 : Shape := ⟨1, ![1024]⟩

abbrev nBuf : Space → Nat
  | .hbm => 9
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S1x1024, .f32⟩
  | .hbm, ⟨7, _⟩ => ⟨S1x1024, .f32⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S8x1024, .f32⟩
  | .local _ .vmem, ⟨14, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v50 : BitVec 1 := Scalar.cmpi .eq arg0 c15_i32
  let v51 : BitVec 32 := Scalar.extui v50
  let c0_i32_27 : BitVec 32 := 0#32
  let v52 : BitVec 1 := Scalar.cmpi .ne v51 c0_i32_27
  v52

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference8Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 67
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S_, .f32⟩
  | .hbm, ⟨61, _⟩ => ⟨S8192, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Kernel9.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S512x1024 : Shape := ⟨2, ![512, 1024]⟩
abbrev S8x1024 : Shape := ⟨2, ![8, 1024]⟩
abbrev S512 : Shape := ⟨1, ![512]⟩
abbrev S512x1 : Shape := ⟨2, ![512, 1]⟩
abbrev S64x8x1024 : Shape := ⟨3, ![64, 8, 1024]⟩
abbrev S1024 : Shape := ⟨1, ![1024]⟩

abbrev nBuf : Space → Nat
  | .hbm => 35
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .bf16⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .bf16⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S8x1024, .f32⟩
  | .local _ .vmem, ⟨23, _⟩ => ⟨S8x1024, .f32⟩
  | .local _ .vmem, ⟨24, _⟩ => ⟨S8x1024, .f32⟩
  | .local _ .vmem, ⟨25, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev main_v16_2 : Ref sig .tc := ⟨.hbm, 29, rfl⟩
abbrev main_v16_3 : Ref sig .tc := ⟨.hbm, 30, rfl⟩
abbrev main_v16_4 : Ref sig .tc := ⟨.hbm, 31, rfl⟩
abbrev main_v16_5 : Ref sig .tc := ⟨.hbm, 32, rfl⟩
abbrev main_v16_6 : Ref sig .tc := ⟨.hbm, 33, rfl⟩
abbrev main_v16_7 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v95 : BitVec 1 := Scalar.cmpi .eq arg0 c15_i32
  let v96 : BitVec 32 := Scalar.extui v95
  let c0_i32_50 : BitVec 32 := 0#32
  let v97 : BitVec 1 := Scalar.cmpi .ne v96 c0_i32_50
  v97

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference9Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 129
  | .vmem => 0
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S1x1024, .f32⟩
  | 4 => ⟨S1x1024, .f32⟩
  | 5 => ⟨S8192x1024, .bf16⟩
  | 6 => ⟨S1x1024, .f32⟩
  | 7 => ⟨S1x1024, .f32⟩
  | 8 => ⟨S_, .f32⟩
  | 9 => ⟨S1x1024, .f32⟩
  | 10 => ⟨S8192x1024, .f32⟩
  | 11 => ⟨S8192x1024, .f32⟩
  | 12 => ⟨S8192x1024, .f32⟩
  | 13 => ⟨S8192x1024, .f32⟩
  | 14 => ⟨S_, .f32⟩
  | 15 => ⟨S8192, .f32⟩
  | 16 => ⟨S8192x1, .f32⟩
  | 17 => ⟨S_, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1, .f32⟩
  | 24 => ⟨S8192x1, .f32⟩
  | 25 => ⟨S_, .f32⟩
  | 26 => ⟨S8192x1, .f32⟩
  | 27 => ⟨S8192x1, .f32⟩
  | 28 => ⟨S8192x1024, .f32⟩
  | 29 => ⟨S8192x1024, .f32⟩
  | 30 => ⟨S8192x1024, .f32⟩
  | 31 => ⟨S8192x1024, .f32⟩
  | 32 => ⟨S8192x1024, .f32⟩
  | 33 => ⟨S8192x1024, .f32⟩
  | 34 => ⟨S8192x1024, .f32⟩
  | 35 => ⟨S8192x1024, .f32⟩
  | 36 => ⟨S_, .f32⟩
  | 37 => ⟨S8192, .f32⟩
  | 38 => ⟨S8192x1, .f32⟩
  | 39 => ⟨S_, .f32⟩
  | 40 => ⟨S8192x1, .f32⟩
  | 41 => ⟨S8192x1, .f32⟩
  | 42 => ⟨S_, .f32⟩
  | 43 => ⟨S8192x1, .f32⟩
  | 44 => ⟨S8192x1, .f32⟩
  | 45 => ⟨S8192x1, .f32⟩
  | 46 => ⟨S8192x1, .f32⟩
  | 47 => ⟨S_, .f32⟩
  | 48 => ⟨S8192x1, .f32⟩
  | 49 => ⟨S8192x1, .f32⟩
  | 50 => ⟨S8192x1024, .f32⟩
  | 51 => ⟨S8192x1024, .f32⟩
  | 52 => ⟨S8192x1024, .f32⟩
  | 53 => ⟨S8192x1024, .f32⟩
  | 54 => ⟨S_, .f32⟩
  | 55 => ⟨S1x1024, .f32⟩
  | 56 => ⟨S1x1024, .f32⟩
  | 57 => ⟨S8192x1024, .f32⟩
  | 58 => ⟨S8192x1024, .f32⟩
  | 59 => ⟨S8192x1024, .f32⟩
  | 60 => ⟨S8192x1024, .f32⟩
  | 61 => ⟨S8192x1024, .f32⟩
  | 62 => ⟨S_, .f32⟩
  | 63 => ⟨S1024, .f32⟩
  | 64 => ⟨S1x1024, .f32⟩
  | 65 => ⟨S8192x1024, .f32⟩
  | 66 => ⟨S_, .f32⟩
  | 67 => ⟨S1024, .f32⟩
  | 68 => ⟨S1x1024, .f32⟩
  | 69 => ⟨S8192x1024, .f32⟩
  | 70 => ⟨S8192x1024, .f32⟩
  | 71 => ⟨S8192x1024, .f32⟩
  | 72 => ⟨S_, .f32⟩
  | 73 => ⟨S1024, .f32⟩
  | 74 => ⟨S1x1024, .f32⟩
  | 75 => ⟨S8192x1024, .f32⟩
  | 76 => ⟨S8192x1024, .f32⟩
  | 77 => ⟨S8192x1024, .f32⟩
  | 78 => ⟨S_, .f32⟩
  | 79 => ⟨S8192, .f32⟩
  | 80 => ⟨S8192x1, .f32⟩
  | 81 => ⟨S8192x1024, .f32⟩
  | 82 => ⟨S8192x1024, .f32⟩
  | 83 => ⟨S8192x1024, .f32⟩
  | 84 => ⟨S8192x1, .f32⟩
  | 85 => ⟨S_, .f32⟩
  | 86 => ⟨S8192x1, .f32⟩
  | 87 => ⟨S8192x1, .f32⟩
  | 88 => ⟨S_, .f32⟩
  | 89 => ⟨S8192, .f32⟩
  | 90 => ⟨S8192x1024, .f32⟩
  | 91 => ⟨S8192x1024, .f32⟩
  | 92 => ⟨S8192x1024, .f32⟩
  | 93 => ⟨S8192x1024, .f32⟩
  | 94 => ⟨S8192x1024, .f32⟩
  | 95 => ⟨S8192x1024, .f32⟩
  | 96 => ⟨S8192x1024, .f32⟩
  | 97 => ⟨S8192x1024, .f32⟩
  | 98 => ⟨S8192x1024, .f32⟩
  | 99 => ⟨S_, .f32⟩
  | 100 => ⟨S1024, .f32⟩
  | 101 => ⟨S1x1024, .f32⟩
  | 102 => ⟨S8192x1024, .f32⟩
  | 103 => ⟨S_, .f32⟩
  | 104 => ⟨S1024, .f32⟩
  | 105 => ⟨S1x1024, .f32⟩
  | 106 => ⟨S8192x1024, .f32⟩
  | 107 => ⟨S8192x1024, .f32⟩
  | 108 => ⟨S8192x1024, .f32⟩
  | 109 => ⟨S_, .f32⟩
  | 110 => ⟨S8192, .f32⟩
  | 111 => ⟨S8192x1, .f32⟩
  | 112 => ⟨S8192x1024, .f32⟩
  | 113 => ⟨S8192x1024, .f32⟩
  | 114 => ⟨S8192x1, .f32⟩
  | 115 => ⟨S_, .f32⟩
  | 116 => ⟨S8192x1, .f32⟩
  | 117 => ⟨S8192x1, .f32⟩
  | 118 => ⟨S_, .f32⟩
  | 119 => ⟨S8192, .f32⟩
  | 120 => ⟨S8192x1024, .f32⟩
  | 121 => ⟨S8192x1024, .f32⟩
  | 122 => ⟨S8192x1024, .f32⟩
  | 123 => ⟨S8192x1024, .f32⟩
  | 124 => ⟨S8192x1024, .f32⟩
  | 125 => ⟨S_, .f32⟩
  | 126 => ⟨S1024, .f32⟩
  | 127 => ⟨S1x1024, .f32⟩
  | _ => ⟨S8192x1024, .f32⟩

abbrev hbmTy0_1 (i : Nat) : BufTy := match i % 128 with
  | 0 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_10 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_11 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_12 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_13 : Ref sig .tc := ⟨.hbm, 85, rfl⟩
abbrev main_v63 : Ref sig .tc := ⟨.hbm, 86, rfl⟩
abbrev main_v64 : Ref sig .tc := ⟨.hbm, 87, rfl⟩
abbrev main_cst_14 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_15 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_16 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_17 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_cst_18 : Ref sig .tc := ⟨.hbm, 115, rfl⟩
abbrev main_v88 : Ref sig .tc := ⟨.hbm, 116, rfl⟩
abbrev main_v89 : Ref sig .tc := ⟨.hbm, 117, rfl⟩
abbrev main_cst_19 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_cst_20 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S8192x2048 : Shape := ⟨2, ![8192, 2048]⟩
abbrev S4x2x1024x512 : Shape := ⟨4, ![4, 2, 1024, 512]⟩
abbrev S8192x1024 : Shape := ⟨2, ![8192, 1024]⟩
abbrev S1024x512 : Shape := ⟨2, ![1024, 512]⟩
abbrev S1x1x1024x512 : Shape := ⟨4, ![1, 1, 1024, 512]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x2x1024x512, .bf16⟩
  | .hbm, ⟨2, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S1x1x1024x512, .bf16⟩
  | .local _ .vmem, ⟨3, _⟩ => ⟨S1x1x1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel12Ideal.lean ====
abbrev S8192x2048 : Shape := ⟨2, ![8192, 2048]⟩
abbrev S4x2x1024x512 : Shape := ⟨4, ![4, 2, 1024, 512]⟩
abbrev S8192x1024 : Shape := ⟨2, ![8192, 1024]⟩
abbrev S1024x512 : Shape := ⟨2, ![1024, 512]⟩
abbrev S1x1x1024x512 : Shape := ⟨4, ![1, 1, 1024, 512]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x2x1024x512, .bf16⟩
  | .hbm, ⟨2, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S1x1x1024x512, .bf16⟩
  | .local _ .vmem, ⟨3, _⟩ => ⟨S1x1x1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x2048 : Shape := ⟨2, ![8192, 2048]⟩
abbrev S4x2x1024x512 : Shape := ⟨4, ![4, 2, 1024, 512]⟩
abbrev S_ : Shape := ⟨0, ![]⟩
abbrev S8192x1024 : Shape := ⟨2, ![8192, 1024]⟩
abbrev S4x1x1024x512 : Shape := ⟨4, ![4, 1, 1024, 512]⟩
abbrev S4x1024x512 : Shape := ⟨3, ![4, 1024, 512]⟩
abbrev S1024x4x512 : Shape := ⟨3, ![1024, 4, 512]⟩
abbrev S1024x2048 : Shape := ⟨2, ![1024, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2x1024x512, .bf16⟩
  | .hbm, ⟨2, _⟩ => ⟨S_, .f32⟩
  | .hbm, ⟨3, _⟩ => ⟨S8192x1024, .f32⟩
  | .hbm, ⟨4, _⟩ => ⟨S4x1x1024x512, .bf16⟩
  | .hbm, ⟨5, _⟩ => ⟨S4x1024x512, .bf16⟩
  | .hbm, ⟨6, _⟩ => ⟨S4x1024x512, .f32⟩
  | .hbm, ⟨7, _⟩ => ⟨S1024x4x512, .f32⟩
  | .hbm, ⟨8, _⟩ => ⟨S1024x2048, .f32⟩
  | .hbm, ⟨9, _⟩ => ⟨S8192x2048, .f32⟩
  | .hbm, ⟨10, _⟩ => ⟨S8192x2048, .f32⟩
  | .hbm, ⟨11, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel13.lean ====
abbrev S8192x1024 : Shape := ⟨2, ![8192, 1024]⟩
abbrev S8192x2048 : Shape := ⟨2, ![8192, 2048]⟩
abbrev S4x1024x512 : Shape := ⟨3, ![4, 1024, 512]⟩
abbrev S2048x1024 : Shape := ⟨2, ![2048, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S4x1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel13Ideal.lean ====
abbrev S8192x1024 : Shape := ⟨2, ![8192, 1024]⟩
abbrev S8192x2048 : Shape := ⟨2, ![8192, 2048]⟩
abbrev S4x1024x512 : Shape := ⟨3, ![4, 1024, 512]⟩
abbrev S2048x1024 : Shape := ⟨2, ![2048, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S4x1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S8192x2048 : Shape := ⟨2, ![8192, 2048]⟩
abbrev S_ : Shape := ⟨0, ![]⟩
abbrev S4x1024x512 : Shape := ⟨3, ![4, 1024, 512]⟩
abbrev S1024x4x512 : Shape := ⟨3, ![1024, 4, 512]⟩
abbrev S1024x2048 : Shape := ⟨2, ![1024, 2048]⟩
abbrev S2048x1024 : Shape := ⟨2, ![2048, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S4x1024x512, .f32⟩
  | .hbm, ⟨4, _⟩ => ⟨S8192x1024, .f32⟩
  | .hbm, ⟨5, _⟩ => ⟨S1024x4x512, .f32⟩
  | .hbm, ⟨6, _⟩ => ⟨S1024x2048, .f32⟩
  | .hbm, ⟨7, _⟩ => ⟨S8192x2048, .f32⟩
  | .hbm, ⟨8, _⟩ => ⟨S8192x2048, .f32⟩
  | .hbm, ⟨9, _⟩ => ⟨S2048x1024, .f32⟩
  | .hbm, ⟨10, _⟩ => ⟨S1024x2048, .f32⟩
  | .hbm, ⟨11, _⟩ => ⟨S1024x4x512, .f32⟩
  | .hbm, ⟨12, _⟩ => ⟨S4x1024x512, .f32⟩
  | .hbm, ⟨13, _⟩ => ⟨S4x1024x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel14.lean ====
abbrev S8192x3072 : Shape := ⟨2, ![8192, 3072]⟩
abbrev S4x1x1024x768 : Shape := ⟨4, ![4, 1, 1024, 768]⟩
abbrev S8192x1024 : Shape := ⟨2, ![8192, 1024]⟩
abbrev S1024x768 : Shape := ⟨2, ![1024, 768]⟩
abbrev S1x1x1024x768 : Shape := ⟨4, ![1, 1, 1024, 768]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S4x1x1024x768, .bf16⟩
  | .hbm, ⟨2, _⟩ => ⟨S8192x1024, .f32⟩
  | .local _ .vmem, ⟨0, _⟩ => ⟨S1024x768, .bf16⟩
  | .local _ .vmem, ⟨1, _⟩ => ⟨S1024x768, .bf16⟩
  | .local _ .vmem, ⟨2, _⟩ => ⟨S1x1x1024x768, .bf16⟩
  | .local _ .vmem, ⟨3, _⟩ => ⟨S1x1x1024x768, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x3072 : Shape := ⟨2, ![8192, 3072]⟩
abbrev S4x1x1024x768 : Shape := ⟨4, ![4, 1, 1024, 768]⟩
abbrev S_ : Shape := ⟨0, ![]⟩
abbrev S8192x1024 : Shape := ⟨2, ![8192, 1024]⟩
abbrev S4x1024x768 : Shape := ⟨3, ![4, 1024, 768]⟩
abbrev S1024x4x768 : Shape := ⟨3, ![1024, 4, 768]⟩
abbrev S1024x3072 : Shape := ⟨2, ![1024, 3072]⟩

abbrev nBuf : Space → Nat
  | .hbm => 11
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S4x1x1024x768, .bf16⟩
  | .hbm, ⟨2, _⟩ => ⟨S_, .f32⟩
  | .hbm, ⟨3, _⟩ => ⟨S8192x1024, .f32⟩
  | .hbm, ⟨4, _⟩ => ⟨S4x1024x768, .bf16⟩
  | .hbm, ⟨5, _⟩ => ⟨S4x1024x768, .f32⟩
  | .hbm, ⟨6, _⟩ => ⟨S1024x4x768, .f32⟩
  | .hbm, ⟨7, _⟩ => ⟨S1024x3072, .f32⟩
  | .hbm, ⟨8, _⟩ => ⟨S8192x3072, .f32⟩
  | .hbm, ⟨9, _⟩ => ⟨S8192x3072, .f32⟩
  | .hbm, ⟨10, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel15.lean ====
abbrev S8192x1024 : Shape := ⟨2, ![8192, 1024]⟩
abbrev S8192x3072 : Shape := ⟨2, ![8192, 3072]⟩
abbrev S4x1024x768 : Shape := ⟨3, ![4, 1024, 768]⟩
abbrev S2048x1024 : Shape := ⟨2, ![2048, 1024]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S4x1024x768, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x1024 : Shape := ⟨2, ![8192, 1024]⟩
abbrev S8192x3072 : Shape := ⟨2, ![8192, 3072]⟩
abbrev S_ : Shape := ⟨0, ![]⟩
abbrev S4x1024x768 : Shape := ⟨3, ![4, 1024, 768]⟩
abbrev S1024x4x768 : Shape := ⟨3, ![1024, 4, 768]⟩
abbrev S1024x3072 : Shape := ⟨2, ![1024, 3072]⟩
abbrev S3072x1024 : Shape := ⟨2, ![3072, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S_, .f32⟩
  | .hbm, ⟨3, _⟩ => ⟨S4x1024x768, .f32⟩
  | .hbm, ⟨4, _⟩ => ⟨S8192x1024, .f32⟩
  | .hbm, ⟨5, _⟩ => ⟨S1024x4x768, .f32⟩
  | .hbm, ⟨6, _⟩ => ⟨S1024x3072, .f32⟩
  | .hbm, ⟨7, _⟩ => ⟨S8192x3072, .f32⟩
  | .hbm, ⟨8, _⟩ => ⟨S8192x3072, .f32⟩
  | .hbm, ⟨9, _⟩ => ⟨S3072x1024, .f32⟩
  | .hbm, ⟨10, _⟩ => ⟨S1024x3072, .f32⟩
  | .hbm, ⟨11, _⟩ => ⟨S1024x4x768, .f32⟩
  | .hbm, ⟨12, _⟩ => ⟨S4x1024x768, .f32⟩
  | .hbm, ⟨13, _⟩ => ⟨S4x1024x768, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel16.lean ====
abbrev S8192x1024 : Shape := ⟨2, ![8192, 1024]⟩
abbrev S4x2x1024x512 : Shape := ⟨4, ![4, 2, 1024, 512]⟩
abbrev S8192x2048 : Shape := ⟨2, ![8192, 2048]⟩
abbrev S1024x1024 : Shape := ⟨2, ![1024, 1024]⟩
abbrev S1x1x1024x512 : Shape := ⟨4, ![1, 1, 1024, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S4x2x1024x512, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x512, .bf16⟩
  | .local _ .vmem, ⟨3, _⟩ => ⟨S1x1x1024x512, .bf16⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, arg2.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel16Ideal.lean ====
abbrev S8192x1024 : Shape := ⟨2, ![8192, 1024]⟩
abbrev S4x2x1024x512 : Shape := ⟨4, ![4, 2, 1024, 512]⟩
abbrev S8192x2048 : Shape := ⟨2, ![8192, 2048]⟩
abbrev S1024x1024 : Shape := ⟨2, ![1024, 1024]⟩
abbrev S1x1x1024x512 : Shape := ⟨4, ![1, 1, 1024, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S4x2x1024x512, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x512, .bf16⟩
  | .local _ .vmem, ⟨3, _⟩ => ⟨S1x1x1024x512, .bf16⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, arg2.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x1024 : Shape := ⟨2, ![8192, 1024]⟩
abbrev S4x2x1024x512 : Shape := ⟨4, ![4, 2, 1024, 512]⟩
abbrev S4x1x1024x512 : Shape := ⟨4, ![4, 1, 1024, 512]⟩
abbrev S4x1024x512 : Shape := ⟨3, ![4, 1024, 512]⟩
abbrev S1024x4x512 : Shape := ⟨3, ![1024, 4, 512]⟩
abbrev S1024x2048 : Shape := ⟨2, ![1024, 2048]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x2x1024x512, .bf16⟩
  | .hbm, ⟨2, _⟩ => ⟨S8192x1024, .f32⟩
  | .hbm, ⟨3, _⟩ => ⟨S4x1x1024x512, .bf16⟩
  | .hbm, ⟨4, _⟩ => ⟨S4x1024x512, .bf16⟩
  | .hbm, ⟨5, _⟩ => ⟨S4x1024x512, .f32⟩
  | .hbm, ⟨6, _⟩ => ⟨S1024x4x512, .f32⟩
  | .hbm, ⟨7, _⟩ => ⟨S1024x2048, .f32⟩
  | .hbm, ⟨8, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel17.lean ====
abbrev S8192x1024 : Shape := ⟨2, ![8192, 1024]⟩
abbrev S1024x1024 : Shape := ⟨2, ![1024, 1024]⟩
abbrev S1x1024 : Shape := ⟨2, ![1, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1x1024, .f32⟩
  | .hbm, ⟨3, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference17Ideal.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel18.lean ====
abbrev S8192x1024 : Shape := ⟨2, ![8192, 1024]⟩
abbrev S4x1x1024x768 : Shape := ⟨4, ![4, 1, 1024, 768]⟩
abbrev S8192x3072 : Shape := ⟨2, ![8192, 3072]⟩
abbrev S1024x1024 : Shape := ⟨2, ![1024, 1024]⟩
abbrev S1x1x1024x768 : Shape := ⟨4, ![1, 1, 1024, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S4x1x1024x768, .bf16⟩
  | .hbm, ⟨2, _⟩ => ⟨S8192x3072, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x768, .bf16⟩
  | .local _ .vmem, ⟨3, _⟩ => ⟨S1x1x1024x768, .bf16⟩
  | .local _ .vmem, ⟨4, _⟩ => ⟨S1024x768, .f32⟩
  | .local _ .vmem, ⟨5, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, arg2.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8192x1024 : Shape := ⟨2, ![8192, 1024]⟩
abbrev S4x1x1024x768 : Shape := ⟨4, ![4, 1, 1024, 768]⟩
abbrev S4x1024x768 : Shape := ⟨3, ![4, 1024, 768]⟩
abbrev S1024x4x768 : Shape := ⟨3, ![1024, 4, 768]⟩
abbrev S1024x3072 : Shape := ⟨2, ![1024, 3072]⟩
abbrev S8192x3072 : Shape := ⟨2, ![8192, 3072]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x1x1024x768, .bf16⟩
  | .hbm, ⟨2, _⟩ => ⟨S8192x1024, .f32⟩
  | .hbm, ⟨3, _⟩ => ⟨S4x1024x768, .bf16⟩
  | .hbm, ⟨4, _⟩ => ⟨S4x1024x768, .f32⟩
  | .hbm, ⟨5, _⟩ => ⟨S1024x4x768, .f32⟩
  | .hbm, ⟨6, _⟩ => ⟨S1024x3072, .f32⟩
  | .hbm, ⟨7, _⟩ => ⟨S8192x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel19.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel20.lean ====
abbrev S8192x1024 : Shape := ⟨2, ![8192, 1024]⟩
abbrev S4x256x256 : Shape := ⟨3, ![4, 256, 256]⟩
abbrev S2048x256 : Shape := ⟨2, ![2048, 256]⟩
abbrev S1x256x256 : Shape := ⟨3, ![1, 256, 256]⟩
abbrev S256x256 : Shape := ⟨2, ![256, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S4x256x256, .bf16⟩
  | .hbm, ⟨2, _⟩ => ⟨S8192x1024, .f32⟩
  | .local _ .vmem, ⟨0, _⟩ => ⟨S2048x256, .bf16⟩
  | .local _ .vmem, ⟨1, _⟩ => ⟨S2048x256, .bf16⟩
  | .local _ .vmem, ⟨2, _⟩ => ⟨S1x256x256, .bf16⟩
  | .local _ .vmem, ⟨3, _⟩ => ⟨S1x256x256, .bf16⟩
  | .local _ .vmem, ⟨4, _⟩ => ⟨S2048x256, .f32⟩
  | .local _ .vmem, ⟨5, _⟩ => ⟨S2048x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference20Ideal.lean ====
abbrev S8192x1024 : Shape := ⟨2, ![8192, 1024]⟩
abbrev S4x256x256 : Shape := ⟨3, ![4, 256, 256]⟩
abbrev S_ : Shape := ⟨0, ![]⟩
abbrev S1x8192x1024 : Shape := ⟨3, ![1, 8192, 1024]⟩
abbrev S1x8192x4x256 : Shape := ⟨4, ![1, 8192, 4, 256]⟩
abbrev S4x256x1x8192 : Shape := ⟨4, ![4, 256, 1, 8192]⟩
abbrev S4x1x8192x256 : Shape := ⟨4, ![4, 1, 8192, 256]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x256x256, .bf16⟩
  | .hbm, ⟨2, _⟩ => ⟨S_, .f32⟩
  | .hbm, ⟨3, _⟩ => ⟨S1x8192x1024, .f32⟩
  | .hbm, ⟨4, _⟩ => ⟨S4x256x256, .f32⟩
  | .hbm, ⟨5, _⟩ => ⟨S1x8192x4x256, .f32⟩
  | .hbm, ⟨6, _⟩ => ⟨S4x256x1x8192, .f32⟩
  | .hbm, ⟨7, _⟩ => ⟨S1x8192x4x256, .f32⟩
  | .hbm, ⟨8, _⟩ => ⟨S1x8192x1024, .f32⟩
  | .hbm, ⟨9, _⟩ => ⟨S8192x1024, .f32⟩
  | .hbm, ⟨10, _⟩ => ⟨S1x8192x1024, .f32⟩
  | .hbm, ⟨11, _⟩ => ⟨S1x8192x4x256, .f32⟩
  | .hbm, ⟨12, _⟩ => ⟨S4x256x1x8192, .f32⟩
  | .hbm, ⟨13, _⟩ => ⟨S4x1x8192x256, .f32⟩
  | .hbm, ⟨14, _⟩ => ⟨S1x8192x4x256, .f32⟩
  | .hbm, ⟨15, _⟩ => ⟨S1x8192x1024, .f32⟩
  | .hbm, ⟨16, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel21.lean ====
abbrev S8192x1024 : Shape := ⟨2, ![8192, 1024]⟩
abbrev S4x256x256 : Shape := ⟨3, ![4, 256, 256]⟩
abbrev S2048x256 : Shape := ⟨2, ![2048, 256]⟩
abbrev S1x256x256 : Shape := ⟨3, ![1, 256, 256]⟩
abbrev S256x256 : Shape := ⟨2, ![256, 256]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S4x256x256, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S1x256x256, .bf16⟩
  | .local _ .vmem, ⟨5, _⟩ => ⟨S1x256x256, .bf16⟩
  | .local _ .vmem, ⟨6, _⟩ => ⟨S256x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference21Ideal.lean ====
abbrev S8192x1024 : Shape := ⟨2, ![8192, 1024]⟩
abbrev S_ : Shape := ⟨0, ![]⟩
abbrev S4x256x256 : Shape := ⟨3, ![4, 256, 256]⟩
abbrev S1x8192x1024 : Shape := ⟨3, ![1, 8192, 1024]⟩
abbrev S1x8192x4x256 : Shape := ⟨4, ![1, 8192, 4, 256]⟩
abbrev S4x256x1x8192 : Shape := ⟨4, ![4, 256, 1, 8192]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S4x256x256, .f32⟩
  | .hbm, ⟨4, _⟩ => ⟨S8192x1024, .f32⟩
  | .hbm, ⟨5, _⟩ => ⟨S1x8192x1024, .f32⟩
  | .hbm, ⟨6, _⟩ => ⟨S1x8192x4x256, .f32⟩
  | .hbm, ⟨7, _⟩ => ⟨S4x256x1x8192, .f32⟩
  | .hbm, ⟨8, _⟩ => ⟨S1x8192x4x256, .f32⟩
  | .hbm, ⟨9, _⟩ => ⟨S1x8192x1024, .f32⟩
  | .hbm, ⟨10, _⟩ => ⟨S8192x1024, .f32⟩
  | .hbm, ⟨11, _⟩ => ⟨S1x8192x1024, .f32⟩
  | .hbm, ⟨12, _⟩ => ⟨S1x8192x4x256, .f32⟩
  | .hbm, ⟨13, _⟩ => ⟨S4x256x1x8192, .f32⟩
  | .hbm, ⟨14, _⟩ => ⟨S4x256x256, .f32⟩
  | .hbm, ⟨15, _⟩ => ⟨S4x256x256, .f32⟩
  | .hbm, ⟨16, _⟩ => ⟨S4x256x256, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel22.lean ====
abbrev S8192x1024 : Shape := ⟨2, ![8192, 1024]⟩
abbrev S4x256x256 : Shape := ⟨3, ![4, 256, 256]⟩
abbrev S2048x256 : Shape := ⟨2, ![2048, 256]⟩
abbrev S1x256x256 : Shape := ⟨3, ![1, 256, 256]⟩
abbrev S256x256 : Shape := ⟨2, ![256, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S4x256x256, .bf16⟩
  | .hbm, ⟨2, _⟩ => ⟨S8192x1024, .f32⟩
  | .local _ .vmem, ⟨0, _⟩ => ⟨S2048x256, .bf16⟩
  | .local _ .vmem, ⟨1, _⟩ => ⟨S2048x256, .bf16⟩
  | .local _ .vmem, ⟨2, _⟩ => ⟨S1x256x256, .bf16⟩
  | .local _ .vmem, ⟨3, _⟩ => ⟨S1x256x256, .bf16⟩
  | .local _ .vmem, ⟨4, _⟩ => ⟨S2048x256, .f32⟩
  | .local _ .vmem, ⟨5, _⟩ => ⟨S2048x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference22Ideal.lean ====
abbrev S8192x1024 : Shape := ⟨2, ![8192, 1024]⟩
abbrev S4x256x256 : Shape := ⟨3, ![4, 256, 256]⟩
abbrev S1x8192x1024 : Shape := ⟨3, ![1, 8192, 1024]⟩
abbrev S1x8192x4x256 : Shape := ⟨4, ![1, 8192, 4, 256]⟩
abbrev S4x256x1x8192 : Shape := ⟨4, ![4, 256, 1, 8192]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x256x256, .bf16⟩
  | .hbm, ⟨2, _⟩ => ⟨S8192x1024, .f32⟩
  | .hbm, ⟨3, _⟩ => ⟨S1x8192x1024, .f32⟩
  | .hbm, ⟨4, _⟩ => ⟨S4x256x256, .f32⟩
  | .hbm, ⟨5, _⟩ => ⟨S1x8192x4x256, .f32⟩
  | .hbm, ⟨6, _⟩ => ⟨S4x256x1x8192, .f32⟩
  | .hbm, ⟨7, _⟩ => ⟨S1x8192x4x256, .f32⟩
  | .hbm, ⟨8, _⟩ => ⟨S1x8192x1024, .f32⟩
  | .hbm, ⟨9, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel23.lean ====
abbrev S8192x1024 : Shape := ⟨2, ![8192, 1024]⟩
abbrev S1x1024 : Shape := ⟨2, ![1, 1024]⟩
abbrev S512x1024 : Shape := ⟨2, ![512, 1024]⟩
abbrev S8x1024 : Shape := ⟨2, ![8, 1024]⟩
abbrev S64x8x1024 : Shape := ⟨3, ![64, 8, 1024]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .bf16⟩
  | .hbm, ⟨5, _⟩ => ⟨S1x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S8x1024, .f32⟩
  | .local _ .vmem, ⟨11, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v28 : BitVec 1 := Scalar.cmpi .eq arg0 c15_i32
  let v29 : BitVec 32 := Scalar.extui v28
  let c0_i32_19 : BitVec 32 := 0#32
  let v30 : BitVec 1 := Scalar.cmpi .ne v29 c0_i32_19
  v30

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference23Ideal.lean ====
abbrev S8192x1024 : Shape := ⟨2, ![8192, 1024]⟩
abbrev S1x1024 : Shape := ⟨2, ![1, 1024]⟩
abbrev S_ : Shape := ⟨0, ![]⟩
abbrev S1024 : Shape := ⟨1, ![1024]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S1024, .f32⟩
  | .hbm, ⟨16, _⟩ => ⟨S1x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Kernel24.lean ====
abbrev S8192x1024 : Shape := ⟨2, ![8192, 1024]⟩
abbrev S1x1024 : Shape := ⟨2, ![1, 1024]⟩
abbrev S1x1 : Shape := ⟨2, ![1, 1]⟩
abbrev S512x1024 : Shape := ⟨2, ![512, 1024]⟩
abbrev S8x1024 : Shape := ⟨2, ![8, 1024]⟩
abbrev S512 : Shape := ⟨1, ![512]⟩
abbrev S512x1 : Shape := ⟨2, ![512, 1]⟩
abbrev S64x8x1024 : Shape := ⟨3, ![64, 8, 1024]⟩
abbrev S1024 : Shape := ⟨1, ![1024]⟩
abbrev S1 : Shape := ⟨1, ![1]⟩

abbrev nBuf : Space → Nat
  | .hbm => 11
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1, .f32⟩
  | .local _ .vmem, ⟨16, _⟩ => ⟨S8x1024, .f32⟩
  | .local _ .vmem, ⟨17, _⟩ => ⟨S8x1024, .f32⟩
  | .local _ .vmem, ⟨18, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v66 : BitVec 1 := Scalar.cmpi .eq arg0 c15_i32
  let v67 : BitVec 32 := Scalar.extui v66
  let c0_i32_34 : BitVec 32 := 0#32
  let v68 : BitVec 1 := Scalar.cmpi .ne v67 c0_i32_34
  v68

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference24Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x1 : Shape := ⟨2, ![1, 1]⟩

abbrev nBuf : Space → Nat
  | .hbm => 89
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S8192, .f32⟩
  | .hbm, ⟨50, _⟩ => ⟨S_, .f32⟩
  | .hbm, ⟨51, _⟩ => ⟨S8192, .f32⟩
  | .hbm, ⟨52, _⟩ => ⟨S8192, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S8192x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S8192, .f32⟩
  | .hbm, ⟨70, _⟩ => ⟨S8192x1, .f32⟩
  | .hbm, ⟨71, _⟩ => ⟨S8192x1024, .f32⟩
  | .hbm, ⟨72, _⟩ => ⟨S8192x1024, .f32⟩
  | .hbm, ⟨73, _⟩ => ⟨S8192x1, .f32⟩
  | .hbm, ⟨74, _⟩ => ⟨S_, .f32⟩
  | .hbm, ⟨75, _⟩ => ⟨S8192x1, .f32⟩
  | .hbm, ⟨76, _⟩ => ⟨S8192x1, .f32⟩
  | .hbm, ⟨77, _⟩ => ⟨S_, .f32⟩
  | .hbm, ⟨78, _⟩ => ⟨S8192, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S_, .f32⟩
  | .hbm, ⟨85, _⟩ => ⟨S1024, .f32⟩
  | .hbm, ⟨86, _⟩ => ⟨S1x1024, .f32⟩
  | .hbm, ⟨87, _⟩ => ⟨S8192x1024, .bf16⟩
  | .hbm, ⟨88, _⟩ => ⟨S1x1, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_cst_9 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_cst_11 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_14 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_15 : Ref sig .tc := ⟨.hbm, 74, rfl⟩
abbrev main_v53 : Ref sig .tc := ⟨.hbm, 75, rfl⟩
abbrev main_v54 : Ref sig .tc := ⟨.hbm, 76, rfl⟩
abbrev main_cst_16 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_17 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]
-- ==== Kernel25.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference25Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel26.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference26Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 49
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S1x1024, .f32⟩
  | .hbm, ⟨43, _⟩ => ⟨S1x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== Kernel27.lean ====
abbrev S8192x1024 : Shape := ⟨2, ![8192, 1024]⟩
abbrev S1x1024 : Shape := ⟨2, ![1, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference27Ideal.lean ====
abbrev S8192x1024 : Shape := ⟨2, ![8192, 1024]⟩
abbrev S1x1024 : Shape := ⟨2, ![1, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel28.lean ====
abbrev S8192x1024 : Shape := ⟨2, ![8192, 1024]⟩
abbrev S256x1024 : Shape := ⟨2, ![256, 1024]⟩
abbrev S16x1024 : Shape := ⟨2, ![16, 1024]⟩
abbrev S272x1024 : Shape := ⟨2, ![272, 1024]⟩
abbrev S272x256 : Shape := ⟨2, ![272, 256]⟩
abbrev S256x256 : Shape := ⟨2, ![256, 256]⟩
abbrev S256x1 : Shape := ⟨2, ![256, 1]⟩

abbrev nBuf : Space → Nat
  | .hbm => 2
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S16x1024, .f32⟩
  | .local _ .vmem, ⟨3, _⟩ => ⟨S16x1024, .f32⟩
  | .local _ .vmem, ⟨4, _⟩ => ⟨S256x1024, .bf16⟩
  | .local _ .vmem, ⟨5, _⟩ => ⟨S256x1024, .bf16⟩
  | .local _ .vmem, ⟨6, _⟩ => ⟨S272x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference28Ideal.lean ====
abbrev S8192x1024 : Shape := ⟨2, ![8192, 1024]⟩
abbrev S1x8192x1024 : Shape := ⟨3, ![1, 8192, 1024]⟩
abbrev S_ : Shape := ⟨0, ![]⟩
abbrev S8192 : Shape := ⟨1, ![8192]⟩
abbrev S1x8192x1 : Shape := ⟨3, ![1, 8192, 1]⟩
abbrev S1x8192x256 : Shape := ⟨3, ![1, 8192, 256]⟩
abbrev S1x8194x256 : Shape := ⟨3, ![1, 8194, 256]⟩
abbrev S1x8196x256 : Shape := ⟨3, ![1, 8196, 256]⟩
abbrev S1x8200x256 : Shape := ⟨3, ![1, 8200, 256]⟩
abbrev S1x8208x256 : Shape := ⟨3, ![1, 8208, 256]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x8192x1024, .f32⟩
  | .hbm, ⟨2, _⟩ => ⟨S_, .f32⟩
  | .hbm, ⟨3, _⟩ => ⟨S_, .f32⟩
  | .hbm, ⟨4, _⟩ => ⟨S1x8192x1024, .f32⟩
  | .hbm, ⟨5, _⟩ => ⟨S8192, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S1x8192x1, .f32⟩
  | .hbm, ⟨10, _⟩ => ⟨S1x8192x256, .f32⟩
  | .hbm, ⟨11, _⟩ => ⟨S_, .i32⟩
  | .hbm, ⟨12, _⟩ => ⟨S_, .f32⟩
  | .hbm, ⟨13, _⟩ => ⟨S1x8194x256, .f32⟩
  | .hbm, ⟨14, _⟩ => ⟨S1x8192x256, .f32⟩
  | .hbm, ⟨15, _⟩ => ⟨S1x8192x256, .f32⟩
  | .hbm, ⟨16, _⟩ => ⟨S_, .f32⟩
  | .hbm, ⟨17, _⟩ => ⟨S1x8192x1, .f32⟩
  | .hbm, ⟨18, _⟩ => ⟨S1x8192x1, .f32⟩
  | .hbm, ⟨19, _⟩ => ⟨S1x8192x256, .f32⟩
  | .hbm, ⟨20, _⟩ => ⟨S1x8192x256, .f32⟩
  | .hbm, ⟨21, _⟩ => ⟨S1x8192x256, .f32⟩
  | .hbm, ⟨22, _⟩ => ⟨S_, .i32⟩
  | .hbm, ⟨23, _⟩ => ⟨S_, .f32⟩
  | .hbm, ⟨24, _⟩ => ⟨S1x8196x256, .f32⟩
  | .hbm, ⟨25, _⟩ => ⟨S1x8192x256, .f32⟩
  | .hbm, ⟨26, _⟩ => ⟨S1x8192x256, .f32⟩
  | .hbm, ⟨27, _⟩ => ⟨S_, .f32⟩
  | .hbm, ⟨28, _⟩ => ⟨S1x8192x1, .f32⟩
  | .hbm, ⟨29, _⟩ => ⟨S1x8192x1, .f32⟩
  | .hbm, ⟨30, _⟩ => ⟨S1x8192x256, .f32⟩
  | .hbm, ⟨31, _⟩ => ⟨S1x8192x256, .f32⟩
  | .hbm, ⟨32, _⟩ => ⟨S1x8192x256, .f32⟩
  | .hbm, ⟨33, _⟩ => ⟨S_, .i32⟩
  | .hbm, ⟨34, _⟩ => ⟨S_, .f32⟩
  | .hbm, ⟨35, _⟩ => ⟨S1x8200x256, .f32⟩
  | .hbm, ⟨36, _⟩ => ⟨S1x8192x256, .f32⟩
  | .hbm, ⟨37, _⟩ => ⟨S1x8192x256, .f32⟩
  | .hbm, ⟨38, _⟩ => ⟨S_, .f32⟩
  | .hbm, ⟨39, _⟩ => ⟨S1x8192x1, .f32⟩
  | .hbm, ⟨40, _⟩ => ⟨S1x8192x1, .f32⟩
  | .hbm, ⟨41, _⟩ => ⟨S1x8192x256, .f32⟩
  | .hbm, ⟨42, _⟩ => ⟨S1x8192x256, .f32⟩
  | .hbm, ⟨43, _⟩ => ⟨S1x8192x256, .f32⟩
  | .hbm, ⟨44, _⟩ => ⟨S_, .i32⟩
  | .hbm, ⟨45, _⟩ => ⟨S_, .f32⟩
  | .hbm, ⟨46, _⟩ => ⟨S1x8208x256, .f32⟩
  | .hbm, ⟨47, _⟩ => ⟨S1x8192x256, .f32⟩
  | .hbm, ⟨48, _⟩ => ⟨S1x8192x256, .f32⟩
  | .hbm, ⟨49, _⟩ => ⟨S_, .f32⟩
  | .hbm, ⟨50, _⟩ => ⟨S1x8192x1, .f32⟩
  | .hbm, ⟨51, _⟩ => ⟨S1x8192x1, .f32⟩
  | .hbm, ⟨52, _⟩ => ⟨S1x8192x256, .f32⟩
  | .hbm, ⟨53, _⟩ => ⟨S1x8192x256, .f32⟩
  | .hbm, ⟨54, _⟩ => ⟨S1x8192x1024, .f32⟩
  | .hbm, ⟨55, _⟩ => ⟨S1x8192x1024, .f32⟩
  | .hbm, ⟨56, _⟩ => ⟨S8192x1024, .f32⟩
  | .hbm, ⟨57, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_call0_cst : Ref sig .tc := ⟨.hbm, 2, rfl⟩
abbrev main_call0_call0_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call1_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_call2_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_3 : Ref sig .tc := ⟨.hbm, 33, rfl⟩
abbrev main_call3_v0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_call4_v0 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== Kernel29.lean ====
abbrev S8x1792x128 : Shape := ⟨3, ![8, 1792, 128]⟩
abbrev S1792x128 : Shape := ⟨2, ![1792, 128]⟩
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x1792x128, .f32⟩
  | .hbm, ⟨1, _⟩ => ⟨S1792x128, .f32⟩
  | .local _ .vmem, ⟨0, _⟩ => ⟨S8x256x128, .f32⟩
  | .local _ .vmem, ⟨1, _⟩ => ⟨S8x256x128, .f32⟩
  | .local _ .vmem, ⟨2, _⟩ => ⟨S256x128, .f32⟩
  | .local _ .vmem, ⟨3, _⟩ => ⟨S256x128, .f32⟩
  | _, _ => ⟨S8x1792x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![7], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference29Ideal.lean ====
abbrev S8x1792x128 : Shape := ⟨3, ![8, 1792, 128]⟩
abbrev S_ : Shape := ⟨0, ![]⟩
abbrev S1792x128 : Shape := ⟨2, ![1792, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x1792x128, .f32⟩
  | .hbm, ⟨1, _⟩ => ⟨S_, .f32⟩
  | .hbm, ⟨2, _⟩ => ⟨S1792x128, .f32⟩
  | _, _ => ⟨S8x1792x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel30.lean ====
abbrev S8x1024 : Shape := ⟨2, ![8, 1024]⟩
abbrev S4x1024x1536 : Shape := ⟨3, ![4, 1024, 1536]⟩
abbrev S4x1x1536 : Shape := ⟨3, ![4, 1, 1536]⟩
abbrev S4x8x1536 : Shape := ⟨3, ![4, 8, 1536]⟩
abbrev S1x1024x768 : Shape := ⟨3, ![1, 1024, 768]⟩
abbrev S1x1x768 : Shape := ⟨3, ![1, 1, 768]⟩
abbrev S1x8x768 : Shape := ⟨3, ![1, 8, 768]⟩
abbrev S1024x768 : Shape := ⟨2, ![1024, 768]⟩
abbrev S8x768 : Shape := ⟨2, ![8, 768]⟩
abbrev S1x768 : Shape := ⟨2, ![1, 768]⟩

abbrev nBuf : Space → Nat
  | .hbm => 4
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x1536, .f32⟩
  | .hbm, ⟨2, _⟩ => ⟨S4x1x1536, .f32⟩
  | .hbm, ⟨3, _⟩ => ⟨S4x8x1536, .f32⟩
  | .local _ .vmem, ⟨0, _⟩ => ⟨S8x1024, .f32⟩
  | .local _ .vmem, ⟨1, _⟩ => ⟨S1x1024x768, .f32⟩
  | .local _ .vmem, ⟨2, _⟩ => ⟨S1x1024x768, .f32⟩
  | .local _ .vmem, ⟨3, _⟩ => ⟨S1x1x768, .f32⟩
  | .local _ .vmem, ⟨4, _⟩ => ⟨S1x1x768, .f32⟩
  | .local _ .vmem, ⟨5, _⟩ => ⟨S1x8x768, .f32⟩
  | .local _ .vmem, ⟨6, _⟩ => ⟨S1x8x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference30Ideal.lean ====
abbrev S8x1024 : Shape := ⟨2, ![8, 1024]⟩
abbrev S4x1024x1536 : Shape := ⟨3, ![4, 1024, 1536]⟩
abbrev S4x1x1536 : Shape := ⟨3, ![4, 1, 1536]⟩
abbrev S_ : Shape := ⟨0, ![]⟩
abbrev S1x1024x1536 : Shape := ⟨3, ![1, 1024, 1536]⟩
abbrev S1024x1536 : Shape := ⟨2, ![1024, 1536]⟩
abbrev S8x1536 : Shape := ⟨2, ![8, 1536]⟩
abbrev S1x1x1536 : Shape := ⟨3, ![1, 1, 1536]⟩
abbrev S1x1536 : Shape := ⟨2, ![1, 1536]⟩
abbrev S1x8x1536 : Shape := ⟨3, ![1, 8, 1536]⟩
abbrev S4x8x1536 : Shape := ⟨3, ![4, 8, 1536]⟩

abbrev nBuf : Space → Nat
  | .hbm => 45
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x1536, .f32⟩
  | .hbm, ⟨2, _⟩ => ⟨S4x1x1536, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x1536, .f32⟩
  | .hbm, ⟨13, _⟩ => ⟨S1024x1536, .f32⟩
  | .hbm, ⟨14, _⟩ => ⟨S8x1536, .f32⟩
  | .hbm, ⟨15, _⟩ => ⟨S1x1x1536, .f32⟩
  | .hbm, ⟨16, _⟩ => ⟨S1x1536, .f32⟩
  | .hbm, ⟨17, _⟩ => ⟨S8x1536, .f32⟩
  | .hbm, ⟨18, _⟩ => ⟨S8x1536, .f32⟩
  | .hbm, ⟨19, _⟩ => ⟨S1x1024x1536, .f32⟩
  | .hbm, ⟨20, _⟩ => ⟨S1024x1536, .f32⟩
  | .hbm, ⟨21, _⟩ => ⟨S8x1536, .f32⟩
  | .hbm, ⟨22, _⟩ => ⟨S1x1x1536, .f32⟩
  | .hbm, ⟨23, _⟩ => ⟨S1x1536, .f32⟩
  | .hbm, ⟨24, _⟩ => ⟨S8x1536, .f32⟩
  | .hbm, ⟨25, _⟩ => ⟨S8x1536, .f32⟩
  | .hbm, ⟨26, _⟩ => ⟨S1x1024x1536, .f32⟩
  | .hbm, ⟨27, _⟩ => ⟨S1024x1536, .f32⟩
  | .hbm, ⟨28, _⟩ => ⟨S8x1536, .f32⟩
  | .hbm, ⟨29, _⟩ => ⟨S1x1x1536, .f32⟩
  | .hbm, ⟨30, _⟩ => ⟨S1x1536, .f32⟩
  | .hbm, ⟨31, _⟩ => ⟨S8x1536, .f32⟩
  | .hbm, ⟨32, _⟩ => ⟨S8x1536, .f32⟩
  | .hbm, ⟨33, _⟩ => ⟨S1x1024x1536, .f32⟩
  | .hbm, ⟨34, _⟩ => ⟨S1024x1536, .f32⟩
  | .hbm, ⟨35, _⟩ => ⟨S8x1536, .f32⟩
  | .hbm, ⟨36, _⟩ => ⟨S1x1x1536, .f32⟩
  | .hbm, ⟨37, _⟩ => ⟨S1x1536, .f32⟩
  | .hbm, ⟨38, _⟩ => ⟨S8x1536, .f32⟩
  | .hbm, ⟨39, _⟩ => ⟨S8x1536, .f32⟩
  | .hbm, ⟨40, _⟩ => ⟨S1x8x1536, .f32⟩
  | .hbm, ⟨41, _⟩ => ⟨S1x8x1536, .f32⟩
  | .hbm, ⟨42, _⟩ => ⟨S1x8x1536, .f32⟩
  | .hbm, ⟨43, _⟩ => ⟨S1x8x1536, .f32⟩
  | .hbm, ⟨44, _⟩ => ⟨S4x8x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Kernel31.lean ====
abbrev S8x1024 : Shape := ⟨2, ![8, 1024]⟩
abbrev S4x8x1536 : Shape := ⟨3, ![4, 8, 1536]⟩
abbrev S4x1024x1536 : Shape := ⟨3, ![4, 1024, 1536]⟩
abbrev S1024x8 : Shape := ⟨2, ![1024, 8]⟩
abbrev S128x8 : Shape := ⟨2, ![128, 8]⟩
abbrev S1x8x1536 : Shape := ⟨3, ![1, 8, 1536]⟩
abbrev S1x128x1536 : Shape := ⟨3, ![1, 128, 1536]⟩
abbrev S8x1536 : Shape := ⟨2, ![8, 1536]⟩
abbrev S128x1 : Shape := ⟨2, ![128, 1]⟩
abbrev S1x1536 : Shape := ⟨2, ![1, 1536]⟩
abbrev S128x1536 : Shape := ⟨2, ![128, 1536]⟩

abbrev nBuf : Space → Nat
  | .hbm => 10
  | .vmem => 18
  | .smem => 0
  | _ => 0

abbrev bufTy : (tb : Table) → Fin (tcTables nBuf tb) → BufTy
  | .hbm, ⟨0, _⟩ => ⟨S8x1024, .f32⟩
  | .hbm, ⟨1, _⟩ => ⟨S4x8x1536, .f32⟩
  | .hbm, ⟨2, _⟩ => ⟨S4x1024x1536, .f32⟩
  | .hbm, ⟨3, _⟩ => ⟨S4x1024x1536, .f32⟩
  | .hbm, ⟨4, _⟩ => ⟨S4x1024x1536, .f32⟩
  | .hbm, ⟨5, _⟩ => ⟨S1024x8, .f32⟩
  | .hbm, ⟨6, _⟩ => ⟨S4x1024x1536, .f32⟩
  | .hbm, ⟨7, _⟩ => ⟨S4x1024x1536, .f32⟩
  | .hbm, ⟨8, _⟩ => ⟨S4x1024x1536, .f32⟩
  | .hbm, ⟨9, _⟩ => ⟨S4x1024x1536, .f32⟩
  | .local _ .vmem, ⟨0, _⟩ => ⟨S128x8, .f32⟩
  | .local _ .vmem, ⟨1, _⟩ => ⟨S128x8, .f32⟩
  | .local _ .vmem, ⟨2, _⟩ => ⟨S1x8x1536, .f32⟩
  | .local _ .vmem, ⟨3, _⟩ => ⟨S1x8x1536, .f32⟩
  | .local _ .vmem, ⟨4, _⟩ => ⟨S1x128x1536, .f32⟩
  | .local _ .vmem, ⟨5, _⟩ => ⟨S1x128x1536, .f32⟩
  | .local _ .vmem, ⟨6, _⟩ => ⟨S1x128x1536, .f32⟩
  | .local _ .vmem, ⟨7, _⟩ => ⟨S1x128x1536, .f32⟩
  | .local _ .vmem, ⟨8, _⟩ => ⟨S1x128x1536, .f32⟩
  | .local _ .vmem, ⟨9, _⟩ => ⟨S1x128x1536, .f32⟩
  | .local _ .vmem, ⟨10, _⟩ => ⟨S1x128x1536, .f32⟩
  | .local _ .vmem, ⟨11, _⟩ => ⟨S1x128x1536, .f32⟩
  | .local _ .vmem, ⟨12, _⟩ => ⟨S1x128x1536, .f32⟩
  | .local _ .vmem, ⟨13, _⟩ => ⟨S1x128x1536, .f32⟩
  | .local _ .vmem, ⟨14, _⟩ => ⟨S1x128x1536, .f32⟩
  | .local _ .vmem, ⟨15, _⟩ => ⟨S1x128x1536, .f32⟩
  | .local _ .vmem, ⟨16, _⟩ => ⟨S1x128x1536, .f32⟩
  | .local _ .vmem, ⟨17, _⟩ => ⟨S1x128x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference31Ideal.lean ====
abbrev S8x1024 : Shape := ⟨2, ![8, 1024]⟩
abbrev S4x8x1536 : Shape := ⟨3, ![4, 8, 1536]⟩
abbrev S4x1024x1536 : Shape := ⟨3, ![4, 1024, 1536]⟩
abbrev S_ : Shape := ⟨0, ![]⟩
abbrev S4x1x1536 : Shape := ⟨3, ![4, 1, 1536]⟩
abbrev S1x1024x1536 : Shape := ⟨3, ![1, 1024, 1536]⟩
abbrev S1024x1536 : Shape := ⟨2, ![1024, 1536]⟩
abbrev S8x1536 : Shape := ⟨2, ![8, 1536]⟩
abbrev S1x1x1536 : Shape := ⟨3, ![1, 1, 1536]⟩
abbrev S1x1536 : Shape := ⟨2, ![1, 1536]⟩
abbrev S1x8x1536 : Shape := ⟨3, ![1, 8, 1536]⟩
abbrev S1536x1024 : Shape := ⟨2, ![1536, 1024]⟩

abbrev nBuf : Space → Nat
  | .hbm => 113
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x8x1536, .f32⟩
  | .hbm, ⟨2, _⟩ => ⟨S4x1024x1536, .f32⟩
  | .hbm, ⟨3, _⟩ => ⟨S4x1024x1536, .f32⟩
  | .hbm, ⟨4, _⟩ => ⟨S4x1024x1536, .f32⟩
  | .hbm, ⟨5, _⟩ => ⟨S_, .f32⟩
  | .hbm, ⟨6, _⟩ => ⟨S4x1x1536, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S_, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S1x1024x1536, .f32⟩
  | .hbm, ⟨17, _⟩ => ⟨S1024x1536, .f32⟩
  | .hbm, ⟨18, _⟩ => ⟨S8x1536, .f32⟩
  | .hbm, ⟨19, _⟩ => ⟨S1x1x1536, .f32⟩
  | .hbm, ⟨20, _⟩ => ⟨S1x1536, .f32⟩
  | .hbm, ⟨21, _⟩ => ⟨S8x1536, .f32⟩
  | .hbm, ⟨22, _⟩ => ⟨S8x1536, .f32⟩
  | .hbm, ⟨23, _⟩ => ⟨S1x1024x1536, .f32⟩
  | .hbm, ⟨24, _⟩ => ⟨S1024x1536, .f32⟩
  | .hbm, ⟨25, _⟩ => ⟨S8x1536, .f32⟩
  | .hbm, ⟨26, _⟩ => ⟨S1x1x1536, .f32⟩
  | .hbm, ⟨27, _⟩ => ⟨S1x1536, .f32⟩
  | .hbm, ⟨28, _⟩ => ⟨S8x1536, .f32⟩
  | .hbm, ⟨29, _⟩ => ⟨S8x1536, .f32⟩
  | .hbm, ⟨30, _⟩ => ⟨S1x1024x1536, .f32⟩
  | .hbm, ⟨31, _⟩ => ⟨S1024x1536, .f32⟩
  | .hbm, ⟨32, _⟩ => ⟨S8x1536, .f32⟩
  | .hbm, ⟨33, _⟩ => ⟨S1x1x1536, .f32⟩
  | .hbm, ⟨34, _⟩ => ⟨S1x1536, .f32⟩
  | .hbm, ⟨35, _⟩ => ⟨S8x1536, .f32⟩
  | .hbm, ⟨36, _⟩ => ⟨S8x1536, .f32⟩
  | .hbm, ⟨37, _⟩ => ⟨S1x1024x1536, .f32⟩
  | .hbm, ⟨38, _⟩ => ⟨S1024x1536, .f32⟩
  | .hbm, ⟨39, _⟩ => ⟨S8x1536, .f32⟩
  | .hbm, ⟨40, _⟩ => ⟨S1x1x1536, .f32⟩
  | .hbm, ⟨41, _⟩ => ⟨S1x1536, .f32⟩
  | .hbm, ⟨42, _⟩ => ⟨S8x1536, .f32⟩
  | .hbm, ⟨43, _⟩ => ⟨S8x1536, .f32⟩
  | .hbm, ⟨44, _⟩ => ⟨S1x8x1536, .f32⟩
  | .hbm, ⟨45, _⟩ => ⟨S1x8x1536, .f32⟩
  | .hbm, ⟨46, _⟩ => ⟨S1x8x1536, .f32⟩
  | .hbm, ⟨47, _⟩ => ⟨S1x8x1536, .f32⟩
  | .hbm, ⟨48, _⟩ => ⟨S4x8x1536, .f32⟩
  | .hbm, ⟨49, _⟩ => ⟨S1x8x1536, .f32⟩
  | .hbm, ⟨50, _⟩ => ⟨S8x1536, .f32⟩
  | .hbm, ⟨51, _⟩ => ⟨S1x8x1536, .f32⟩
  | .hbm, ⟨52, _⟩ => ⟨S8x1536, .f32⟩
  | .hbm, ⟨53, _⟩ => ⟨S1x8x1536, .f32⟩
  | .hbm, ⟨54, _⟩ => ⟨S8x1536, .f32⟩
  | .hbm, ⟨55, _⟩ => ⟨S1x8x1536, .f32⟩
  | .hbm, ⟨56, _⟩ => ⟨S8x1536, .f32⟩
  | .hbm, ⟨57, _⟩ => ⟨S1536x1024, .f32⟩
  | .hbm, ⟨58, _⟩ => ⟨S1024x1536, .f32⟩
  | .hbm, ⟨59, _⟩ => ⟨S1x1024x1536, .f32⟩
  | .hbm, ⟨60, _⟩ => ⟨S_, .f32⟩
  | .hbm, ⟨61, _⟩ => ⟨S4x1024x1536, .f32⟩
  | .hbm, ⟨62, _⟩ => ⟨S1536x1024, .f32⟩
  | .hbm, ⟨63, _⟩ => ⟨S1024x1536, .f32⟩
  | .hbm, ⟨64, _⟩ => ⟨S1x1024x1536, .f32⟩
  | .hbm, ⟨65, _⟩ => ⟨S_, .f32⟩
  | .hbm, ⟨66, _⟩ => ⟨S4x1024x1536, .f32⟩
  | .hbm, ⟨67, _⟩ => ⟨S4x1024x1536, .f32⟩
  | .hbm, ⟨68, _⟩ => ⟨S1536x1024, .f32⟩
  | .hbm, ⟨69, _⟩ => ⟨S1024x1536, .f32⟩
  | .hbm, ⟨70, _⟩ => ⟨S1x1024x1536, .f32⟩
  | .hbm, ⟨71, _⟩ => ⟨S_, .f32⟩
  | .hbm, ⟨72, _⟩ => ⟨S4x1024x1536, .f32⟩
  | .hbm, ⟨73, _⟩ => ⟨S4x1024x1536, .f32⟩
  | .hbm, ⟨74, _⟩ => ⟨S1536x1024, .f32⟩
  | .hbm, ⟨75, _⟩ => ⟨S1024x1536, .f32⟩
  | .hbm, ⟨76, _⟩ => ⟨S1x1024x1536, .f32⟩
  | .hbm, ⟨77, _⟩ => ⟨S_, .f32⟩
  | .hbm, ⟨78, _⟩ => ⟨S4x1024x1536, .f32⟩
  | .hbm, ⟨79, _⟩ => ⟨S4x1024x1536, .f32⟩
  | .hbm, ⟨80, _⟩ => ⟨S_, .f32⟩
  | .hbm, ⟨81, _⟩ => ⟨S4x1024x1536, .f32⟩
  | .hbm, ⟨82, _⟩ => ⟨S4x1024x1536, .f32⟩
  | .hbm, ⟨83, _⟩ => ⟨S_, .f32⟩
  | .hbm, ⟨84, _⟩ => ⟨S4x1024x1536, .f32⟩
  | .hbm, ⟨85, _⟩ => ⟨S4x1024x1536, .f32⟩
  | .hbm, ⟨86, _⟩ => ⟨S4x1024x1536, .f32⟩
  | .hbm, ⟨87, _⟩ => ⟨S_, .f32⟩
  | .hbm, ⟨88, _⟩ => ⟨S4x1024x1536, .f32⟩
  | .hbm, ⟨89, _⟩ => ⟨S4x1024x1536, .f32⟩
  | .hbm, ⟨90, _⟩ => ⟨S4x1024x1536, .f32⟩
  | .hbm, ⟨91, _⟩ => ⟨S_, .f32⟩
  | .hbm, ⟨92, _⟩ => ⟨S4x1024x1536, .f32⟩
  | .hbm, ⟨93, _⟩ => ⟨S4x1024x1536, .f32⟩
  | .hbm, ⟨94, _⟩ => ⟨S4x1024x1536, .f32⟩
  | .hbm, ⟨95, _⟩ => ⟨S_, .f32⟩
  | .hbm, ⟨96, _⟩ => ⟨S4x1024x1536, .f32⟩
  | .hbm, ⟨97, _⟩ => ⟨S4x1024x1536, .f32⟩
  | .hbm, ⟨98, _⟩ => ⟨S_, .f32⟩
  | .hbm, ⟨99, _⟩ => ⟨S4x1024x1536, .f32⟩
  | .hbm, ⟨100, _⟩ => ⟨S4x1024x1536, .f32⟩
  | .hbm, ⟨101, _⟩ => ⟨S4x1024x1536, .f32⟩
  | .hbm, ⟨102, _⟩ => ⟨S_, .f32⟩
  | .hbm, ⟨103, _⟩ => ⟨S4x1024x1536, .f32⟩
  | .hbm, ⟨104, _⟩ => ⟨S4x1024x1536, .f32⟩
  | .hbm, ⟨105, _⟩ => ⟨S4x1024x1536, .f32⟩
  | .hbm, ⟨106, _⟩ => ⟨S_, .f32⟩
  | .hbm, ⟨107, _⟩ => ⟨S4x1024x1536, .f32⟩
  | .hbm, ⟨108, _⟩ => ⟨S4x1024x1536, .f32⟩
  | .hbm, ⟨109, _⟩ => ⟨S4x1024x1536, .f32⟩
  | .hbm, ⟨110, _⟩ => ⟨S_, .f32⟩
  | .hbm, ⟨111, _⟩ => ⟨S4x1024x1536, .f32⟩
  | .hbm, ⟨112, _⟩ => ⟨S4x1024x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_0 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_1 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_2 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_3 : Ref sig .tc := ⟨.hbm, 77, rfl⟩
abbrev main_v60 : Ref sig .tc := ⟨.hbm, 78, rfl⟩
abbrev main_v61 : Ref sig .tc := ⟨.hbm, 79, rfl⟩
abbrev main_cst_4 : Ref sig .tc := ⟨.hbm, 80, rfl⟩
abbrev main_v62 : Ref sig .tc := ⟨.hbm, 81, rfl⟩
abbrev main_v63 : Ref sig .tc := ⟨.hbm, 82, rfl⟩
abbrev main_cst_5 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_6 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_7 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_8 : Ref sig .tc := ⟨.hbm, 95, rfl⟩
abbrev main_v73 : Ref sig .tc := ⟨.hbm, 96, rfl⟩
abbrev main_v74 : Ref sig .tc := ⟨.hbm, 97, rfl⟩
abbrev main_cst_9 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_10 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_11 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_12 : Ref sig .tc := ⟨.hbm, 110, rfl⟩
abbrev main_v84 : Ref sig .tc := ⟨.hbm, 111, rfl⟩
abbrev main_v85 : Ref sig .tc := ⟨.hbm, 112, rfl⟩

abbrev nD : Nat := 1
abbrev τ : Topo := Topo.v7x

variable {F : FTy → Type} [FloatOps F]
-- ==== Kernel32.lean ====
abbrev S2816x1024 : Shape := ⟨2, ![2816, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference32Ideal.lean ====
abbrev S2816x1024 : Shape := ⟨2, ![2816, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S_, .f32⟩
  | .hbm, ⟨5, _⟩ => ⟨S2816x1024, .f32⟩
  | .hbm, ⟨6, _⟩ => ⟨S2816x1024, .f32⟩
  | .hbm, ⟨7, _⟩ => ⟨S_, .f32⟩
  | .hbm, ⟨8, _⟩ => ⟨S2816x1024, .f32⟩
  | .hbm, ⟨9, _⟩ => ⟨S2816x1024, .f32⟩
  | .hbm, ⟨10, _⟩ => ⟨S2816x1024, .f32⟩
  | .hbm, ⟨11, _⟩ => ⟨S_, .f32⟩
  | .hbm, ⟨12, _⟩ => ⟨S2816x1024, .f32⟩
  | .hbm, ⟨13, _⟩ => ⟨S2816x1024, .f32⟩
  | .hbm, ⟨14, _⟩ => ⟨S2816x1024, .f32⟩
  | .hbm, ⟨15, _⟩ => ⟨S_, .f32⟩
  | .hbm, ⟨16, _⟩ => ⟨S2816x1024, .f32⟩
  | .hbm, ⟨17, _⟩ => ⟨S2816x1024, .f32⟩
  | .hbm, ⟨18, _⟩ => ⟨S2816x1024, .f32⟩
  | .hbm, ⟨19, _⟩ => ⟨S_, .f32⟩
  | .hbm, ⟨20, _⟩ => ⟨S2816x1024, .f32⟩
  | .hbm, ⟨21, _⟩ => ⟨S2816x1024, .f32⟩
  | .hbm, ⟨22, _⟩ => ⟨S_, .f32⟩
  | .hbm, ⟨23, _⟩ => ⟨S2816x1024, .f32⟩
  | .hbm, ⟨24, _⟩ => ⟨S2816x1024, .f32⟩
  | .hbm, ⟨25, _⟩ => ⟨S2816x1024, .f32⟩
  | .hbm, ⟨26, _⟩ => ⟨S_, .f32⟩
  | .hbm, ⟨27, _⟩ => ⟨S2816x1024, .f32⟩
  | .hbm, ⟨28, _⟩ => ⟨S2816x1024, .f32⟩
  | .hbm, ⟨29, _⟩ => ⟨S2816x1024, .f32⟩
  | .hbm, ⟨30, _⟩ => ⟨S_, .f32⟩
  | .hbm, ⟨31, _⟩ => ⟨S2816x1024, .f32⟩
  | .hbm, ⟨32, _⟩ => ⟨S2816x1024, .f32⟩
  | .hbm, ⟨33, _⟩ => ⟨S2816x1024, .f32⟩
  | .hbm, ⟨34, _⟩ => ⟨S_, .f32⟩
  | .hbm, ⟨35, _⟩ => ⟨S2816x1024, .f32⟩
  | .hbm, ⟨36, _⟩ => ⟨S2816x1024, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.PoolMean.lean ====
/-
  The numbers both programs of the pooling gradient compute with: the window of a column (2, 4, 8 or 16 rows by its quarter
  of the 1024 columns), the gradient of a row's mean spread over the rows it averaged, and the few words and constants that
  the two texts write them with.
-/
module

public import Idealize.ShloMosaic.Lib.Pointwise
public import Idealize.ShloMosaic.Lib.IdealHost

@[expose] public section

noncomputable section

namespace Cert.Pool

open Idealize.ShloMosaic

/-- The number of rows that a column's pooling window averages. -/
def width (n : Nat) : Nat := if n < 256 then 2 else if n < 512 then 4 else if n < 768 then 8 else 16

/-- The gradient of row `n`'s mean divided by the number of rows that the mean was taken over; nothing beyond the last row. -/
def mean (x : (⟨2, ![8192, 1024]⟩ : Shape).Idx → EReal) (w n : Nat) (j : Fin 1024) : EReal :=
  if h : n < 8192 then Ideal.div (x (ix2 ⟨n, h⟩ j)) (min (((n + 1 : Nat) : ℝ) : EReal) ((w : ℝ) : EReal)) else 0

/-- The gradient handed back: the row's own share of the means it took part in, less the row's gradient. -/
def grad (x : (⟨2, ![8192, 1024]⟩ : Shape).Idx → EReal) : (⟨2, ![8192, 1024]⟩ : Shape).Idx → EReal :=
  fun i => (∑ k ∈ Finset.range (width (i 1).val), mean x (width (i 1).val) ((i 0).val + k) (i 1)) - x i

theorem mean_eq (x : (⟨2, ![8192, 1024]⟩ : Shape).Idx → EReal) (w n : Nat) (j : Fin 1024) (h : n < 8192) :
    mean x w n j = Ideal.div (x (ix2 ⟨n, h⟩ j)) (min (((n + 1 : Nat) : ℝ) : EReal) ((w : ℝ) : EReal)) := dif_pos h

theorem mean_beyond (x : (⟨2, ![8192, 1024]⟩ : Shape).Idx → EReal) (w n : Nat) (j : Fin 1024) (h : 8192 ≤ n) :
    mean x w n j = 0 := dif_neg (by omega)

/-! ## Constants -/

theorem two : Ideal.ofBits .f32 0x40000000#32 = (((2 : Nat) : ℝ) : EReal) := by
  simp [Ideal.ofBits, Ideal.ieee, -EReal.coe_mul]; norm_num
theorem four : Ideal.ofBits .f32 0x40800000#32 = (((4 : Nat) : ℝ) : EReal) := by
  simp [Ideal.ofBits, Ideal.ieee, -EReal.coe_mul]; norm_num
theorem eight : Ideal.ofBits .f32 0x41000000#32 = (((8 : Nat) : ℝ) : EReal) := by
  simp [Ideal.ofBits, Ideal.ieee, -EReal.coe_mul]; norm_num
theorem sixteen : Ideal.ofBits .f32 0x41800000#32 = (((16 : Nat) : ℝ) : EReal) := by
  simp [Ideal.ofBits, Ideal.ieee, -EReal.coe_mul]; norm_num
theorem half : Ideal.ofBits .f32 0x3F000000#32 = ((((2 : Nat) : ℝ)⁻¹ : ℝ) : EReal) := by
  simp [Ideal.ofBits, Ideal.ieee, -EReal.coe_mul]; norm_num
theorem quarter : Ideal.ofBits .f32 0x3E800000#32 = ((((4 : Nat) : ℝ)⁻¹ : ℝ) : EReal) := by
  simp [Ideal.ofBits, Ideal.ieee, -EReal.coe_mul]; norm_num
theorem eighth : Ideal.ofBits .f32 0x3E000000#32 = ((((8 : Nat) : ℝ)⁻¹ : ℝ) : EReal) := by
  simp [Ideal.ofBits, Ideal.ieee, -EReal.coe_mul]; norm_num
theorem sixteenth : Ideal.ofBits .f32 0x3D800000#32 = ((((16 : Nat) : ℝ)⁻¹ : ℝ) : EReal) := by
  simp [Ideal.ofBits, Ideal.ieee, -EReal.coe_mul]; norm_num

/-- The count of rows up to row `256 t + r`, as the kernel's words compute it. -/
theorem count (t r : Nat) (ht : t < 32) (hr : r < 256) :
    (FloatOps.sitofp .f32 (IntOp.addi (IntOp.addi (Scalar.muli (BitVec.ofNat 32 t) 256#32) (BitVec.ofNat 32 r)) 1#32) : Ideal .f32)
      = (((256 * t + r + 1 : Nat) : ℝ) : EReal) := by
  have e : IntOp.addi (IntOp.addi (Scalar.muli (BitVec.ofNat 32 t) 256#32) (BitVec.ofNat 32 r)) 1#32
      = BitVec.ofNat 32 (256 * t + r + 1) := by
    show BitVec.ofNat 32 t * 256#32 + BitVec.ofNat 32 r + 1#32 = _
    apply BitVec.eq_of_toNat_eq
    simp only [BitVec.toNat_add, BitVec.toNat_mul, BitVec.toNat_ofNat]
    omega
  rw [e]
  show (((BitVec.ofNat 32 (256 * t + r + 1)).toInt : ℝ) : EReal) = _
  have : (BitVec.ofNat 32 (256 * t + r + 1)).toInt = ((256 * t + r + 1 : Nat) : ℤ) := by
    rw [BitVec.toInt_eq_toNat_cond, BitVec.toNat_ofNat]; split <;> omega
  rw [this]; norm_cast

/-- Dividing by the window where the count has reached it is multiplying by the window's reciprocal. -/
theorem div_full (a : EReal) (n w : Nat) (hw : 0 < w) (h : w ≤ n) :
    Ideal.div a (min ((n : ℝ) : EReal) ((w : ℝ) : EReal)) = a * (((w : ℝ)⁻¹ : ℝ) : EReal) := by
  have e : min ((n : ℝ) : EReal) ((w : ℝ) : EReal) = ((w : ℝ) : EReal) :=
    min_eq_right (by exact_mod_cast h)
  have h0 : ((w : ℝ) : EReal) ≠ 0 := by exact_mod_cast hw.ne'
  rw [e, Ideal.div, if_neg h0, EReal.coe_inv]

end Cert.Pool

end
-- ==== Proof.PoolBlock.lean ====
/-
  What one block of the pooling kernel writes: its scratch array holds the gradients of the means of the block's rows and of
  the sixteen rows after it, and each row of the result sums a window of it.
-/
module

public import proofs.«01_k».proof.Proof.Gen.KernelIdeal.Value
public import proofs.«01_k».proof.Proof.PoolMean
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.PoolBlock

open Cert.KernelIdeal Cert.KernelIdeal.Gen Idealize.ShloMosaic Idealize.ShloMosaic.TcCoe Idealize.SL.Sem Cert.Pool

variable (m : (ℓ : Loc nD τ sig) → Buf (Elt Ideal) ℓ)

/-- The gradient handed in. -/
abbrev arg (c : Dev nD) : S8192x1024.Idx → EReal := m ((c : Thread nD τ).loc main_arg0)

theorem N32 : grid0.N = 32 := by decide

/-- The windows' index maps and the grid's coordinate, at every point. -/
theorem idx : ∀ t : Fin grid0.N, win0_0.index t = ![t.val, 0] ∧ win0_1.index t = ![min (16 * (t.val + 1)) 511, 0]
    ∧ win0_2.index t = ![t.val, 0] ∧ (grid0.coords t 0).val = t.val := by decide +kernel

/-- The block's rows: rows `256 t` on of the gradient handed in. -/
theorem blk0 (c : Dev nD) (t : Fin grid0.N) (r : Fin 256) (j : Fin 1024) (h : 256 * t.val + r.val < 8192) :
    iblk m c 0 t (ix2 r j) = arg m c (ix2 ⟨256 * t.val + r.val, h⟩ j) := by
  blk_ext [iblk, V, (idx t).1]

/-- The sixteen rows after the block's. -/
theorem blk1 (c : Dev nD) (t : Fin grid0.N) (r : Fin 16) (j : Fin 1024) (h : 256 * t.val + (256 + r.val) < 8192) :
    iblk m c 1 t (ix2 r j) = arg m c (ix2 ⟨256 * t.val + (256 + r.val), h⟩ j) := by
  have := t.isLt; have := N32
  blk_ext [iblk, V, (idx t).2.1]

/-! ## What the scratch array holds -/

/-- A quotient of the block's rows by the counts, read at row `r`. -/
theorem quot (w : Nat) (x : S8192x1024.Idx → EReal) (t r : Nat) (j : Fin 1024) (ht : t < 32) (hr : r < 256) (a : EReal) (k : EReal)
    (n : Nat) (hn : n = 256 * t + r)
    (ha : ∀ h : 256 * t + r < 8192, a = x (ix2 ⟨256 * t + r, h⟩ j)) (hk : k = ((w : ℝ) : EReal)) :
    Ideal.div a (min (FloatOps.sitofp .f32 (IntOp.addi (IntOp.addi (Scalar.muli (BitVec.ofNat 32 t) 256#32) (BitVec.ofNat 32 r)) 1#32)
      : Ideal .f32) k) = mean x w n j := by
  subst hn
  rw [count t r ht hr, mean_eq x w _ j (by omega), ← ha, hk]

/-- A product of the rows after the block with the window's reciprocal, nothing after the last block. -/
theorem halo (w : Nat) (x : S8192x1024.Idx → EReal) (t r : Nat) (j : Fin 1024) (ht : t < 32) (hr : r < 16) (a : EReal) (k : EReal)
    (hw : 0 < w) (hw' : w ≤ 16)
    (ha : ∀ h : 256 * t + (256 + r) < 8192, a = x (ix2 ⟨256 * t + (256 + r), h⟩ j)) (hk : k = (((w : ℝ)⁻¹ : ℝ) : EReal)) :
    Scalar.select (Scalar.cmpi .slt (BitVec.ofNat 32 t) 31#32) (a * k) 0 = mean x w (256 * t + (256 + r)) j := by
  have e : Scalar.cmpi .slt (BitVec.ofNat 32 t) 31#32 = if t < 31 then 1#1 else 0#1 :=
    (by decide : ∀ t : Fin 32, Scalar.cmpi .slt (BitVec.ofNat 32 t.val) 31#32 = if t.val < 31 then 1#1 else 0#1) ⟨t, ht⟩
  rw [e]
  by_cases h : t < 31
  · rw [if_pos h, mean_eq x w _ j (by omega), div_full _ _ w hw (by omega), ← ha, hk]; rfl
  · rw [if_neg h, mean_beyond x w _ j (by omega)]; rfl

/-- The scratch array at point `t`. -/
def held (x : S8192x1024.Idx → EReal) (t : Nat) : S272x1024.Idx → EReal :=
  fun i => mean x (width (i 1).val) (256 * t + (i 0).val) (i 1)

theorem lt32 (t : Fin cfg0.N) : t.val < 32 := by have := t.isLt; have : cfg0.N = 32 := N32; omega

/-- An element of a stored block, read in the scratch array. -/
theorem held_emb (x : S8192x1024.Idx → EReal) (t w p o a b : Nat) (inb : ∀ d, ![p, o] d + ![a, b] d ≤ S272x1024.size d) (x0 : Fin a) (x1 : Fin b)
    (h : o + x1.val < 1024) (hw : width (o + x1.val) = w) :
    held x t ((Rect.unit (s := S272x1024) ![p, o] ![a, b] inb).emb (ix2 x0 x1)) = mean x w (256 * t + (p + x0.val)) ⟨o + x1.val, h⟩ := by
  have e0 : ((Rect.unit (s := S272x1024) ![p, o] ![a, b] inb).emb (ix2 x0 x1) 0).val = p + x0.val := by
    show p + 1 * x0.val = _; omega
  have e1 : (Rect.unit (s := S272x1024) ![p, o] ![a, b] inb).emb (ix2 x0 x1) 1 = (⟨o + x1.val, h⟩ : Fin 1024) := by
    apply Fin.ext; show o + 1 * x1.val = o + x1.val; omega
  unfold held; rw [e1, e0, hw]

/-- The store of the block's rows in columns 0 to 255 is that part of what the scratch array holds, -/
theorem top0 (c : Dev nD) (t : Fin cfg0.N) (inb inb') (x : S256x256.Idx) :
    k0_pay2 (grid0.coords t) (View.ld (iblk m c 0 t) (Rect.unit ![0, 0] ![256, 256] inb)) x
      = held (arg m c) t.val ((Rect.unit (s := S272x1024) ![0, 0] ![256, 256] inb').emb x) := by
  idx_vars x
  rw [held_emb (w := 2) _ _ _ _ _ _ _ _ _ (by omega) (by unfold width; split_ifs <;> omega)]
  pointwise [k0_pay2]
  rw [(idx t).2.2.2]
  exact quot 2 _ _ _ _ (lt32 t) x0.isLt _ _ _ (by omega) (fun h => blk0 m c t _ _ h) two

/-- and so is the store of the sixteen rows after it. -/
theorem low0 (c : Dev nD) (t : Fin cfg0.N) (inb inb') (x : S16x256.Idx) :
    k0_pay3 (grid0.coords t) (View.ld (iblk m c 1 t) (Rect.unit ![0, 0] ![16, 256] inb)) x
      = held (arg m c) t.val ((Rect.unit (s := S272x1024) ![256, 0] ![16, 256] inb').emb x) := by
  idx_vars x
  rw [held_emb (w := 2) _ _ _ _ _ _ _ _ _ (by omega) (by unfold width; split_ifs <;> omega)]
  pointwise [k0_pay3]
  rw [(idx t).2.2.2]
  exact halo 2 _ _ _ _ (lt32 t) x0.isLt _ _ (by omega) (by omega) (fun h => blk1 m c t _ _ h) half

/-- The store of the block's rows in columns 256 to 511 is that part of what the scratch array holds, -/
theorem top1 (c : Dev nD) (t : Fin cfg0.N) (inb inb') (x : S256x256.Idx) :
    k0_pay5 (BitVec.ofNat 32 (grid0.coords t 0).val) (View.ld (iblk m c 0 t) (Rect.unit ![0, 256] ![256, 256] inb)) x
      = held (arg m c) t.val ((Rect.unit (s := S272x1024) ![0, 256] ![256, 256] inb').emb x) := by
  idx_vars x
  rw [held_emb (w := 4) _ _ _ _ _ _ _ _ _ (by omega) (by unfold width; split_ifs <;> omega)]
  pointwise [k0_pay5]
  rw [(idx t).2.2.2]
  exact quot 4 _ _ _ _ (lt32 t) x0.isLt _ _ _ (by omega) (fun h => blk0 m c t _ _ h) four

/-- and so is the store of the sixteen rows after it. -/
theorem low1 (c : Dev nD) (t : Fin cfg0.N) (inb inb') (x : S16x256.Idx) :
    k0_pay6 (BitVec.ofNat 32 (grid0.coords t 0).val) (View.ld (iblk m c 1 t) (Rect.unit ![0, 256] ![16, 256] inb)) x
      = held (arg m c) t.val ((Rect.unit (s := S272x1024) ![256, 256] ![16, 256] inb').emb x) := by
  idx_vars x
  rw [held_emb (w := 4) _ _ _ _ _ _ _ _ _ (by omega) (by unfold width; split_ifs <;> omega)]
  pointwise [k0_pay6]
  rw [(idx t).2.2.2]
  exact halo 4 _ _ _ _ (lt32 t) x0.isLt _ _ (by omega) (by omega) (fun h => blk1 m c t _ _ h) quarter

/-- The store of the block's rows in columns 512 to 767 is that part of what the scratch array holds, -/
theorem top2 (c : Dev nD) (t : Fin cfg0.N) (inb inb') (x : S256x256.Idx) :
    k0_pay8 (BitVec.ofNat 32 (grid0.coords t 0).val) (View.ld (iblk m c 0 t) (Rect.unit ![0, 512] ![256, 256] inb)) x
      = held (arg m c) t.val ((Rect.unit (s := S272x1024) ![0, 512] ![256, 256] inb').emb x) := by
  idx_vars x
  rw [held_emb (w := 8) _ _ _ _ _ _ _ _ _ (by omega) (by unfold width; split_ifs <;> omega)]
  pointwise [k0_pay8]
  rw [(idx t).2.2.2]
  exact quot 8 _ _ _ _ (lt32 t) x0.isLt _ _ _ (by omega) (fun h => blk0 m c t _ _ h) eight

/-- and so is the store of the sixteen rows after it. -/
theorem low2 (c : Dev nD) (t : Fin cfg0.N) (inb inb') (x : S16x256.Idx) :
    k0_pay9 (BitVec.ofNat 32 (grid0.coords t 0).val) (View.ld (iblk m c 1 t) (Rect.unit ![0, 512] ![16, 256] inb)) x
      = held (arg m c) t.val ((Rect.unit (s := S272x1024) ![256, 512] ![16, 256] inb').emb x) := by
  idx_vars x
  rw [held_emb (w := 8) _ _ _ _ _ _ _ _ _ (by omega) (by unfold width; split_ifs <;> omega)]
  pointwise [k0_pay9]
  rw [(idx t).2.2.2]
  exact halo 8 _ _ _ _ (lt32 t) x0.isLt _ _ (by omega) (by omega) (fun h => blk1 m c t _ _ h) eighth

/-- The store of the block's rows in columns 768 to 1023 is that part of what the scratch array holds, -/
theorem top3 (c : Dev nD) (t : Fin cfg0.N) (inb inb') (x : S256x256.Idx) :
    k0_pay13 (BitVec.ofNat 32 (grid0.coords t 0).val) (View.ld (iblk m c 0 t) (Rect.unit ![0, 768] ![256, 256] inb)) x
      = held (arg m c) t.val ((Rect.unit (s := S272x1024) ![0, 768] ![256, 256] inb').emb x) := by
  idx_vars x
  rw [held_emb (w := 16) _ _ _ _ _ _ _ _ _ (by omega) (by unfold width; split_ifs <;> omega)]
  pointwise [k0_pay13]
  rw [(idx t).2.2.2]
  exact quot 16 _ _ _ _ (lt32 t) x0.isLt _ _ _ (by omega) (fun h => blk0 m c t _ _ h) sixteen

/-- and so is the store of the sixteen rows after it. -/
theorem low3 (c : Dev nD) (t : Fin cfg0.N) (inb inb') (x : S16x256.Idx) :
    k0_pay14 (BitVec.ofNat 32 (grid0.coords t 0).val) (View.ld (iblk m c 1 t) (Rect.unit ![0, 768] ![16, 256] inb)) x
      = held (arg m c) t.val ((Rect.unit (s := S272x1024) ![256, 768] ![16, 256] inb').emb x) := by
  idx_vars x
  rw [held_emb (w := 16) _ _ _ _ _ _ _ _ _ (by omega) (by unfold width; split_ifs <;> omega)]
  pointwise [k0_pay14]
  rw [(idx t).2.2.2]
  exact halo 16 _ _ _ _ (lt32 t) x0.isLt _ _ (by omega) (by omega) (fun h => blk1 m c t _ _ h) sixteenth

/-! ## What a window of it sums to -/

/-- A row turned up by `272 - n` rows. -/
theorem turn (r n : Nat) (hr : r < 256) (hn : 256 < n) (hn' : n ≤ 272) : (r + 272 - n) % 272 = r + (272 - n) := by omega

section Windows

variable (x : S8192x1024.Idx → EReal) (t w o : Nat) (ho : o + 256 ≤ 1024)

/-- A load of all rows of one group's columns reads the two stores of that group. -/
theorem window_load (L : List (View.Piece (Elt Ideal) S272x1024 .f32)) (pl : Vec Ideal S16x256 .f32) (pt : Vec Ideal S256x256 .f32) (inb inb1 inb2) (hw : ∀ b < 256, width (o + b) = w)
    (h : View.PiecesOf (held x t) (⟨Rect.unit ![256, o] ![16, 256] inb1, pl⟩ :: ⟨Rect.unit ![0, o] ![256, 256] inb2, pt⟩ :: L))
    (a : Fin 272) (b : Fin 256) :
    (View.whole cc0_scratch0).readCov (⟨Rect.unit ![256, o] ![16, 256] inb1, pl⟩ :: ⟨Rect.unit ![0, o] ![256, 256] inb2, pt⟩ :: L)
        (Rect.unit (s := S272x1024) ![0, o] ![272, 256] inb).toLoadRect (ix2 a b)
      = mean x w (256 * t + a.val) ⟨o + b.val, by omega⟩ := by
  rw [View.readCov_eq_canon']
  have e := held_emb x t w 0 o 272 256 inb a b (by omega) (hw b.val b.isLt)
  rw [Nat.zero_add] at e
  refine (View.canon_apply_of_pieces (held x t) _ h.mem _ ?_).trans e
  by_cases ha : a.val < 256
  · refine ⟨⟨Rect.unit ![0, o] ![256, 256] inb2, pt⟩, List.mem_cons_of_mem _ List.mem_cons_self, (Rect.mem_set_unit (inb := inb2)).mpr fun d => ?_⟩
    fin_cases d
    · show 0 ≤ 0 + 1 * a.val ∧ 0 + 1 * a.val < 0 + 256; omega
    · show o ≤ o + 1 * b.val ∧ o + 1 * b.val < o + 256; omega
  · refine ⟨⟨Rect.unit ![256, o] ![16, 256] inb1, pl⟩, List.mem_cons_self, (Rect.mem_set_unit (inb := inb1)).mpr fun d => ?_⟩
    fin_cases d
    · show 256 ≤ 0 + 1 * a.val ∧ 0 + 1 * a.val < 256 + 16; omega
    · show o ≤ o + 1 * b.val ∧ o + 1 * b.val < o + 256; omega

variable (v : Vec Ideal S272x256 .f32) (u : Vec Ideal S256x256 .f32)
  (hv : ∀ (a : Fin 272) (b : Fin 256), v (ix2 a b) = mean x w (256 * t + a.val) ⟨o + b.val, by omega⟩) (r j : Fin 256)
include hv

/-- The window sum of row `r`, less the row: what each of the four payloads leaves at `(r, j)`. -/
theorem sum2 (hw : w = 2) : k0_pay4 (F := Ideal) v u (ix2 r j)
    = (∑ k ∈ Finset.range w, mean x w (256 * t + r.val + k) ⟨o + j.val, by omega⟩) - u (ix2 r j) := by
  pointwise [k0_pay4]
  have hr := r.isLt
  simp (disch := omega) only [hv, hw, turn, Finset.sum_range_succ, Finset.sum_range_zero, zero_add, add_zero, Nat.reduceSub, ← Nat.add_assoc,
    Nat.add_right_comm _ 8]

theorem sum4 (hw : w = 4) : k0_pay7 (F := Ideal) v u (ix2 r j)
    = (∑ k ∈ Finset.range w, mean x w (256 * t + r.val + k) ⟨o + j.val, by omega⟩) - u (ix2 r j) := by
  pointwise [k0_pay7]
  have hr := r.isLt
  simp (disch := omega) only [hv, hw, turn, Finset.sum_range_succ, Finset.sum_range_zero, zero_add, add_zero, Nat.reduceSub, ← Nat.add_assoc,
    Nat.add_right_comm _ 8]

theorem sum8 (hw : w = 8) : k0_pay12 (F := Ideal) v (k0_pay10 v) (k0_pay11 v) u (ix2 r j)
    = (∑ k ∈ Finset.range w, mean x w (256 * t + r.val + k) ⟨o + j.val, by omega⟩) - u (ix2 r j) := by
  pointwise [k0_pay12, k0_pay10, k0_pay11]
  have hr := r.isLt
  simp (disch := omega) only [hv, hw, turn, Finset.sum_range_succ, Finset.sum_range_zero, zero_add, add_zero, Nat.reduceSub, ← Nat.add_assoc,
    Nat.add_right_comm _ 8]

theorem sum16 (hw : w = 16) : k0_pay1 (F := Ideal) v (k0_pay15 v) 257#32 u (ix2 r j)
    = (∑ k ∈ Finset.range w, mean x w (256 * t + r.val + k) ⟨o + j.val, by omega⟩) - u (ix2 r j) := by
  pointwise [k0_pay1, k0_pay15]
  have hr := r.isLt
  simp (disch := omega) only [hv, hw, turn, Finset.sum_range_succ, Finset.sum_range_zero, zero_add, add_zero, Nat.reduceSub, ← Nat.add_assoc,
    Nat.add_right_comm _ 8]

end Windows

/-- The block of the gradient that point `t` is to write. -/
def part (x : S8192x1024.Idx → EReal) (t : Nat) (ht : t < 32) : S256x1024.Idx → EReal :=
  fun y => grad x (ix2 ⟨256 * t + (y 0).val, by have : (y 0).val < 256 := (y 0).isLt; omega⟩ (y 1))

/-- A window sum less the row is the gradient. -/
theorem part_emb (c : Dev nD) (t : Fin cfg0.N) (w o : Nat) (ho : o + 256 ≤ 1024) (hw : ∀ b < 256, width (o + b) = w) (inb inb') (r j : Fin 256) :
    (∑ k ∈ Finset.range w, mean (arg m c) w (256 * t.val + r.val + k) ⟨o + j.val, by omega⟩)
        - View.ld (iblk m c 0 t) (Rect.unit ![0, o] ![256, 256] inb') (ix2 r j)
      = part (arg m c) t.val (lt32 t) ((Rect.unit (s := S256x1024) ![0, o] ![256, 256] inb).emb (ix2 r j)) := by
  have ht := lt32 t
  have e : (Rect.unit (s := S256x1024) ![0, o] ![256, 256] inb).emb (ix2 r j) = ix2 r ⟨o + j.val, by omega⟩ := by
    funext d; fin_cases d <;> apply Fin.ext
    · show 0 + 1 * r.val = r.val; omega
    · show o + 1 * j.val = o + j.val; omega
  have e' : View.ld (iblk m c 0 t) (Rect.unit ![0, o] ![256, 256] inb') (ix2 r j) = iblk m c 0 t (ix2 r ⟨o + j.val, by omega⟩) :=
    congrArg (iblk m c 0 t) (e.trans rfl)
  rw [e, e', blk0 m c t _ _ (by omega)]
  show _ = (∑ k ∈ Finset.range (width (o + j.val)), mean (arg m c) (width (o + j.val)) (256 * t.val + r.val + k) ⟨o + j.val, _⟩) - _
  rw [hw j.val j.isLt]
  rfl

/-- What point `t` leaves in the result's block. -/
theorem outs (c : Dev nD) (t : Fin cfg0.N) (y : S256x1024.Idx) : outsAt0 m c t y = part (arg m c) t.val (lt32 t) y := by
  unfold outsAt0 out0_A_2
  rw [View.read_writes_eq_canon _ _ _ (cover0_A_2 c _ _ _ _ _ _ _ _ _ _ _)]
  unfold kernelRun0_A
  dsimp only
  sl_unfold_words
  simp only [View.readAt_eq_ld, (hs0_0 t).read_unread, (hs0_1 t).read_unread]
  have h0 : ∀ b < 256, width (0 + b) = 2 := by intro b hb; unfold width; split_ifs <;> omega
  have h1 : ∀ b < 256, width (256 + b) = 4 := by intro b hb; unfold width; split_ifs <;> omega
  have h2 : ∀ b < 256, width (512 + b) = 8 := by intro b hb; unfold width; split_ifs <;> omega
  have h3 : ∀ b < 256, width (768 + b) = 16 := by intro b hb; unfold width; split_ifs <;> omega
  refine View.canon_apply_of_pieces _ _ (View.PiecesOf.mem ?_) y ?_
  · refine ⟨?_, ?_, ?_, ?_, trivial⟩
    · intro x; idx_vars x
      refine (sum16 (arg m c) t.val 16 768 (by omega) _ _ (window_load _ _ _ _ (by omega) _ _ _ _ _ _ h3 ?_) x0 x1 rfl).trans (part_emb m c t 16 768 (by omega) h3 _ _ x0 x1)
      exact ⟨low3 m c t _ inb_S272x1024_S16x256_256_768, top3 m c t _ inb_S272x1024_S256x256_0_768,
        low2 m c t _ inb_S272x1024_S16x256_256_512, top2 m c t _ inb_S272x1024_S256x256_0_512,
        low1 m c t _ inb_S272x1024_S16x256_256_256, top1 m c t _ inb_S272x1024_S256x256_0_256,
        low0 m c t _ inb_S272x1024_S16x256_256_0, top0 m c t _ inb_S272x1024_S256x256_0_0, trivial⟩
    · intro x; idx_vars x
      refine (sum8 (arg m c) t.val 8 512 (by omega) _ _ (window_load _ _ _ _ (by omega) _ _ _ _ _ _ h2 ?_) x0 x1 rfl).trans (part_emb m c t 8 512 (by omega) h2 _ _ x0 x1)
      exact ⟨low2 m c t _ inb_S272x1024_S16x256_256_512, top2 m c t _ inb_S272x1024_S256x256_0_512,
        low1 m c t _ inb_S272x1024_S16x256_256_256, top1 m c t _ inb_S272x1024_S256x256_0_256,
        low0 m c t _ inb_S272x1024_S16x256_256_0, top0 m c t _ inb_S272x1024_S256x256_0_0, trivial⟩
    · intro x; idx_vars x
      refine (sum4 (arg m c) t.val 4 256 (by omega) _ _ (window_load _ _ _ _ (by omega) _ _ _ _ _ _ h1 ?_) x0 x1 rfl).trans (part_emb m c t 4 256 (by omega) h1 _ _ x0 x1)
      exact ⟨low1 m c t _ inb_S272x1024_S16x256_256_256, top1 m c t _ inb_S272x1024_S256x256_0_256,
        low0 m c t _ inb_S272x1024_S16x256_256_0, top0 m c t _ inb_S272x1024_S256x256_0_0, trivial⟩
    · intro x; idx_vars x
      refine (sum2 (arg m c) t.val 2 0 (by omega) _ _ (window_load _ _ _ _ (by omega) _ _ _ _ _ _ h0 ?_) x0 x1 rfl).trans (part_emb m c t 2 0 (by omega) h0 _ _ x0 x1)
      exact ⟨low0 m c t _ inb_S272x1024_S16x256_256_0, top0 m c t _ inb_S272x1024_S256x256_0_0, trivial⟩
  · exact View.cover_of_tiledL (s := S256x1024) _ S256x256.size (by sl_kernel_rfl) y

end Cert.KernelIdeal.PoolBlock

end
-- ==== Proof.PoolRef.lean ====
/-
  What the reference of the pooling gradient computes: the sum over the later rows of a mean's gradient less the one a
  window further on.
-/
module

public import proofs.«01_k».proof.Proof.Gen.ReferenceIdeal.Run
public import proofs.«01_k».proof.Proof.PoolMean
public import Idealize.ShloMosaic.Lib.Pointwise
public import Idealize.ShloMosaic.Lib.IdealHost

@[expose] public section

set_option maxRecDepth 16384

noncomputable section

namespace Cert.ReferenceIdeal.Pool

open Cert.ReferenceIdeal Cert.ReferenceIdeal.Gen Cert.ReferenceIdeal.Value Idealize.ShloMosaic Idealize.ShloMosaic.TcCoe Idealize.SL.Sem Cert.Pool

/-- The positions of the window along the rows. -/
abbrev rank3 (n : Nat) : Shape := ⟨3, ![1, n, 1]⟩

def rows (n : Nat) : Fin n ≃ Fin (rank3 n).numel :=
  (⟨fun k => ix3 (0 : Fin 1) k (0 : Fin 1), fun i => i 1, fun _ => rfl, fun i => by
    funext a; fin_cases a
    · exact Subsingleton.elim (α := Fin 1) _ _
    · rfl
    · exact Subsingleton.elim (α := Fin 1) _ _⟩ : Fin n ≃ (rank3 n).Idx).trans (rank3 n).rowMajor

theorem foldl_sum {ι : Type} (g : ι → EReal) (l : List ι) (a : EReal) : l.foldl (fun r n => r + g n) a = a + (l.map g).sum := by
  induction l generalizing a with
  | nil => simp
  | cons n l ih => rw [List.foldl_cons, ih, List.map_cons, List.sum_cons, add_assoc]

/-- A windowed sum read at an index: the initial value and the window's elements. -/
theorem window_apply {s t u : Shape} (window strides lo hi : Fin s.rank → Nat) (x : FVec Ideal s .f32) (init : FVec Ideal u .f32)
    (h : s.ReduceWindows window strides lo hi t) (hu : 0 < u.numel) (j : t.Idx) :
    Host.reduceWindowAdd (F := Ideal) window strides lo hi x init h hu j
      = init (Shape.Idx.first hu) + ∑ n : Fin (⟨s.rank, window⟩ : Shape).numel,
        (if hin : ∀ a, lo a ≤ (j (a.cast h.1.symm)).val * strides a + ((⟨s.rank, window⟩ : Shape).rowMajor.symm n a).val
            ∧ (j (a.cast h.1.symm)).val * strides a + ((⟨s.rank, window⟩ : Shape).rowMajor.symm n a).val - lo a < s.size a
          then x (fun a => ⟨_, (hin a).2⟩) else init (Shape.Idx.first hu)) := by
  rw [Fin.sum_univ_def, ← foldl_sum]
  unfold Host.reduceWindowAdd
  rw [Ideal.hostReduceWindowAdd_def]
  unfold Ideal.hostReduceWindowAdd Host.reduceWindow
  dsimp only
  refine congrArg (fun f => List.foldl f _ _) (funext fun r => funext fun n => congrArg (fun b : EReal => r + b) ?_)
  split_ifs <;> rfl

theorem init_zero (hu : 0 < S_.numel) (hb) :
    (broadcastInDim S_ ![] hb (constant (F := Ideal) S_ .f32 0x00000000#32) : FVec Ideal S_ .f32) (Shape.Idx.first hu) = (0 : EReal) := by
  simp [broadcastInDim, constant, FloatOps.ofBits, Ideal.ofBits, Ideal.ieee]

/-- A running sum from the last row back, read at a row: the sum of it and the later rows. -/
theorem suffix_n (n d q : Nat) (x : FVec Ideal ⟨3, ![1, n, d]⟩ .f32) (init : FVec Ideal S_ .f32) (h hu) (h0 : init (Shape.Idx.first hu) = (0 : EReal)) (a : Fin 1) (t : Fin n) (j : Fin d) :
    Host.reduceWindowAdd (F := Ideal) (s := ⟨3, ![1, n, d]⟩) (t := ⟨3, ![1, n, d]⟩) ![1, n, 1] ![1, 1, 1] ![0, 0, 0] ![0, q, 0] x init h hu
      (ix3 a t j) = ∑ k : Fin n, if hk : t.val + k.val < n then x (ix3 (0 : Fin 1) ⟨t.val + k.val, hk⟩ j) else 0 := by
  rw [window_apply, h0, zero_add]
  refine (Equiv.sum_comp (rows n) _).symm.trans (Finset.sum_congr rfl fun k _ => ?_)
  have e : (rank3 n).rowMajor.symm (rows n k) = ix3 (0 : Fin 1) k (0 : Fin 1) := Equiv.symm_apply_apply _ _
  have e0 : ((rank3 n).rowMajor.symm (rows n k) 0).val = 0 := by rw [e]; rfl
  have e1 : ((rank3 n).rowMajor.symm (rows n k) 1).val = k.val := by rw [e]; rfl
  have e2 : ((rank3 n).rowMajor.symm (rows n k) 2).val = 0 := by rw [e]; rfl
  have ha := a.isLt
  by_cases hk : t.val + k.val < n
  · rw [dif_pos hk, dif_pos ?_]
    · refine congrArg x (funext fun b => Fin.ext ?_)
      fin_cases b
      · show a.val * 1 + ((rank3 n).rowMajor.symm (rows n k) 0).val - 0 = 0; omega
      · show t.val * 1 + ((rank3 n).rowMajor.symm (rows n k) 1).val - 0 = t.val + k.val; omega
      · show j.val * 1 + ((rank3 n).rowMajor.symm (rows n k) 2).val - 0 = j.val; omega
    · intro b
      fin_cases b
      · show 0 ≤ a.val * 1 + ((rank3 n).rowMajor.symm (rows n k) 0).val ∧ a.val * 1 + ((rank3 n).rowMajor.symm (rows n k) 0).val - 0 < 1; omega
      · show 0 ≤ t.val * 1 + ((rank3 n).rowMajor.symm (rows n k) 1).val ∧ t.val * 1 + ((rank3 n).rowMajor.symm (rows n k) 1).val - 0 < n; omega
      · show 0 ≤ j.val * 1 + ((rank3 n).rowMajor.symm (rows n k) 2).val ∧ j.val * 1 + ((rank3 n).rowMajor.symm (rows n k) 2).val - 0 < d
        have := j.isLt; omega
  · rw [dif_neg hk, dif_neg ?_]
    intro hin
    have : t.val * 1 + ((rank3 n).rowMajor.symm (rows n k) 1).val - 0 < n := (hin 1).2
    omega

theorem suffix (x : FVec Ideal S1x8192x1024 .f32) (h hu hb) (a : Fin 1) (t : Fin 8192) (j : Fin 1024) :
    Host.reduceWindowAdd (F := Ideal) (t := S1x8192x1024) ![1, 8192, 1] ![1, 1, 1] ![0, 0, 0] ![0, 8191, 0] x
      (broadcastInDim S_ ![] hb (constant (F := Ideal) S_ .f32 0x00000000#32)) h hu
      (ix3 a t j) = ∑ k : Fin 8192, if hk : t.val + k.val < 8192 then x (ix3 (0 : Fin 1) ⟨t.val + k.val, hk⟩ j) else 0 :=
  suffix_n 8192 1024 8191 x _ h hu (init_zero hu hb) a t j

/-- The words that count the rows, as a number. -/
theorem counted (n : Nat) (hn : n < 8192) :
    ((1 : EReal) + (FloatOps.sitofp .f32 (BitVec.ofNat 32 n) : Ideal .f32) : EReal) = (((n + 1 : Nat) : ℝ) : EReal) := by
  show (1 : EReal) + (((BitVec.ofNat 32 n).toInt : ℝ) : EReal) = _
  have : (BitVec.ofNat 32 n).toInt = (n : ℤ) := by
    rw [BitVec.toInt_eq_toNat_cond, BitVec.toNat_ofNat]; split <;> omega
  rw [this]; push_cast; rw [add_comm]

/-- A mean's gradient less the one a window further on, as one group of columns has it. -/
theorem pair (x : S8192x1024.Idx → EReal) (W w n L : Nat) (e : W = w) (hn : n < 8192) (hL : L + w = 8192) (C : Prop) [Decidable C] (hC : C) (j j' : Fin 1024)
    (hj : j' = j) (k : EReal) (hk : k = ((w : ℝ) : EReal)) :
    (Ideal.div (x (ix2 ⟨n, hn⟩ j')) (min ((1 : EReal) + (FloatOps.sitofp .f32 (BitVec.ofNat 32 n) : Ideal .f32)) k)
      + if h : n < L ∧ C then -Ideal.div (x (ix2 ⟨w + n, by omega⟩ j')) (min ((1 : EReal) + (FloatOps.sitofp .f32 (BitVec.ofNat 32 (w + n)) : Ideal .f32)) k)
        else 0) = mean x W n j - mean x W (n + W) j := by
  subst hj hk; subst e
  rw [counted n hn, mean_eq x _ n j' hn, sub_eq_add_neg]
  refine congrArg₂ (fun a b : EReal => a + b) rfl ?_
  split_ifs with h
  · rw [counted (_ + n) (by omega), Nat.add_comm n, mean_eq x _ (_ + n) j' (by omega)]
  · rw [mean_beyond x _ _ j' (by have : ¬ n < L := fun h' => h ⟨h', hC⟩; omega), neg_zero]

section Groups

variable {P Q R S : Prop} [Decidable P] [Decidable Q] [Decidable R] [Decidable S]
  {p : P → EReal} {q : Q → EReal} {r : R → EReal} {s : S → EReal}

/-! Of four summands that are each present in one group of columns, the one that is. -/

theorem first_of (h : P) (h1 : ¬Q) (h2 : ¬R) (h3 : ¬S) :
    ((((if h : P then p h else 0) + if h : Q then q h else 0) + if h : R then r h else 0) + if h : S then s h else 0) = p h := by
  simp only [dif_pos h, dif_neg h1, dif_neg h2, dif_neg h3, add_zero]

theorem second_of (h1 : ¬P) (h : Q) (h2 : ¬R) (h3 : ¬S) :
    ((((if h : P then p h else 0) + if h : Q then q h else 0) + if h : R then r h else 0) + if h : S then s h else 0) = q h := by
  simp only [dif_pos h, dif_neg h1, dif_neg h2, dif_neg h3, add_zero, zero_add]

theorem third_of (h1 : ¬P) (h2 : ¬Q) (h : R) (h3 : ¬S) :
    ((((if h : P then p h else 0) + if h : Q then q h else 0) + if h : R then r h else 0) + if h : S then s h else 0) = r h := by
  simp only [dif_pos h, dif_neg h1, dif_neg h2, dif_neg h3, add_zero, zero_add]

theorem fourth_of (h1 : ¬P) (h2 : ¬Q) (h3 : ¬R) (h : S) :
    ((((if h : P then p h else 0) + if h : Q then q h else 0) + if h : R then r h else 0) + if h : S then s h else 0) = s h := by
  simp only [dif_pos h, dif_neg h1, dif_neg h2, dif_neg h3, zero_add]

end Groups

theorem reference (m : (ℓ : Loc nD τ sig) → Buf (Elt Ideal) ℓ) (c : Dev nD) (x : S8192x1024.Idx → EReal) (hx : m ((c.tc : Thread nD τ).loc main_arg0) = x)
    (t : Fin 8192) (j : Fin 1024) :
    res_main_v91 m c (ix2 t j) = -(x (ix2 t j))
      + ∑ k : Fin 8192, if hk : t.val + k.val < 8192 then
          mean x (width j.val) (t.val + k.val) j - mean x (width j.val) (t.val + k.val + width j.val) j else 0 := by
  unfold res_main_v91
  rw [hx]
  pointwise []
  refine congrArg₂ (fun a b : EReal => a + b) rfl ((suffix _ _ _ _ _ t j).trans (Finset.sum_congr rfl fun k _ => ?_))
  split_ifs with hk
  · pointwise []
    have hj := j.isLt
    by_cases h0 : j.val < 256
    · have e : width j.val = 2 := by unfold width; split_ifs <;> omega
      refine (fourth_of ?_ ?_ ?_ ⟨hk, h0⟩).trans (pair x _ 2 _ 8190 e hk (by norm_num) _ h0 j j rfl _ two) <;> omega
    by_cases h1 : j.val < 512
    · have e : width j.val = 4 := by unfold width; split_ifs <;> omega
      have h1' : 256 ≤ j.val ∧ j.val - 256 < 256 := by omega
      refine (third_of ?_ ?_ ⟨hk, h1'⟩ ?_).trans (pair x _ 4 _ 8188 e hk (by norm_num) _ h1'.2 j _ (by apply Fin.ext; show 256 + (j.val - 256) = _; omega) _ four) <;> omega
    by_cases h2 : j.val < 768
    · have e : width j.val = 8 := by unfold width; split_ifs <;> omega
      have h2' : 512 ≤ j.val ∧ j.val - 512 < 256 := by omega
      refine (second_of ?_ ⟨hk, h2'⟩ ?_ ?_).trans (pair x _ 8 _ 8184 e hk (by norm_num) _ h2'.2 j _ (by apply Fin.ext; show 512 + (j.val - 512) = _; omega) _ eight) <;> omega
    · have e : width j.val = 16 := by unfold width; split_ifs <;> omega
      have h3' : 768 ≤ j.val ∧ j.val - 768 < 256 := by omega
      refine (first_of ⟨hk, h3'⟩ ?_ ?_ ?_).trans (pair x _ 16 _ 8176 e hk (by norm_num) _ h3'.2 j _ (by apply Fin.ext; show 768 + (j.val - 768) = _; omega) _ sixteen) <;> omega
  · rfl

end Cert.ReferenceIdeal.Pool

end
-- ==== Proof.Reals.lean ====
/-
  Numbers among the values: sums and quotients of numbers, and what a bound on the absolute value says.
-/
module

public import Idealize.ShloMosaic.Lib.Pointwise
public import Idealize.ShloMosaic.Lib.IdealHost

@[expose] public section

noncomputable section

namespace Cert.Reals

open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_coe (a b : ℝ) (hb : b ≠ 0) : Ideal.div (a : EReal) (b : EReal) = ((a / b : ℝ) : EReal) := by
  rw [Ideal.div, if_neg (by exact_mod_cast hb), ← EReal.coe_inv, ← EReal.coe_mul, div_eq_mul_inv]

/-- A number taken out of a sum of numbers. -/
theorem mul_sum {ι : Type} (s : Finset ι) (a : ℝ) (f : ι → ℝ) : (∑ i ∈ s, (a : EReal) * (f i : EReal) : EReal) = (a : EReal) * ∑ i ∈ s, (f i : EReal) := by
  rw [← coe_sum, ← EReal.coe_mul, Finset.mul_sum, coe_sum]
  exact Finset.sum_congr rfl fun i _ => (EReal.coe_mul ..).symm

theorem infinity : Ideal.ofBits .f32 0x7F800000#32 = (⊤ : EReal) := by
  simp [Ideal.ofBits, Ideal.ieee]

/-- An absolute value below infinity is a number's. -/
theorem of_lt (x : EReal) (h : Ideal.cmp .olt (max x (-x)) (Ideal.ofBits .f32 0x7F800000#32) = 1#1) : ∃ r : ℝ, x = (r : EReal) := by
  rw [infinity] at h
  have lt : max x (-x) < ⊤ := by
    by_contra hn
    have : BitVec.ofBool (decide (max x (-x) < ⊤)) = 1#1 := h
    rw [decide_eq_false hn] at this
    exact absurd this (by decide)
  refine ⟨x.toReal, (EReal.coe_toReal ?_ ?_).symm⟩
  · exact (lt_of_le_of_lt (le_max_left _ _) lt).ne
  · intro hb
    rw [hb] at lt
    exact absurd lt (by simp)

end Cert.Reals

end
-- ==== Proof.PoolClaims.lean ====
/-
  The claims about the pooling gradient: the kernel's result array is the function `grad`, and so is the reference's where the
  gradient handed in is finite.
-/
module

public import proofs.«01_k».proof.Defs
public import proofs.«01_k».proof.Pre_finite_gradient
public import proofs.«01_k».proof.Proof.PoolBlock
public import proofs.«01_k».proof.Proof.PoolRef
public import proofs.«01_k».proof.Proof.Reals
public import Idealize.ShloMosaic.Lib.Pipeline.Value
public import Idealize.ShloMosaic.Lib.Quiescent

@[expose] public section

set_option maxRecDepth 16384

noncomputable section

namespace Cert.KernelIdeal.PoolBlock

open Cert.KernelIdeal Cert.KernelIdeal.Gen Idealize.ShloMosaic Idealize.ShloMosaic.TcCoe Idealize.SL.Sem Cert.Pool

variable (m : (ℓ : Loc nD τ sig) → Buf (Elt Ideal) ℓ)

/-- The kernel's result array after the run. -/
theorem result (c : Dev nD) : (dats m 0 c).arrAt 2 cfg0.N = grad (arg m c) := by
  refine (dats m 0 c).arrAt_eq_of_covers 2 _ (by decide +kernel) fun t hf y => ?_
  blk_simp
  rw [after0_2]
  have ht := lt32 t
  rw [outs]
  unfold part
  symm
  blk_ext [(idx t).2.2.1]

end Cert.KernelIdeal.PoolBlock

namespace Cert.Pool

open Idealize.ShloMosaic Cert.Reals

/-- Differences a window apart, summed from a row on, leave the window at that row. -/
theorem telescope (μ : Nat → ℝ) (N t w : Nat) (h : ∀ n, N ≤ n → μ n = 0) :
    (∑ k : Fin N, if t + k.val < N then μ (t + k.val) - μ (t + k.val + w) else 0) = ∑ k ∈ Finset.range w, μ (t + k) := by
  have e : ∀ k : Fin N, (if t + k.val < N then μ (t + k.val) - μ (t + k.val + w) else 0) = μ (t + k.val) - μ (t + (w + k.val)) := by
    intro k
    rw [← Nat.add_assoc, Nat.add_right_comm t w]
    split_ifs with hk
    · rfl
    · rw [h _ (by omega), h _ (by omega), sub_zero]
  rw [Finset.sum_congr rfl fun k _ => e k, Fin.sum_univ_eq_sum_range (fun k => μ (t + k) - μ (t + (w + k))) N, Finset.sum_sub_distrib,
    sub_eq_iff_eq_add, ← Finset.sum_range_add (fun k => μ (t + k)) w N, Nat.add_comm w N, Finset.sum_range_add]
  rw [Finset.sum_eq_zero (s := Finset.range w) fun k _ => h _ (by omega), add_zero]

variable (x : (⟨2, ![8192, 1024]⟩ : Shape).Idx → EReal) (y : (⟨2, ![8192, 1024]⟩ : Shape).Idx → ℝ) (hy : ∀ i, x i = (y i : EReal))

/-- The gradient of a row's mean where the gradient handed in is a number. -/
def real (w : Nat) (j : Fin 1024) (n : Nat) : ℝ := if h : n < 8192 then y (ix2 ⟨n, h⟩ j) * (min ((n + 1 : Nat) : ℝ) (w : ℝ))⁻¹ else 0

include hy in
theorem mean_real (w : Nat) (hw : 0 < w) (n : Nat) (j : Fin 1024) : mean x w n j = (real y w j n : EReal) := by
  unfold mean real
  split_ifs with h
  · have e : min (((n + 1 : Nat) : ℝ) : EReal) ((w : ℝ) : EReal) = ((min ((n + 1 : Nat) : ℝ) (w : ℝ) : ℝ) : EReal) := (EReal.coe_strictMono.monotone.map_min ..).symm
    have h0 : min ((n + 1 : Nat) : ℝ) (w : ℝ) ≠ 0 :=
      (lt_min (by exact_mod_cast Nat.succ_pos n) (by exact_mod_cast hw)).ne'
    rw [e, hy, Ideal.div, if_neg (by exact_mod_cast h0), ← EReal.coe_inv, ← EReal.coe_mul]
  · rfl

include hy in
/-- The differences the reference sums come to the window that the kernel sums. -/
theorem windows (t : Fin 8192) (j : Fin 1024) (w : Nat) (hw : 0 < w) :
    (∑ k : Fin 8192, if hk : t.val + k.val < 8192 then mean x w (t.val + k.val) j - mean x w (t.val + k.val + w) j else 0)
      = ∑ k ∈ Finset.range w, mean x w (t.val + k) j := by
  have e := telescope (real y w j) 8192 t.val w (fun n hn => dif_neg (by omega))
  have e' := congrArg (fun r : ℝ => (r : EReal)) e
  simp only [coe_sum] at e'
  rw [Finset.sum_congr rfl fun k _ => mean_real x y hy w hw (t.val + k) j, ← e']
  refine Finset.sum_congr rfl fun k _ => ?_
  split_ifs with hk
  · rw [mean_real x y hy w hw, mean_real x y hy w hw, EReal.coe_sub]
  · rfl

theorem width_pos (n : Nat) : 0 < width n := by unfold width; split_ifs <;> omega

end Cert.Pool

namespace Cert.ReferenceIdeal.Pool

open Cert.ReferenceIdeal Cert.ReferenceIdeal.Gen Cert.ReferenceIdeal.Value Idealize.ShloMosaic Idealize.ShloMosaic.TcCoe Idealize.SL.Sem Cert.Pool

/-- The reference's result where the gradient handed in is a number everywhere. -/
theorem result (m : (ℓ : Loc nD τ sig) → Buf (Elt Ideal) ℓ) (c : Dev nD) (x : S8192x1024.Idx → EReal) (hx : m ((c.tc : Thread nD τ).loc main_arg0) = x)
    (hf : ∀ i, ∃ r : ℝ, x i = (r : EReal)) : res_main_v91 m c = grad x := by
  choose y hy using hf
  funext i
  idx_vars i
  refine (reference m c x hx i0 i1).trans ?_
  rw [windows x y hy i0 i1 (width i1.val) (width_pos _), add_comm]
  rfl

end Cert.ReferenceIdeal.Pool

namespace Cert.Pool

open Idealize.ShloMosaic Cert.Reals

/-- What the precondition says: the gradient handed in is a number everywhere. -/
theorem finite [Cert.Pre_finite_gradient.Facts] (x : (⟨2, ![8192, 1024]⟩ : Shape).Idx → EReal)
    (h : Cert.Pre_finite_gradient.fn (F := Ideal) x = fun _ => 1#1) (i : (⟨2, ![8192, 1024]⟩ : Shape).Idx) : ∃ r : ℝ, x i = (r : EReal) := by
  idx_vars i
  have e := congrFun h (ix2 i0 i1)
  unfold Cert.Pre_finite_gradient.fn at e
  have e' : Ideal.cmp .olt (max (x (ix2 i0 i1)) (-(x (ix2 i0 i1)))) (Ideal.ofBits .f32 0x7F800000#32) = 1#1 := e
  exact of_lt _ e'

end Cert.Pool

end
-- ==== Proof.Products.lean ====
/-
  Products of two matrices over the extended reals, by which factor's axis is summed over, and the same sum taken in blocks.
-/
module

public import Idealize.ShloMosaic.Lib.Pointwise
public import Idealize.ShloMosaic.Lib.Pipeline.ValueKit

@[expose] public section

noncomputable section

namespace Cert.Products

open Idealize.ShloMosaic

/-- The shape of a matrix. -/
abbrev Mat (a b : Nat) : Shape := ⟨2, ![a, b]⟩

/-- Rows of the first times columns of the second. -/
def rowsByColumns {a b n : Nat} (x : (Mat a n).Idx → EReal) (w : (Mat n b).Idx → EReal) : (Mat a b).Idx → EReal :=
  fun y => ∑ k : Fin n, x (ix2 (y 0) k) * w (ix2 k (y 1))

/-- Rows of the first times rows of the second. -/
def rowsByRows {a b n : Nat} (x : (Mat a n).Idx → EReal) (w : (Mat b n).Idx → EReal) : (Mat a b).Idx → EReal :=
  fun y => ∑ k : Fin n, x (ix2 (y 0) k) * w (ix2 (y 1) k)

/-- Columns of the first times columns of the second. -/
def columnsByColumns {a b n : Nat} (x : (Mat n a).Idx → EReal) (w : (Mat n b).Idx → EReal) : (Mat a b).Idx → EReal :=
  fun y => ∑ k : Fin n, x (ix2 k (y 0)) * w (ix2 k (y 1))

/-- A row added to every row of a matrix. -/
def plusRow {a b : Nat} (x : (Mat a b).Idx → EReal) (r : (Mat 1 b).Idx → EReal) : (Mat a b).Idx → EReal :=
  fun y => x y + r (ix2 0 (y 1))

/-- One layer of a gathered weight: its four shards' columns side by side. -/
def sideBySide {l k n : Nat} (i : Fin l) (w : (⟨4, ![4, l, k, n]⟩ : Shape).Idx → EReal) : (Mat k (4 * n)).Idx → EReal :=
  fun y => w (ix4 ⟨(y 1).val / n, Nat.div_lt_of_lt_mul (Nat.lt_of_lt_of_eq (y 1).isLt (Nat.mul_comm 4 n))⟩ i (y 0) ⟨(y 1).val % n, Nat.mod_lt _ (Nat.pos_of_mul_pos_left ((Nat.zero_le _).trans_lt (y 1).isLt))⟩)

/-- A weight's gradient as its four shards hold it. -/
def perShard {k n : Nat} (g : (Mat k (4 * n)).Idx → EReal) : (⟨3, ![4, k, n]⟩ : Shape).Idx → EReal :=
  fun y => g (ix2 (y 1) ⟨(y 0).val * n + (y 2).val, by
    have h0 : (y 0).val < 4 := (y 0).isLt
    have h2 : (y 2).val < n := (y 2).isLt
    have h := Nat.mul_le_mul_right n (Nat.le_of_lt_succ h0)
    omega⟩)

/-- Which group a column belongs to. -/
def groupOf {n : Nat} (j : Fin (4 * n)) : Fin 4 := ⟨j.val / n, Nat.div_lt_of_lt_mul (Nat.lt_of_lt_of_eq j.isLt (Nat.mul_comm 4 n))⟩

/-- A column's place in its group. -/
def placeOf {n : Nat} (j : Fin (4 * n)) : Fin n := ⟨j.val % n, Nat.mod_lt _ (Nat.pos_of_mul_pos_left ((Nat.zero_le _).trans_lt j.isLt))⟩

/-- The column of a group at a place. -/
def columnOf {n : Nat} (g : Fin 4) (k : Fin n) : Fin (4 * n) := ⟨g.val * n + k.val, by
  have h := Nat.mul_le_mul_right n (Nat.le_of_lt_succ g.isLt)
  have hk := k.isLt
  omega⟩

/-- Each group of columns times its own matrix's columns. -/
def groupsByColumns {a n : Nat} (x : (Mat a (4 * n)).Idx → EReal) (w : (⟨3, ![4, n, n]⟩ : Shape).Idx → EReal) : (Mat a (4 * n)).Idx → EReal :=
  fun y => ∑ k : Fin n, x (ix2 (y 0) (columnOf (groupOf (y 1)) k)) * w (ix3 (groupOf (y 1)) k (placeOf (y 1)))

/-- Each group of columns times its own matrix's rows. -/
def groupsByRows {a n : Nat} (x : (Mat a (4 * n)).Idx → EReal) (w : (⟨3, ![4, n, n]⟩ : Shape).Idx → EReal) : (Mat a (4 * n)).Idx → EReal :=
  fun y => ∑ k : Fin n, x (ix2 (y 0) (columnOf (groupOf (y 1)) k)) * w (ix3 (groupOf (y 1)) (placeOf (y 1)) k)

/-- The columns of a group of the first times the columns of the same group of the second. -/
def groupsOfColumns {a n : Nat} (x w : (Mat a (4 * n)).Idx → EReal) : (⟨3, ![4, n, n]⟩ : Shape).Idx → EReal :=
  fun y => ∑ k : Fin a, x (ix2 k (columnOf (y 0) (y 1))) * w (ix2 k (columnOf (y 0) (y 2)))

end Cert.Products

end
-- ==== Proof.DownInput.lean ====
/-
  The gradient of the feed-forward network's last product in its left factor: each block of the kernel's result is one
  product over the whole contraction, and so is the reference's.
-/
module

public import proofs.«01_k».proof.Proof.Gen.Kernel2Ideal.Value
public import proofs.«01_k».proof.Proof.Gen.Reference2Ideal.Run
public import proofs.«01_k».proof.Proof.Products
public import Idealize.ShloMosaic.Lib.Pointwise
public import Idealize.ShloMosaic.Lib.IdealHost
public import Idealize.ShloMosaic.Lib.Pipeline.ValueKit

@[expose] public section

set_option maxRecDepth 16384

noncomputable section

namespace Cert.Kernel2Ideal.Down

open Cert.Kernel2Ideal Cert.Kernel2Ideal.Gen Idealize.ShloMosaic Idealize.ShloMosaic.TcCoe Idealize.SL.Sem Cert.Products

variable (m : (ℓ : Loc nD τ sig) → Buf (Elt Ideal) ℓ)

theorem idx : ∀ t : Fin grid0.N, win0_0.index t = ![win0_2.index t 0, 0] ∧ win0_1.index t = ![win0_2.index t 1, 0] := by decide +kernel

/-- The array after the run is the product. -/
theorem result (c : Dev nD) : (dats m 0 c).arrAt 2 cfg0.N
    = rowsByRows (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  pointwise [k0_pay1, rowsByRows]
  refine Fin.sum_fin_congr fun k => ?_
  congr 1 <;> blk_ext [iblk, V, idx t]

end Cert.Kernel2Ideal.Down

namespace Cert.Reference2Ideal.Down

open Cert.Reference2Ideal Cert.Reference2Ideal.Gen Cert.Reference2Ideal.Value Idealize.ShloMosaic Idealize.ShloMosaic.TcCoe Idealize.SL.Sem Cert.Products

theorem result (dy : FVec Ideal S8192x1024 .bf16) (w : FVec Ideal S2816x1024 .bf16) (h1 h2 h3) :
    (truncf .bf16 (Host.dotGeneral (F := Ideal) dot_S8192x1024_S2816x1024_S8192x2816_1_1_0_0_n_n none (extf .f32 dy h1) (extf .f32 w h2)) h3 : FVec Ideal S8192x2816 .bf16) = rowsByRows dy w := by
  funext y
  idx_vars y
  pointwise [rowsByRows]

end Cert.Reference2Ideal.Down

end
-- ==== Proof.DownWeight.lean ====
/-
  The gradient of the feed-forward network's last product in its weight: the kernel adds four partial products over the
  tokens into an array it carries, and the reference takes one product.
-/
module

public import proofs.«01_k».proof.Proof.Gen.Kernel3Ideal.Value
public import proofs.«01_k».proof.Proof.Gen.Reference3Ideal.Run
public import proofs.«01_k».proof.Proof.Products
public import Idealize.ShloMosaic.Lib.Pointwise
public import Idealize.ShloMosaic.Lib.IdealHost
public import Idealize.ShloMosaic.Lib.Pipeline.ValueKit
public import Idealize.ShloMosaic.Lib.Pipeline.ReadBack

@[expose] public section

set_option maxRecDepth 16384

noncomputable section

namespace Cert.Kernel3Ideal.Down

open Cert.Kernel3Ideal Cert.Kernel3Ideal.Gen Idealize.ShloMosaic Idealize.ShloMosaic.TcCoe Idealize.SL.Sem Cert.Products

variable (m : (ℓ : Loc nD τ sig) → Buf (Elt Ideal) ℓ)

theorem idx : ∀ t : Fin grid0.N, win0_0.index t = ![t.val % 4, t.val / 4] ∧ win0_1.index t = ![t.val % 4, 0]
    ∧ win0_2.index t = ![t.val / 4, 0] := by decide +kernel

/-- What one point adds: the product over its tokens. -/
def part (c : Dev nD) (t : Fin cfg0.N) : S1408x1024.Idx → EReal := columnsByColumns (a := 1408) (b := 1024) (n := 2048) (iblk m c 0 t) (iblk m c 1 t)

theorem part_eq (c : Dev nD) (t : Fin cfg0.N) (j : S1408x1024.Idx) : k0_pay1 (F := Ideal) (iblk m c 0 t) (iblk m c 1 t) j = part m c t j := by
  idx_vars j
  pointwise [k0_pay1, part, columnsByColumns]

/-- What is carried after the last point of a block: the sum over the block's points. -/
theorem carried (c : Dev nD) (t : Fin cfg0.N) (hr : t.val % 4 = 4 - 1) (j : S1408x1024.Idx) :
    (outsAt0 m c t.val t.isLt).2 j
      = (∑ s : Fin 4, part m c ⟨4 * (t.val / 4) + s.val, Pipeline.run_point_lt_of_flush t hr s⟩ j : EReal) := by
  rw [Pipeline.eq_sum_fin_of_reset_step_apply_of_flush (M := EReal) (fun n h => (outsAt0 m c n h).2) 4 (fun _ => 0)
    (part m c) ?_ ?_ t hr j]
  · exact zero_add _
  · intro t h j
    rw [outsAt0_A m c t h (by omega) (by omega)]
    frame_out
    rw [zero_add, ← part_eq]
    simp only [k0_pay2, shapeCast_self]
  · intro t h j
    by_cases h2 : t.val % 4 = 3
    · rw [outsAt0_C m c t h (by omega) h2]
      frame_out
      rw [← part_eq]
      simp only [k0_pay3, shapeCast_self, read_unread_whole]
      rfl
    · rw [outsAt0_B m c t h (by omega) h2]
      frame_out
      rw [← part_eq]
      simp only [k0_pay3, shapeCast_self, read_unread_whole]
      rfl

/-- What the last point of a block writes out is what is carried. -/
theorem written (c : Dev nD) (t : Fin cfg0.N) (h : t.val % 4 = 3) (j : S1408x1024.Idx) :
    (outsAt0 m c t.val t.isLt).1 j = (outsAt0 m c t.val t.isLt).2 j := by
  rw [outsAt0_C m c t (by omega) (by omega) h]
  frame_out
  simp only [k0_pay4, k0_pay3, shapeCast_self, read_unread_whole]
  rfl

/-- The array after the run is the product. -/
theorem result (c : Dev nD) : (dats m 0 c).arrAt 2 cfg0.N
    = columnsByColumns (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  rw [after0_2, written m c t ht, carried m c t ht]
  idx_vars y
  simp only [part, columnsByColumns]
  refine Fin.sum_mul_add_congr (S := 4) (n := 2048) fun s k hl => ?_
  congr 1 <;> blk_ext [iblk, V, (idx t).2.2, (idx ⟨4 * (t.val / 4) + s.val, Pipeline.run_point_lt_of_flush t ht s⟩).1, (idx ⟨4 * (t.val / 4) + s.val, Pipeline.run_point_lt_of_flush t ht s⟩).2.1]

end Cert.Kernel3Ideal.Down

namespace Cert.Reference3Ideal.Down

open Cert.Reference3Ideal Cert.Reference3Ideal.Gen Cert.Reference3Ideal.Value Idealize.ShloMosaic Idealize.ShloMosaic.TcCoe Idealize.SL.Sem Cert.Products

theorem result (a : FVec Ideal S8192x2816 .bf16) (dy : FVec Ideal S8192x1024 .bf16) (h1 h2 h3 h4) :
    (truncf .bf16 (transpose S2816x1024 [1, 0] (Host.dotGeneral (F := Ideal) dot_S8192x1024_S8192x2816_S1024x2816_0_0_1_1_n_n none
      (extf .f32 dy h1) (extf .f32 a h2)) h3) h4 : FVec Ideal S2816x1024 .bf16) = columnsByColumns a dy := by
  funext y
  idx_vars y
  pointwise [columnsByColumns]
  exact Fin.sum_fin_congr fun k => mul_comm _ _

end Cert.Reference3Ideal.Down

end
-- ==== Proof.UpInput.lean ====
/-
  The gradient of the feed-forward network's first product in its input: the kernel adds one product per shard of the weight into
  an array it carries, and the reference takes one product.
-/
module

public import proofs.«01_k».proof.Proof.Gen.Kernel4Ideal.Value
public import proofs.«01_k».proof.Proof.Gen.Reference4Ideal.Run
public import proofs.«01_k».proof.Proof.Products
public import Idealize.ShloMosaic.Lib.Pointwise
public import Idealize.ShloMosaic.Lib.IdealHost
public import Idealize.ShloMosaic.Lib.Pipeline.ValueKit
public import Idealize.ShloMosaic.Lib.Pipeline.ReadBack

@[expose] public section

set_option maxRecDepth 16384

noncomputable section

namespace Cert.Kernel4Ideal.Up

open Cert.Kernel4Ideal Cert.Kernel4Ideal.Gen Idealize.ShloMosaic Idealize.ShloMosaic.TcCoe Idealize.SL.Sem Cert.Products

variable (m : (ℓ : Loc nD τ sig) → Buf (Elt Ideal) ℓ)

theorem idx : ∀ t : Fin grid0.N, win0_0.index t = ![t.val / 4, t.val % 4] ∧ win0_1.index t = ![t.val % 4, 0, 0, 0]
    ∧ win0_2.index t = ![t.val / 4, 0] := by decide +kernel

/-- What one point adds: the product over one shard's columns. -/
def part (c : Dev nD) (t : Fin cfg0.N) : S1024x1024.Idx → EReal := rowsByRows (a := 1024) (b := 1024) (n := 1408) (iblk m c 0 t) (fun y => iblk m c 1 t (ix4 (0 : Fin 1) (0 : Fin 1) (y 0) (y 1)))

theorem part_eq (c : Dev nD) (t : Fin cfg0.N) (j : S1024x1024.Idx) : k0_pay1 (F := Ideal) (iblk m c 0 t) (iblk m c 1 t) j = part m c t j := by
  idx_vars j
  pointwise [k0_pay1, part, rowsByRows]

/-- What is carried after the last point of a block: the sum over the block's points. -/
theorem carried (c : Dev nD) (t : Fin cfg0.N) (hr : t.val % 4 = 4 - 1) (j : S1024x1024.Idx) :
    (outsAt0 m c t.val t.isLt).2 j
      = (∑ s : Fin 4, part m c ⟨4 * (t.val / 4) + s.val, Pipeline.run_point_lt_of_flush t hr s⟩ j : EReal) := by
  rw [Pipeline.eq_sum_fin_of_reset_step_apply_of_flush (M := EReal) (fun n h => (outsAt0 m c n h).2) 4 (fun _ => 0)
    (part m c) ?_ ?_ t hr j]
  · exact zero_add _
  · intro t h j
    rw [outsAt0_A m c t h (by omega) (by omega)]
    frame_out
    rw [zero_add, ← part_eq]
    simp only [k0_pay2, shapeCast_self]
  · intro t h j
    by_cases h2 : t.val % 4 = 3
    · rw [outsAt0_C m c t h (by omega) h2]
      frame_out
      rw [← part_eq]
      simp only [k0_pay3, shapeCast_self, read_unread_whole]
      rfl
    · rw [outsAt0_B m c t h (by omega) h2]
      frame_out
      rw [← part_eq]
      simp only [k0_pay3, shapeCast_self, read_unread_whole]
      rfl

/-- What the last point of a block writes out is what is carried. -/
theorem written (c : Dev nD) (t : Fin cfg0.N) (h : t.val % 4 = 3) (j : S1024x1024.Idx) :
    (outsAt0 m c t.val t.isLt).1 j = (outsAt0 m c t.val t.isLt).2 j := by
  rw [outsAt0_C m c t (by omega) (by omega) h]
  frame_out

/-- The array after the run is the product. -/
theorem result (c : Dev nD) : (dats m 0 c).arrAt 2 cfg0.N
    = rowsByRows (m ((c : Thread nD τ).loc main_arg0)) (sideBySide (l := 4) (k := 1024) (n := 1408) 0 (m ((c : Thread nD τ).loc main_arg1))) := by
  refine (dats m 0 c).arrAt_eq_of_covers 2 _ (by decide +kernel) fun t hf y => ?_
  have ht := (flush0_2 t).mp hf
  blk_simp
  rw [after0_2, written m c t ht, carried m c t ht]
  idx_vars y
  simp only [part, rowsByRows, sideBySide]
  refine Fin.sum_mul_add_congr (S := 4) (n := 1408) fun s k hl => ?_
  congr 1 <;> blk_ext [iblk, V, (idx t).2.2, (idx ⟨4 * (t.val / 4) + s.val, Pipeline.run_point_lt_of_flush t ht s⟩).1, (idx ⟨4 * (t.val / 4) + s.val, Pipeline.run_point_lt_of_flush t ht s⟩).2.1]

end Cert.Kernel4Ideal.Up

namespace Cert.Reference4Ideal.Up

open Cert.Reference4Ideal Cert.Reference4Ideal.Gen Cert.Reference4Ideal.Value Idealize.ShloMosaic Idealize.ShloMosaic.TcCoe Idealize.SL.Sem Cert.Products

theorem result (du : FVec Ideal S8192x5632 .bf16) (w : FVec Ideal S4x4x1024x1408 .bf16) (h1 h2 h3 h4 h5 h6) :
    (Host.dotGeneral (F := Ideal) dot_S8192x5632_S1024x5632_S8192x1024_1_1_0_0_n_n none (extf .f32 du h1)
      (shapeCast S1024x5632 (transpose S1024x4x1408 [1, 0, 2] (extf .f32 (shapeCast S4x1024x1408 (extractStridedSlice S4x1x1024x1408 ![0, 0, 0, 0] w h2) h3) h4) h5) h6)
      : FVec Ideal S8192x1024 .f32) = rowsByRows du (sideBySide (l := 4) (k := 1024) (n := 1408) 0 w) := by
  funext y
  idx_vars y
  pointwise [rowsByRows, sideBySide]

end Cert.Reference4Ideal.Up

end
-- ==== Proof.UpWeight.lean ====
/-
  The gradient of the feed-forward network's first product in its weight, one array per shard: the kernel adds four partial products
  over the tokens into an array it carries, and the reference takes one product.
-/
module

public import proofs.«01_k».proof.Proof.Gen.Kernel5Ideal.Value
public import proofs.«01_k».proof.Proof.Gen.Reference5Ideal.Run
public import proofs.«01_k».proof.Proof.Products
public import Idealize.ShloMosaic.Lib.Pointwise
public import Idealize.ShloMosaic.Lib.IdealHost
public import Idealize.ShloMosaic.Lib.Pipeline.ValueKit
public import Idealize.ShloMosaic.Lib.Pipeline.ReadBack

@[expose] public section

set_option maxRecDepth 16384

noncomputable section

namespace Cert.Kernel5Ideal.Up

open Cert.Kernel5Ideal Cert.Kernel5Ideal.Gen Idealize.ShloMosaic Idealize.ShloMosaic.TcCoe Idealize.SL.Sem Cert.Products

variable (m : (ℓ : Loc nD τ sig) → Buf (Elt Ideal) ℓ)

theorem idx : ∀ t : Fin grid0.N, win0_0.index t = ![t.val % 4, 0] ∧ win0_1.index t = ![t.val % 4, t.val / 4]
    ∧ win0_2.index t = ![t.val / 4, 0, 0] := by decide +kernel

/-- What one point adds: the product over its tokens. -/
def part (c : Dev nD) (t : Fin cfg0.N) : S1024x1408.Idx → EReal := columnsByColumns (a := 1024) (b := 1408) (n := 2048) (iblk m c 0 t) (iblk m c 1 t)

theorem part_eq (c : Dev nD) (t : Fin cfg0.N) (j : S1024x1408.Idx) : k0_pay1 (F := Ideal) (iblk m c 0 t) (iblk m c 1 t) j = part m c t j := by
  idx_vars j
  pointwise [k0_pay1, part, columnsByColumns]

/-- What is carried after the last point of a block: the sum over the block's points. -/
theorem carried (c : Dev nD) (t : Fin cfg0.N) (hr : t.val % 4 = 4 - 1) (j : S1024x1408.Idx) :
    (outsAt0 m c t.val t.isLt).2 j
      = (∑ s : Fin 4, part m c ⟨4 * (t.val / 4) + s.val, Pipeline.run_point_lt_of_flush t hr s⟩ j : EReal) := by
  rw [Pipeline.eq_sum_fin_of_reset_step_apply_of_flush (M := EReal) (fun n h => (outsAt0 m c n h).2) 4 (fun _ => 0)
    (part m c) ?_ ?_ t hr j]
  · exact zero_add _
  · intro t h j
    rw [outsAt0_A m c t h (by omega) (by omega)]
    frame_out
    rw [zero_add, ← part_eq]
    simp only [k0_pay2, shapeCast_self]
  · intro t h j
    by_cases h2 : t.val % 4 = 3
    · rw [outsAt0_C m c t h (by omega) h2]
      frame_out
      rw [← part_eq]
      simp only [k0_pay3, shapeCast_self, read_unread_whole]
      rfl
    · rw [outsAt0_B m c t h (by omega) h2]
      frame_out
      rw [← part_eq]
      simp only [k0_pay3, shapeCast_self, read_unread_whole]
      rfl

theorem last_eq (v : FVec Ideal S1024x1408 .f32) (a : Fin 1) (r : Fin 1024) (j : Fin 1408) : k0_pay4 (F := Ideal) v (ix3 a r j) = v (ix2 r j) := by
  pointwise [k0_pay4]

/-- What the last point of a block writes out is what is carried. -/
theorem written (c : Dev nD) (t : Fin cfg0.N) (h : t.val % 4 = 3) (j : S1x1024x1408.Idx) :
    (outsAt0 m c t.val t.isLt).1 j = (outsAt0 m c t.val t.isLt).2 (ix2 (j 1) (j 2)) := by
  idx_vars j
  rw [outsAt0_C m c t (by omega) (by omega) h]
  frame_out
  exact last_eq _ j0 j1 j2

/-- The array after the run is the product. -/
theorem result (c : Dev nD) : (dats m 0 c).arrAt 2 cfg0.N
    = perShard (k := 1024) (n := 1408) (columnsByColumns (a := 1024) (b := 5632) (n := 8192) (m ((c : Thread nD τ).loc main_arg0)) (m ((c : Thread nD τ).loc main_arg1))) := by
  refine (dats m 0 c).arrAt_eq_of_covers 2 _ (by decide +kernel) fun t hf y => ?_
  have ht := (flush0_2 t).mp hf
  have ht4 : t.val / 4 < 4 := by have := t.isLt; have : cfg0.N = 16 := N_0; omega
  blk_simp
  rw [after0_2, written m c t ht, carried m c t ht]
  idx_vars y
  have e : ((View.whole main_v0).slice (win0_2.rect t)).emb (ix3 y0 y1 y2) = ix3 (⟨t.val / 4, ht4⟩ : Fin 4) y1 y2 := by
    blk_ext [(idx t).2.2]
  rw [e]
  simp only [part, columnsByColumns, perShard]
  refine Fin.sum_mul_add_congr (S := 4) (n := 2048) fun s k hl => ?_
  congr 1
  · blk_ext [iblk, V, (idx ⟨4 * (t.val / 4) + s.val, Pipeline.run_point_lt_of_flush t ht s⟩).1]
  · blk_ext [iblk, V, (idx ⟨4 * (t.val / 4) + s.val, Pipeline.run_point_lt_of_flush t ht s⟩).2.1]

end Cert.Kernel5Ideal.Up

namespace Cert.Reference5Ideal.Up

open Cert.Reference5Ideal Cert.Reference5Ideal.Gen Cert.Reference5Ideal.Value Idealize.ShloMosaic Idealize.ShloMosaic.TcCoe Idealize.SL.Sem Cert.Products

theorem result (h : FVec Ideal S8192x1024 .bf16) (du : FVec Ideal S8192x5632 .bf16) (h1 h2 h3 h4 h5 h6) :
    (truncf .bf16 (transpose S4x1024x1408 [1, 0, 2] (shapeCast S1024x4x1408 (transpose S1024x5632 [1, 0] (Host.dotGeneral (F := Ideal)
      dot_S8192x5632_S8192x1024_S5632x1024_0_0_1_1_n_n none (extf .f32 du h1) (extf .f32 h h2)) h3) h4) h5) h6
      : FVec Ideal S4x1024x1408 .bf16) = perShard (k := 1024) (n := 1408) (columnsByColumns h du) := by
  funext y
  idx_vars y
  pointwise [columnsByColumns, perShard]
  exact Fin.sum_fin_congr fun k => mul_comm _ _

end Cert.Reference5Ideal.Up

end
-- ==== Proof.UpForward.lean ====
/-
  The feed-forward network's first product: each block of the kernel's result is one product with one shard's columns.
-/
module

public import proofs.«01_k».proof.Proof.Gen.Kernel6Ideal.Value
public import proofs.«01_k».proof.Proof.Gen.Reference6Ideal.Run
public import proofs.«01_k».proof.Proof.Products
public import Idealize.ShloMosaic.Lib.Pointwise
public import Idealize.ShloMosaic.Lib.IdealHost
public import Idealize.ShloMosaic.Lib.Pipeline.ValueKit

@[expose] public section

set_option maxRecDepth 16384

noncomputable section

namespace Cert.Kernel6Ideal.Up

open Cert.Kernel6Ideal Cert.Kernel6Ideal.Gen Idealize.ShloMosaic Idealize.ShloMosaic.TcCoe Idealize.SL.Sem Cert.Products

variable (m : (ℓ : Loc nD τ sig) → Buf (Elt Ideal) ℓ)

theorem idx : ∀ t : Fin grid0.N, win0_0.index t = ![win0_2.index t 0, 0] ∧ win0_1.index t = ![win0_2.index t 1, 0, 0, 0] := by decide +kernel

/-- The array after the run is the product. -/
theorem result (c : Dev nD) : (dats m 0 c).arrAt 2 cfg0.N
    = rowsByColumns (m ((c : Thread nD τ).loc main_arg0)) (sideBySide (l := 4) (k := 1024) (n := 1408) 0 (m ((c : Thread nD τ).loc main_arg1))) := by
  refine (dats m 0 c).arrAt_eq_of_covers 2 _ (by decide +kernel) fun t hf y => ?_
  blk_simp
  rw [after0_2]
  frame_out
  idx_vars y
  pointwise [k0_pay1, rowsByColumns, sideBySide]
  refine Fin.sum_fin_congr fun k => ?_
  congr 1 <;> blk_ext [iblk, V, idx t]

end Cert.Kernel6Ideal.Up

namespace Cert.Reference6Ideal.Up

open Cert.Reference6Ideal Cert.Reference6Ideal.Gen Cert.Reference6Ideal.Value Idealize.ShloMosaic Idealize.ShloMosaic.TcCoe Idealize.SL.Sem Cert.Products

theorem result (h : FVec Ideal S8192x1024 .bf16) (w : FVec Ideal S4x4x1024x1408 .bf16) (h1 h2 h3 h4 h5 h6 h7) :
    (truncf .bf16 (Host.dotGeneral (F := Ideal) dot_S8192x1024_S1024x5632_S8192x5632_1_0_0_1_n_n none (extf .f32 h h1)
      (shapeCast S1024x5632 (transpose S1024x4x1408 [1, 0, 2] (extf .f32 (shapeCast S4x1024x1408 (extractStridedSlice S4x1x1024x1408 ![0, 0, 0, 0] w h2) h3) h4) h5) h6)) h7
      : FVec Ideal S8192x5632 .bf16) = rowsByColumns h (sideBySide (l := 4) (k := 1024) (n := 1408) 0 w) := by
  funext y
  idx_vars y
  pointwise [rowsByColumns, sideBySide]

end Cert.Reference6Ideal.Up

end
-- ==== Proof.DownForward.lean ====
/-
  The feed-forward network's last product: each block of the kernel's result is one product over the whole contraction.
-/
module

public import proofs.«01_k».proof.Proof.Gen.Kernel7Ideal.Value
public import proofs.«01_k».proof.Proof.Gen.Reference7Ideal.Run
public import proofs.«01_k».proof.Proof.Products
public import Idealize.ShloMosaic.Lib.Pointwise
public import Idealize.ShloMosaic.Lib.IdealHost
public import Idealize.ShloMosaic.Lib.Pipeline.ValueKit

@[expose] public section

set_option maxRecDepth 16384

noncomputable section

namespace Cert.Kernel7Ideal.Down

open Cert.Kernel7Ideal Cert.Kernel7Ideal.Gen Idealize.ShloMosaic Idealize.ShloMosaic.TcCoe Idealize.SL.Sem Cert.Products

variable (m : (ℓ : Loc nD τ sig) → Buf (Elt Ideal) ℓ)

theorem idx : ∀ t : Fin grid0.N, win0_0.index t = ![win0_2.index t 0, 0] ∧ win0_1.index t = ![0, win0_2.index t 1] := by decide +kernel

/-- The array after the run is the product. -/
theorem result (c : Dev nD) : (dats m 0 c).arrAt 2 cfg0.N
    = rowsByColumns (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  pointwise [k0_pay1, rowsByColumns]
  refine Fin.sum_fin_congr fun k => ?_
  congr 1 <;> blk_ext [iblk, V, idx t]

end Cert.Kernel7Ideal.Down

namespace Cert.Reference7Ideal.Down

open Cert.Reference7Ideal Cert.Reference7Ideal.Gen Cert.Reference7Ideal.Value Idealize.ShloMosaic Idealize.ShloMosaic.TcCoe Idealize.SL.Sem Cert.Products

theorem result (a : FVec Ideal S8192x2816 .bf16) (w : FVec Ideal S2816x1024 .bf16) (h1 h2 h3) :
    (truncf .bf16 (Host.dotGeneral (F := Ideal) dot_S8192x2816_S2816x1024_S8192x1024_1_0_0_1_n_n none (extf .f32 a h1) (extf .f32 w h2)) h3
      : FVec Ideal S8192x1024 .bf16) = rowsByColumns a w := by
  funext y
  idx_vars y
  pointwise [rowsByColumns]

end Cert.Reference7Ideal.Down

end
-- ==== Proof.Norm.lean ====
/-
  The norm of a row and its gradient, as functions of the rows: a row times the inverse root of its mean square.
-/
module

public import Idealize.ShloMosaic.Lib.Pointwise
public import Idealize.ShloMosaic.Lib.IdealHost
public import Idealize.ShloMosaic.Lib.Pipeline.ValueKit
public import proofs.«01_k».proof.Proof.Reals

@[expose] public section

noncomputable section

namespace Cert.Norm

open Idealize.ShloMosaic

/-- 8192 rows of 1024 entries, and one row of them. -/
abbrev Rows : Type := (⟨2, ![8192, 1024]⟩ : Shape).Idx → EReal
abbrev Row : Type := (⟨2, ![1, 1024]⟩ : Shape).Idx → EReal

/-- The width and the constant added to the mean square, as the programs write them. -/
def width : EReal := Ideal.ofBits .f32 0x44800000#32
def eps : EReal := Ideal.ofBits .f32 0x358637BD#32

/-- One over the root of a row's mean square. -/
def root (x : Fin 1024 → EReal) : EReal := Ideal.rsqrt (Ideal.div (∑ k, x k * x k) width + eps)

/-- The gradient of a normed row in the row, as the kernel forms it. -/
def back (g x : Fin 1024 → EReal) (j : Fin 1024) : EReal :=
  root x * (g j - x j * root x * Ideal.div (∑ k, g k * (x k * root x)) width)

def one : EReal := Ideal.ofBits .f32 0x3F800000#32

/-- The gradient of h times what the normed row is multiplied by. -/
def scaled (h : Rows) (g s : Row) (t : Fin 8192) (j : Fin 1024) : EReal :=
  h (ix2 t j) * ((one + s (ix2 0 j)) * g (ix2 0 j))

/-- A sum over the rows, taken eight apart within each block of 512, is the sum over the rows. -/
theorem sum_rows (f : Fin 8192 → EReal) (F : Fin 8 → Fin 16 → Fin 64 → EReal)
    (h : ∀ a s b (hl : s.val * 512 + (b.val * 8 + a.val) < 8192), F a s b = f ⟨s.val * 512 + (b.val * 8 + a.val), hl⟩) :
    ∑ a, ∑ s, ∑ b, F a s b = ∑ t, f t := by
  rw [Finset.sum_comm]
  refine (Finset.sum_congr rfl fun s _ => ?_).trans (Fin.sum_mul_add_congr (S := 16) (n := 512)
    (F := fun s k => f ⟨s.val * 512 + k.val, by omega⟩) fun s k hl => rfl)
  rw [Finset.sum_comm]
  exact Fin.sum_mul_add_congr (S := 64) (n := 8) (f := fun k : Fin 512 => f ⟨s.val * 512 + k.val, by omega⟩) fun b a hl => h a s b (by omega)

/-! ## Where the rows are numbers -/

theorem width_real : width = ((1024 : ℝ) : EReal) := by
  simp [width, Ideal.ofBits, Ideal.ieee, -EReal.coe_mul]; norm_num

theorem one_real : one = ((1 : ℝ) : EReal) := by
  simp [one, Ideal.ofBits, Ideal.ieee, -EReal.coe_mul]; norm_num

theorem eps_real : ∃ e : ℝ, 0 < e ∧ eps = (e : EReal) := by
  refine ⟨8796093 / 2 ^ 43, by norm_num, ?_⟩
  simp [eps, Ideal.ofBits, Ideal.ieee, -EReal.coe_mul]; norm_num

def half : EReal := Ideal.ofBits .f32 0xBF000000#32

theorem half_real : half = ((-(1 / 2) : ℝ) : EReal) := by
  simp [half, Ideal.ofBits, Ideal.ieee, -EReal.coe_mul]; norm_num

/-- The mean square of a row and the constant. -/
def square (x : Fin 1024 → EReal) : EReal := Ideal.div (∑ k, x k * x k) width + eps

variable (X G : Fin 1024 → ℝ)

theorem square_real : ∃ s : ℝ, 0 < s ∧ square (fun k => (X k : EReal)) = (s : EReal) := by
  obtain ⟨e, he, h⟩ := eps_real
  refine ⟨(∑ k, X k * X k) / 1024 + e, ?_, ?_⟩
  · have : 0 ≤ ∑ k, X k * X k := Finset.sum_nonneg fun k _ => mul_self_nonneg _
    positivity
  · unfold square
    rw [h, width_real, Finset.sum_congr rfl fun k _ => (EReal.coe_mul (X k) (X k)).symm, ← Reals.coe_sum, Reals.div_coe _ _ (by norm_num), EReal.coe_add]

theorem rsqrt_real (s : ℝ) (h : 0 < s) : Ideal.rsqrt (s : EReal) = (((Real.sqrt s)⁻¹ : ℝ) : EReal) := by
  rw [Ideal.rsqrt_coe, if_neg (not_lt.mpr h.le), if_neg h.ne']

theorem root_real : ∃ r : ℝ, root (fun k => (X k : EReal)) = (r : EReal) := by
  obtain ⟨s, h, e⟩ := square_real X
  exact ⟨_, (congrArg Ideal.rsqrt e).trans (rsqrt_real s h)⟩

/-- The gradient of a normed row in the row, as differentiating the norm forms it: through the product and through the root. -/
def forth (d : EReal) (g x : Fin 1024 → EReal) (j : Fin 1024) : EReal :=
  d + g j * root x + x j * Ideal.div ((∑ k, x k * g k) * (half * Ideal.div (root x) (square x))) width
    + Ideal.div ((∑ k, x k * g k) * (half * Ideal.div (root x) (square x))) width * x j

theorem forth_real (d : EReal) (j : Fin 1024) :
    forth d (fun k => (G k : EReal)) (fun k => (X k : EReal)) j = d + back (fun k => (G k : EReal)) (fun k => (X k : EReal)) j := by
  obtain ⟨s, hs, es⟩ := square_real X
  have er : root (fun k => (X k : EReal)) = (((Real.sqrt s)⁻¹ : ℝ) : EReal) := (congrArg Ideal.rsqrt es).trans (rsqrt_real s hs)
  have hr : (Real.sqrt s)⁻¹ * (Real.sqrt s)⁻¹ = s⁻¹ := by rw [← mul_inv, Real.mul_self_sqrt hs.le]
  unfold forth back
  rw [er, es, width_real, half_real]
  generalize (Real.sqrt s)⁻¹ = r at hr
  simp only [Reals.div_coe _ _ hs.ne', ← EReal.coe_mul, ← Reals.coe_sum, Reals.div_coe _ _ (show (1024 : ℝ) ≠ 0 by norm_num), ← EReal.coe_sub]
  rw [add_assoc, add_assoc, ← EReal.coe_add, ← EReal.coe_add]
  refine congrArg (fun v : ℝ => d + (v : EReal)) ?_
  have e : (∑ k, G k * (X k * r)) = (∑ k, X k * G k) * r := by
    rw [Finset.sum_mul]; exact Finset.sum_congr rfl fun k _ => by ring
  rw [e, div_eq_mul_inv r s, ← hr]
  ring

/-! ## Where a row has an infinite entry: its mean square is infinite, so what it is multiplied by is zero -/

theorem square_nonneg (x : EReal) : 0 ≤ x * x := by
  induction x with
  | bot => simp
  | coe r => rw [← EReal.coe_mul]; exact_mod_cast mul_self_nonneg r
  | top => simp

theorem square_top (x : Fin 1024 → EReal) (h : ¬ ∀ k, ∃ r : ℝ, x k = r) : square x = ⊤ := by
  obtain ⟨k, hk⟩ := not_forall.mp h
  have e : x k * x k = ⊤ := by
    generalize x k = a at hk
    induction a with
    | bot => simp
    | coe r => exact absurd ⟨r, rfl⟩ hk
    | top => simp
  have n : (0 : EReal) ≤ ∑ j ∈ Finset.univ.erase k, x j * x j := Finset.sum_nonneg fun j _ => square_nonneg _
  obtain ⟨c, hc, ec⟩ := eps_real
  have w : Ideal.div ⊤ ((1024 : ℝ) : EReal) = ⊤ := by
    rw [Ideal.div, if_neg (by norm_num), ← EReal.coe_inv, EReal.top_mul_coe_of_pos (by norm_num)]
  unfold square
  rw [← Finset.add_sum_erase Finset.univ _ (Finset.mem_univ k), e, EReal.top_add_of_ne_bot (by intro hb; simp [hb] at n), width_real, w, ec,
    EReal.top_add_coe]

theorem root_top (x : Fin 1024 → EReal) (h : ¬ ∀ k, ∃ r : ℝ, x k = r) : root x = 0 :=
  (congrArg Ideal.rsqrt (square_top x h)).trans Ideal.rsqrt_top

theorem zero_div (y : EReal) (h : y ≠ 0) : Ideal.div 0 y = 0 := by
  rw [Ideal.div, if_neg h, zero_mul]

/-- Both forms agree where the gradient is of numbers, whatever the row is. -/
theorem forth_eq (d : EReal) (x : Fin 1024 → EReal) (j : Fin 1024) :
    forth d (fun k => (G k : EReal)) x j = d + back (fun k => (G k : EReal)) x j := by
  by_cases h : ∀ k, ∃ r : ℝ, x k = r
  · choose X hX using h
    rw [show x = fun k => (X k : EReal) from funext hX]
    exact forth_real X G d j
  · unfold forth back
    rw [root_top x h, square_top x h, zero_div ⊤ (by simp), width_real]
    simp only [mul_zero, zero_mul, add_zero, zero_div _ (show ((1024 : ℝ) : EReal) ≠ 0 by norm_num)]

theorem normed_real (x : Fin 1024 → EReal) (j : Fin 1024) : ∃ r : ℝ, x j * root x = r := by
  by_cases h : ∀ k, ∃ r : ℝ, x k = r
  · choose X hX using h
    obtain ⟨r, e⟩ := root_real X
    rw [show x = fun k => (X k : EReal) from funext hX, e]
    exact ⟨X j * r, (EReal.coe_mul ..).symm⟩
  · exact ⟨0, by rw [root_top x h, mul_zero]; rfl⟩

/-- A number times numbers, summed. -/
theorem times_sum (a : EReal) (f : Fin 8192 → EReal) (ha : ∃ r : ℝ, a = r) (hf : ∀ t, ∃ r : ℝ, f t = r) : ∑ t, a * f t = a * ∑ t, f t := by
  obtain ⟨r, rfl⟩ := ha
  choose F hF using hf
  simp only [hF]
  exact Reals.mul_sum ..

theorem real_mul {a b : EReal} (ha : ∃ r : ℝ, a = r) (hb : ∃ r : ℝ, b = r) : ∃ r : ℝ, a * b = r := by
  obtain ⟨r, rfl⟩ := ha
  obtain ⟨q, rfl⟩ := hb
  exact ⟨r * q, (EReal.coe_mul r q).symm⟩

theorem one_add_real {a : EReal} (h : ∃ r : ℝ, a = r) : ∃ r : ℝ, one + a = r := by
  obtain ⟨r, rfl⟩ := h
  exact ⟨1 + r, by rw [one_real, EReal.coe_add]⟩

/-- The gradient of a norm is of numbers where what it is handed is. -/
theorem back_real (g x : Fin 1024 → EReal) (j : Fin 1024) (h : ∀ k, ∃ r : ℝ, g k = r) : ∃ r : ℝ, back g x j = r := by
  by_cases hx : ∀ k, ∃ r : ℝ, x k = r
  · choose G hG using h
    choose X hX using hx
    obtain ⟨r, e⟩ := root_real X
    rw [show x = fun k => (X k : EReal) from funext hX, show g = fun k => (G k : EReal) from funext hG]
    unfold back
    rw [e, width_real]
    simp only [← EReal.coe_mul, ← Reals.coe_sum, Reals.div_coe _ _ (show (1024 : ℝ) ≠ 0 by norm_num), ← EReal.coe_sub]
    exact ⟨_, rfl⟩
  · exact ⟨0, by unfold back; rw [root_top x hx, zero_mul]; rfl⟩

end Cert.Norm

end
-- ==== Proof.NormFirst.lean ====
/-
  The gradient of the norm before the first mixer: what the kernel leaves in its four arrays.
-/
module

public import proofs.«01_k».proof.Proof.Gen.Kernel8Ideal.Value
public import proofs.«01_k».proof.Proof.Norm
public import Idealize.ShloMosaic.Lib.Pipeline.ReadBack

@[expose] public section

set_option maxRecDepth 16384

noncomputable section

namespace Cert.Kernel8Ideal.Norm

open Cert.Kernel8Ideal Cert.Kernel8Ideal.Gen Idealize.ShloMosaic Idealize.ShloMosaic.TcCoe Idealize.SL.Sem Cert.Norm

variable (m : (ℓ : Loc nD τ sig) → Buf (Elt Ideal) ℓ)

theorem idx : ∀ t : Fin grid0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![0, 0]
    ∧ win0_7.index t = ![0, 0] ∧ win0_8.index t = ![0, 0] := by decide +kernel

/-- A row of a block, as its row of the array. -/
def at_ (t : Fin cfg0.N) (a : Fin 512) : Fin 8192 := ⟨512 * t.val + a.val, by have := lt_of_lt_of_eq t.isLt N_0; omega⟩

/-- The arrays handed in. -/
def onward (c : Dev nD) : Rows := m ((c : Thread nD τ).loc main_arg0)
def gradient (c : Dev nD) : Rows := m ((c : Thread nD τ).loc main_arg1)
def input (c : Dev nD) : Rows := m ((c : Thread nD τ).loc main_arg2)
def gain (c : Dev nD) : Row := m ((c : Thread nD τ).loc main_arg3)
def scale (c : Dev nD) : Row := m ((c : Thread nD τ).loc main_arg4)

theorem blk0 (c : Dev nD) (t : Fin cfg0.N) (a : Fin 512) (j : Fin 1024) : iblk m c 0 t (ix2 a j) = onward m c (ix2 (at_ t a) j) := by
  unfold onward at_; blk_ext [iblk, V, idx t]

theorem blk1 (c : Dev nD) (t : Fin cfg0.N) (a : Fin 512) (j : Fin 1024) : iblk m c 1 t (ix2 a j) = gradient m c (ix2 (at_ t a) j) := by
  unfold gradient at_; blk_ext [iblk, V, idx t]

theorem blk2 (c : Dev nD) (t : Fin cfg0.N) (a : Fin 512) (j : Fin 1024) : iblk m c 2 t (ix2 a j) = input m c (ix2 (at_ t a) j) := by
  unfold input at_; blk_ext [iblk, V, idx t]

theorem blk3 (c : Dev nD) (t : Fin cfg0.N) (a : Fin 1) (j : Fin 1024) : iblk m c 3 t (ix2 a j) = gain m c (ix2 0 j) := by
  unfold gain; blk_ext [iblk, V, idx t]

theorem blk4 (c : Dev nD) (t : Fin cfg0.N) (a : Fin 1) (j : Fin 1024) : iblk m c 4 t (ix2 a j) = scale m c (ix2 0 j) := by
  unfold scale; blk_ext [iblk, V, idx t]

theorem root_apply (x : Vec Ideal S512x1024 .f32) (a : Fin 512) (b : Fin 1) : k0_pay9 (F := Ideal) x (ix2 a b) = root fun k => x (ix2 a k) := by
  pointwise [k0_pay9, root, width, eps]

theorem normed_apply (x : Vec Ideal S512x1024 .f32) (a : Fin 512) (j : Fin 1024) :
    k0_pay10 (F := Ideal) x (ix2 a j) = x (ix2 a j) * root fun k => x (ix2 a k) := by
  pointwise [k0_pay10]
  rw [root_apply]

theorem back_apply (h x d : Vec Ideal S512x1024 .f32) (s g : Vec Ideal S1x1024 .f32) (a : Fin 512) (j : Fin 1024) :
    k0_pay11 (F := Ideal) h x d s g (ix2 a j)
      = d (ix2 a j) + back (fun k => h (ix2 a k) * ((one + s (ix2 0 k)) * g (ix2 0 k))) (fun k => x (ix2 a k)) j := by
  pointwise [k0_pay11, normed_apply, root_apply, back, one, width]

theorem add1_apply (h : Vec Ideal S512x1024 .f32) (acc : Vec Ideal S8x1024 .f32) (a : Fin 8) (j : Fin 1024) :
    k0_pay1 (F := Ideal) h acc (ix2 a j) = acc (ix2 a j) + ∑ b : Fin 64, h (ix2 ⟨b.val * 8 + a.val, by omega⟩ j) := by
  pointwise [k0_pay1]

theorem add2_apply (h y : Vec Ideal S512x1024 .f32) (acc : Vec Ideal S8x1024 .f32) (a : Fin 8) (j : Fin 1024) :
    k0_pay2 (F := Ideal) h y acc (ix2 a j)
      = acc (ix2 a j) + ∑ b : Fin 64, h (ix2 ⟨b.val * 8 + a.val, by omega⟩ j) * y (ix2 ⟨b.val * 8 + a.val, by omega⟩ j) := by
  pointwise [k0_pay2]

/-- What the two carried arrays hold after a point. -/
def held (c : Dev nD) (n : Nat) (h : n < cfg0.N) (i : Fin 8 × Fin 1024) : EReal × EReal :=
  ((outsAt0 m c n h).2.2.2.2.1 (ix2 i.1 i.2), (outsAt0 m c n h).2.2.2.2.2 (ix2 i.1 i.2))

/-- The row of the array that a row of a carried array takes from a block of eight. -/
def every (t : Fin cfg0.N) (b : Fin 64) (a : Fin 8) : Fin 8192 := at_ t ⟨b.val * 8 + a.val, by omega⟩

/-- The normed rows. -/
def normed (c : Dev nD) (t : Fin 8192) (j : Fin 1024) : EReal := input m c (ix2 t j) * root fun k => input m c (ix2 t k)

/-- What a point adds to the two: its rows of the gradient of h, and of it times the normed rows. -/
def added (c : Dev nD) (t : Fin cfg0.N) (i : Fin 8 × Fin 1024) : EReal × EReal :=
  (∑ b : Fin 64, gradient m c (ix2 (every t b i.1) i.2), ∑ b : Fin 64, gradient m c (ix2 (every t b i.1) i.2) * normed m c (every t b i.1) i.2)

theorem zero1 (a : Fin 8) (j : Fin 1024) : k0_pay7 (F := Ideal) (ix2 a j) = (0 : EReal) := by pointwise [k0_pay7]

theorem zero2 (a : Fin 8) (j : Fin 1024) : k0_pay8 (F := Ideal) (ix2 a j) = (0 : EReal) := by pointwise [k0_pay8]

theorem carried (c : Dev nD) (t : Fin cfg0.N) (hr : t.val % 16 = 16 - 1) (i : Fin 8 × Fin 1024) :
    held m c t.val t.isLt i = ∑ s : Fin 16, added m c ⟨16 * (t.val / 16) + s.val, Pipeline.run_point_lt_of_flush t hr s⟩ i := by
  rw [Pipeline.eq_sum_fin_of_reset_step_apply_of_flush (M := EReal × EReal) (held m c) 16 (fun _ => 0) (added m c) ?_ ?_ t hr i]
  · exact zero_add _
  · intro t h i
    unfold held
    rw [outsAt0_A m c t h (by omega)]
    frame_out
    simp only [read_unread_whole, add1_apply, add2_apply, normed_apply, blk1, blk2, zero1, zero2]
    rfl
  · intro t h i
    unfold held
    by_cases h2 : t.val % 16 = 15
    · rw [outsAt0_C m c t h h2]
      frame_out
      simp only [read_unread_whole, add1_apply, add2_apply, normed_apply, blk1, blk2]
      rfl
    · rw [outsAt0_B m c t h h2]
      frame_out
      simp only [read_unread_whole, add1_apply, add2_apply, normed_apply, blk1, blk2]
      rfl

/-- What the three results of one row hold at the last point: the carried arrays' sums over their eight rows, times the factors. -/
theorem written (c : Dev nD) (t : Fin cfg0.N) (h : t.val % 16 = 15) (a : Fin 1) (j : Fin 1024) :
    (outsAt0 m c t.val t.isLt).2.1 (ix2 a j) = (∑ r : Fin 8, (held m c t.val t.isLt (r, j)).1 : EReal)
    ∧ (outsAt0 m c t.val t.isLt).2.2.1 (ix2 a j) = (gain m c (ix2 0 j) * ∑ r : Fin 8, (held m c t.val t.isLt (r, j)).2 : EReal)
    ∧ (outsAt0 m c t.val t.isLt).2.2.2.1 (ix2 a j) = ((one + scale m c (ix2 0 j)) * ∑ r : Fin 8, (held m c t.val t.isLt (r, j)).2 : EReal) := by
  unfold held
  rw [outsAt0_C m c t (by omega) h]
  frame_out
  refine ⟨?_, ?_, ?_⟩
  · pointwise [k0_pay4]
  · pointwise [k0_pay5, k0_pay3, blk3]
  · pointwise [k0_pay6, k0_pay3, blk4, one]

/-- The gradient of the rows handed in. -/
theorem result_rows (c : Dev nD) : (dats m 0 c).arrAt 5 cfg0.N = fun i : S8192x1024.Idx => onward m c i
    + back (fun k => scaled (gradient m c) (gain m c) (scale m c) (i 0) k) (fun k => input m c (ix2 (i 0) k)) (i 1) := by
  refine (dats m 0 c).arrAt_eq_of_covers 5 _ (by decide +kernel) fun t hf y => ?_
  blk_simp
  rw [after0_5]
  idx_vars y
  have e : (outsAt0 m c t.val t.isLt).1 (ix2 y0 y1) = onward m c (ix2 (at_ t y0) y1)
      + back (fun k => scaled (gradient m c) (gain m c) (scale m c) (at_ t y0) k) (fun k => input m c (ix2 (at_ t y0) k)) y1 := by
    by_cases h0 : t.val % 16 = 0
    · rw [outsAt0_A m c t h0 (by omega)]
      frame_out
      simp only [read_unread_whole, back_apply, blk0, blk1, blk2, blk3, blk4, scaled]
    by_cases h1 : t.val % 16 = 15
    · rw [outsAt0_C m c t h0 h1]
      frame_out
      simp only [read_unread_whole, back_apply, blk0, blk1, blk2, blk3, blk4, scaled]
    · rw [outsAt0_B m c t h0 h1]
      frame_out
      simp only [read_unread_whole, back_apply, blk0, blk1, blk2, blk3, blk4, scaled]
  have q : ((cfg0.win 5).blk t).view.emb (ix2 y0 y1) = ix2 (at_ t y0) y1 := by
    unfold at_; blk_ext [idx t]
  rw [q]
  exact e

/-- The eight rows of the carried arrays together: the sums over all the rows. -/
theorem sums (c : Dev nD) (t : Fin cfg0.N) (h : t.val % 16 = 15) (j : Fin 1024) :
    (∑ r : Fin 8, (held m c t.val t.isLt (r, j)).1 : EReal) = ∑ k : Fin 8192, gradient m c (ix2 k j)
    ∧ (∑ r : Fin 8, (held m c t.val t.isLt (r, j)).2 : EReal) = ∑ k : Fin 8192, gradient m c (ix2 k j) * normed m c k j := by
  have h0 : 16 * (t.val / 16) = 0 := by have := lt_of_lt_of_eq t.isLt N_0; omega
  have e (s : Fin 16) (b : Fin 64) (a : Fin 8) (hl) :
      every ⟨16 * (t.val / 16) + s.val, Pipeline.run_point_lt_of_flush t h s⟩ b a = ⟨s.val * 512 + (b.val * 8 + a.val), hl⟩ := by
    apply Fin.ext
    show 512 * (16 * (t.val / 16) + s.val) + (b.val * 8 + a.val) = s.val * 512 + (b.val * 8 + a.val)
    omega
  simp only [carried m c t h, Prod.fst_sum, Prod.snd_sum, added]
  exact ⟨sum_rows _ _ fun a s b hl => by rw [e s b a hl], sum_rows _ _ fun a s b hl => by rw [e s b a hl]⟩

/-- The gradient of the shift. -/
theorem result_shift (c : Dev nD) : (dats m 0 c).arrAt 6 cfg0.N = fun i : S1x1024.Idx => (∑ k : Fin 8192, gradient m c (ix2 k (i 1)) : EReal) := by
  refine (dats m 0 c).arrAt_eq_of_covers 6 _ (by decide +kernel) fun t hf y => ?_
  have ht := (flush0_6 t).mp hf
  blk_simp
  rw [after0_6]
  idx_vars y
  have q : ((cfg0.win 6).blk t).view.emb (ix2 y0 y1) = ix2 0 y1 := by blk_ext [idx t]
  rw [q, (written m c t ht y0 y1).1, (sums m c t ht y1).1]
  rfl

/-- The gradient of the scale. -/
theorem result_scale (c : Dev nD) : (dats m 0 c).arrAt 7 cfg0.N = fun i : S1x1024.Idx =>
    (gain m c (ix2 0 (i 1)) * ∑ k : Fin 8192, gradient m c (ix2 k (i 1)) * normed m c k (i 1) : EReal) := by
  refine (dats m 0 c).arrAt_eq_of_covers 7 _ (by decide +kernel) fun t hf y => ?_
  have ht := (flush0_7 t).mp hf
  blk_simp
  rw [after0_7]
  idx_vars y
  have q : ((cfg0.win 7).blk t).view.emb (ix2 y0 y1) = ix2 0 y1 := by blk_ext [idx t]
  rw [q, (written m c t ht y0 y1).2.1, (sums m c t ht y1).2]
  rfl

/-- The gradient of the gain. -/
theorem result_gain (c : Dev nD) : (dats m 0 c).arrAt 8 cfg0.N = fun i : S1x1024.Idx =>
    ((one + scale m c (ix2 0 (i 1))) * ∑ k : Fin 8192, gradient m c (ix2 k (i 1)) * normed m c k (i 1) : EReal) := by
  refine (dats m 0 c).arrAt_eq_of_covers 8 _ (by decide +kernel) fun t hf y => ?_
  have ht := (flush0_8 t).mp hf
  blk_simp
  rw [after0_8]
  idx_vars y
  have q : ((cfg0.win 8).blk t).view.emb (ix2 y0 y1) = ix2 0 y1 := by blk_ext [idx t]
  rw [q, (written m c t ht y0 y1).2.2, (sums m c t ht y1).2]
  rfl

end Cert.Kernel8Ideal.Norm

end
-- ==== Proof.NormClaims.lean ====
/-
  The gradient of the norm before the first mixer: what the reference computes, and where the kernel's results are it.
-/
module

public import proofs.«01_k».proof.Proof.Gen.Reference8Ideal.Run
public import proofs.«01_k».proof.Proof.NormFirst
public import proofs.«01_k».proof.Pre_finite_rows
public import Idealize.ShloMosaic.Lib.IdealHost

@[expose] public section

set_option maxRecDepth 16384

noncomputable section

namespace Cert.Reference8Ideal.Norm

open Cert.Reference8Ideal Cert.Reference8Ideal.Gen Idealize.ShloMosaic Idealize.ShloMosaic.TcCoe Idealize.SL.Sem Cert.Norm

variable (m : (ℓ : Loc nD τ sig) → Buf (Elt Ideal) ℓ)

/-- The arrays handed in. -/
def onward (c : Dev nD) : Rows := m ((c.tc : Thread nD τ).loc main_arg0)
def gradient (c : Dev nD) : Rows := m ((c.tc : Thread nD τ).loc main_arg1)
def input (c : Dev nD) : Rows := m ((c.tc : Thread nD τ).loc main_arg2)
def gain (c : Dev nD) : Row := m ((c.tc : Thread nD τ).loc main_arg3)
def scale (c : Dev nD) : Row := m ((c.tc : Thread nD τ).loc main_arg4)

/-- The rows of a normed array, and the condition the claims have: three of the arrays hold numbers. -/
def normed (c : Dev nD) (t : Fin 8192) (j : Fin 1024) : EReal := input m c (ix2 t j) * root fun k => input m c (ix2 t k)

structure Numbers (c : Dev nD) : Prop where
  gradient (t : Fin 8192) (j : Fin 1024) : ∃ r : ℝ, gradient m c (ix2 t j) = r
  gain (j : Fin 1024) : ∃ r : ℝ, gain m c (ix2 0 j) = r
  scale (j : Fin 1024) : ∃ r : ℝ, scale m c (ix2 0 j) = r

theorem rows_apply (c : Dev nD) (t : Fin 8192) (j : Fin 1024) : Value.res_main_v49 m c (ix2 t j)
    = forth (onward m c (ix2 t j)) (fun k => scaled (gradient m c) (gain m c) (scale m c) t k) (fun k => input m c (ix2 t k)) j := by
  simp only [scaled, ← mul_assoc]
  unfold Value.res_main_v49 forth root square onward gradient input gain scale width eps one half
  pointwise []
  simp only [Finset.univ_unique, Finset.sum_singleton]

variable {m} {c : Dev nD} (h : Numbers m c)

include h

theorem result_rows : Value.res_main_v49 m c = fun i : S8192x1024.Idx => onward m c i
    + back (fun k => scaled (gradient m c) (gain m c) (scale m c) (i 0) k) (fun k => input m c (ix2 (i 0) k)) (i 1) := by
  funext i
  idx_vars i
  refine (rows_apply m c _ _).trans ?_
  have hg : ∀ k, ∃ r : ℝ, scaled (gradient m c) (gain m c) (scale m c) i0 k = r := fun k =>
    real_mul (h.gradient i0 k) (real_mul (by
      obtain ⟨r, e⟩ := h.scale k
      exact ⟨1 + r, by rw [e, one_real, EReal.coe_add]⟩) (h.gain k))
  choose G hG using hg
  simp only [hG]
  exact forth_eq G _ _ _

theorem total_number (t : Fin 8192) (j : Fin 1024) : ∃ r : ℝ, gradient m c (ix2 t j) * normed m c t j = r :=
  real_mul (h.gradient t j) (normed_real (fun k => input m c (ix2 t k)) j)

theorem sum_scale (j : Fin 1024) : ∑ t : Fin 8192, normed m c t j * gain m c (ix2 0 j) * gradient m c (ix2 t j)
    = gain m c (ix2 0 j) * ∑ t : Fin 8192, gradient m c (ix2 t j) * normed m c t j :=
  (Finset.sum_congr rfl fun t _ => by rw [mul_comm (normed m c t j), mul_assoc, mul_comm (normed m c t j)]).trans
    (times_sum _ _ (h.gain j) fun t => total_number h t j)

theorem sum_gain (j : Fin 1024) : ∑ t : Fin 8192, normed m c t j * (gradient m c (ix2 t j) * (one + scale m c (ix2 0 j)))
    = (one + scale m c (ix2 0 j)) * ∑ t : Fin 8192, gradient m c (ix2 t j) * normed m c t j :=
  (Finset.sum_congr rfl fun t _ => by rw [mul_comm (normed m c t j), mul_comm (gradient m c (ix2 t j)), mul_assoc]).trans
    (times_sum _ _ (by
      obtain ⟨r, e⟩ := h.scale j
      exact ⟨1 + r, by rw [e, one_real, EReal.coe_add]⟩) fun t => total_number h t j)

omit h

theorem run (ρ : Dev nD → PrngReg) (h : ∀ c, Numbers m c) :
    θ_run defs (onTc (τ := τ) (main (F := Ideal))) ⟨m, fun _ => 0, ρ⟩ fun r => ∀ c : Dev nD,
      r.2.mem ((c.tc : Thread nD τ).loc main_v49) = (fun i : S8192x1024.Idx => onward m c i
        + back (fun k => scaled (gradient m c) (gain m c) (scale m c) (i 0) k) (fun k => input m c (ix2 (i 0) k)) (i 1))
      ∧ r.2.mem ((c.tc : Thread nD τ).loc main_v24) = (fun i : S1x1024.Idx => (∑ k : Fin 8192, gradient m c (ix2 k (i 1)) : EReal))
      ∧ r.2.mem ((c.tc : Thread nD τ).loc main_v27) = (fun i : S1x1024.Idx =>
        (gain m c (ix2 0 (i 1)) * ∑ k : Fin 8192, gradient m c (ix2 k (i 1)) * normed m c k (i 1) : EReal))
      ∧ r.2.mem ((c.tc : Thread nD τ).loc main_v32) = (fun i : S1x1024.Idx =>
        ((one + scale m c (ix2 0 (i 1))) * ∑ k : Fin 8192, gradient m c (ix2 k (i 1)) * normed m c k (i 1) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r hr c => ⟨(hr c).1.trans (result_rows (h c)), (hr c).2.1.trans ?_, (hr c).2.2.1.trans ?_,
    (hr c).2.2.2.1.trans ?_, (hr c).2.2.2.2⟩) (Value.run (F := Ideal) m ρ)
  · funext i
    idx_vars i
    unfold gradient
    pointwise []
  · funext i
    idx_vars i
    refine Eq.trans ?_ (sum_scale (h c) i1)
    unfold normed root gradient input gain width eps
    pointwise []
  · funext i
    idx_vars i
    refine Eq.trans ?_ (sum_gain (h c) i1)
    unfold normed root gradient input scale width eps one
    pointwise []

end Cert.Reference8Ideal.Norm

namespace Cert.Norm

open Idealize.ShloMosaic

theorem both {S : Shape} {a b : IVec S 1} {i : S.Idx} (h : andi a b i = 1#1) : a i = 1#1 ∧ b i = 1#1 := by
  have h : a i &&& b i = 1#1 := h
  revert h
  generalize a i = p
  generalize b i = q
  revert p q
  decide

theorem across (hb) (b : IVec Cert.Pre_finite_rows.S1x1024 1) (t : Fin 8192) (j : Fin 1024) :
    broadcastInDim Cert.Pre_finite_rows.S8192x1024 ![0, 1] hb b (ix2 t j) = b (ix2 0 j) := by
  pointwise []

/-- What the precondition says: three of the arrays hold numbers. -/
theorem numbers [Cert.Pre_finite_rows.Facts] (d h x : Rows) (g s : Row)
    (e : Cert.Pre_finite_rows.fn (F := Ideal) d h x g s = fun _ => 1#1) (t : Fin 8192) (j : Fin 1024) :
    (∃ r : ℝ, h (ix2 t j) = r) ∧ (∃ r : ℝ, g (ix2 0 j) = r) ∧ ∃ r : ℝ, s (ix2 0 j) = r := by
  have e := congrFun e (ix2 t j)
  unfold Cert.Pre_finite_rows.fn at e
  obtain ⟨e, e4⟩ := both e
  obtain ⟨e1, e3⟩ := both e
  exact ⟨Reals.of_lt _ e1, Reals.of_lt _ ((across ..).symm.trans e3), Reals.of_lt _ ((across ..).symm.trans e4)⟩

end Cert.Norm

end
-- ==== Proof.Between.lean ====
/-
  The norms between two layers and their gradient, as functions of the arrays: the rows handed on are the rows handed in plus
  a gated, normed layer, and what the next layer reads is those rows normed, scaled and shifted.
-/
module

public import proofs.«01_k».proof.Proof.Norm

@[expose] public section

noncomputable section

namespace Cert.Norm

open Idealize.ShloMosaic

/-- The arrays: the two gradients handed back, the rows before the layer, the gain and the scale of the norm after it, what the
    layer made, the gain of the norm on that, and the gate. -/
structure Arrays where
  onward : Rows
  gradient : Rows
  before : Rows
  gain : Row
  scale : Row
  layer : Rows
  gain' : Row
  gate : Row

namespace Arrays

variable (A : Arrays)

/-- What the layer made, normed. -/
def normed' (t : Fin 8192) (j : Fin 1024) : EReal := A.layer (ix2 t j) * root fun k => A.layer (ix2 t k)

/-- The rows after the layer. -/
def after (t : Fin 8192) (j : Fin 1024) : EReal := A.before (ix2 t j) + A.gate (ix2 0 j) * (A.normed' t j * A.gain' (ix2 0 j))

/-- These, normed. -/
def normed (t : Fin 8192) (j : Fin 1024) : EReal := A.after t j * root (A.after t)

/-- The gradient of the rows. -/
def rows (t : Fin 8192) (j : Fin 1024) : EReal := A.onward (ix2 t j) + back (scaled A.gradient A.gain A.scale t) (A.after t) j

/-- It times what the normed layer is multiplied by, and the gradient of the layer. -/
def gated (t : Fin 8192) (j : Fin 1024) : EReal := A.rows t j * (A.gate (ix2 0 j) * A.gain' (ix2 0 j))

def made (t : Fin 8192) (j : Fin 1024) : EReal := back (A.gated t) (fun k => A.layer (ix2 t k)) j

/-- The sums over the rows that the gradients of the single rows are multiples of. -/
def total (j : Fin 1024) : EReal := ∑ t, A.gradient (ix2 t j) * A.normed t j

def total' (j : Fin 1024) : EReal := ∑ t, A.rows t j * A.normed' t j

/-- The condition the claims have: all but the rows before the layer and what the layer made are numbers. -/
structure Numbers : Prop where
  onward (t : Fin 8192) (j : Fin 1024) : ∃ r : ℝ, A.onward (ix2 t j) = r
  gradient (t : Fin 8192) (j : Fin 1024) : ∃ r : ℝ, A.gradient (ix2 t j) = r
  gain (j : Fin 1024) : ∃ r : ℝ, A.gain (ix2 0 j) = r
  scale (j : Fin 1024) : ∃ r : ℝ, A.scale (ix2 0 j) = r
  gain' (j : Fin 1024) : ∃ r : ℝ, A.gain' (ix2 0 j) = r
  gate (j : Fin 1024) : ∃ r : ℝ, A.gate (ix2 0 j) = r

variable {A} (h : A.Numbers)

include h

theorem scaled_real (t : Fin 8192) (j : Fin 1024) : ∃ r : ℝ, scaled A.gradient A.gain A.scale t j = r :=
  real_mul (h.gradient t j) (real_mul (one_add_real (h.scale j)) (h.gain j))

theorem rows_real (t : Fin 8192) (j : Fin 1024) : ∃ r : ℝ, A.rows t j = r := by
  obtain ⟨d, hd⟩ := h.onward t j
  obtain ⟨r, hr⟩ := back_real (scaled A.gradient A.gain A.scale t) (A.after t) j (scaled_real h t)
  exact ⟨d + r, by unfold rows; rw [hd, hr, EReal.coe_add]⟩

theorem gated_real (t : Fin 8192) (j : Fin 1024) : ∃ r : ℝ, A.gated t j = r :=
  real_mul (rows_real h t j) (real_mul (h.gate j) (h.gain' j))

/-- The two gradients of rows, as differentiating the norms forms them. -/
theorem forth_rows (t : Fin 8192) (j : Fin 1024) :
    forth (A.onward (ix2 t j)) (scaled A.gradient A.gain A.scale t) (A.after t) j = A.rows t j := by
  choose G hG using scaled_real h t
  unfold rows
  rw [show scaled A.gradient A.gain A.scale t = fun k => (G k : EReal) from funext hG]
  exact forth_eq G _ _ _

theorem forth_made (t : Fin 8192) (j : Fin 1024) : forth 0 (A.gated t) (fun k => A.layer (ix2 t k)) j = A.made t j := by
  choose G hG using gated_real h t
  unfold made
  rw [show A.gated t = fun k => (G k : EReal) from funext hG]
  exact (forth_eq G _ _ _).trans (zero_add _)

/-- The gradients of the single rows, as sums in the order differentiating forms them. -/
theorem sum_scale (j : Fin 1024) : ∑ t, A.normed t j * A.gain (ix2 0 j) * A.gradient (ix2 t j) = A.gain (ix2 0 j) * A.total j :=
  (Finset.sum_congr rfl fun t _ => by rw [mul_comm (A.normed t j), mul_assoc, mul_comm (A.normed t j)]).trans
    (times_sum _ _ (h.gain j) fun t => real_mul (h.gradient t j) (normed_real (A.after t) j))

theorem sum_gain (j : Fin 1024) :
    ∑ t, A.normed t j * (A.gradient (ix2 t j) * (one + A.scale (ix2 0 j))) = (one + A.scale (ix2 0 j)) * A.total j :=
  (Finset.sum_congr rfl fun t _ => by rw [mul_comm (A.normed t j), mul_comm (A.gradient (ix2 t j)), mul_assoc]).trans
    (times_sum _ _ (one_add_real (h.scale j)) fun t => real_mul (h.gradient t j) (normed_real (A.after t) j))

theorem sum_gain' (j : Fin 1024) : ∑ t, A.normed' t j * (A.gate (ix2 0 j) * A.rows t j) = A.gate (ix2 0 j) * A.total' j :=
  (Finset.sum_congr rfl fun t _ => by rw [mul_comm (A.normed' t j), mul_assoc]).trans
    (times_sum _ _ (h.gate j) fun t => real_mul (rows_real h t j) (normed_real (fun k => A.layer (ix2 t k)) j))

theorem sum_gate (j : Fin 1024) : ∑ t, A.rows t j * (A.normed' t j * A.gain' (ix2 0 j)) = A.gain' (ix2 0 j) * A.total' j :=
  (Finset.sum_congr rfl fun t _ => by rw [← mul_assoc, mul_comm]).trans
    (times_sum _ _ (h.gain' j) fun t => real_mul (rows_real h t j) (normed_real (fun k => A.layer (ix2 t k)) j))

end Arrays

end Cert.Norm

end
-- ==== Proof.NormBetween.lean ====
/-
  The gradient of the norms between two layers: what the kernel leaves in its eight arrays.
-/
module

public import proofs.«01_k».proof.Proof.Gen.Kernel9Ideal.Value
public import proofs.«01_k».proof.Proof.Between
public import Idealize.ShloMosaic.Lib.Pipeline.ReadBack

@[expose] public section

set_option maxRecDepth 16384

noncomputable section

namespace Cert.Kernel9Ideal.Norm

open Cert.Kernel9Ideal Cert.Kernel9Ideal.Gen Idealize.ShloMosaic Idealize.ShloMosaic.TcCoe Idealize.ShloMosaic.StableHlo Idealize.SL.Sem Cert.Norm

variable (m : (ℓ : Loc nD τ sig) → Buf (Elt Ideal) ℓ)

theorem idx : ∀ t : Fin grid0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![0, 0]
    ∧ win0_7.index t = ![0, 0] ∧ win0_8.index t = ![t.val, 0] ∧ win0_9.index t = ![t.val, 0] ∧ win0_10.index t = ![0, 0]
    ∧ win0_11.index t = ![0, 0] ∧ win0_12.index t = ![0, 0] ∧ win0_13.index t = ![0, 0] ∧ win0_14.index t = ![0, 0]
    ∧ win0_15.index t = ![0, 0] := by decide +kernel

/-- A row of a block, as its row of the array. -/
def at_ (t : Fin cfg0.N) (a : Fin 512) : Fin 8192 := ⟨512 * t.val + a.val, by have := lt_of_lt_of_eq t.isLt N_0; omega⟩

/-- The arrays handed in. -/
def arrays (c : Dev nD) : Arrays where
  onward := m ((c : Thread nD τ).loc main_arg0)
  gradient := m ((c : Thread nD τ).loc main_arg1)
  before := m ((c : Thread nD τ).loc main_arg2)
  gain := m ((c : Thread nD τ).loc main_arg3)
  scale := m ((c : Thread nD τ).loc main_arg4)
  layer := m ((c : Thread nD τ).loc main_arg5)
  gain' := m ((c : Thread nD τ).loc main_arg6)
  gate := m ((c : Thread nD τ).loc main_arg7)

variable (c : Dev nD) (t : Fin cfg0.N)

/-- The rows after the layer, as the host computes them before the call. -/
theorem after_rows (i : Fin 8192) (j : Fin 1024) : V m c main_v15 (ix2 i j) = (arrays m c).after i j := by
  unfold V
  after_results_simp
  unfold Arrays.after Arrays.normed' arrays root width eps
  pointwise []

theorem blk0 (a : Fin 512) (j : Fin 1024) : iblk m c 0 t (ix2 a j) = (arrays m c).onward (ix2 (at_ t a) j) := by
  unfold arrays at_; blk_ext [iblk, V, idx t]

theorem blk1 (a : Fin 512) (j : Fin 1024) : iblk m c 1 t (ix2 a j) = (arrays m c).gradient (ix2 (at_ t a) j) := by
  unfold arrays at_; blk_ext [iblk, V, idx t]

theorem blk2 (a : Fin 512) (j : Fin 1024) : iblk m c 2 t (ix2 a j) = (arrays m c).after (at_ t a) j := by
  rw [← after_rows]
  unfold at_; blk_ext [iblk, idx t]

theorem blk3 (a : Fin 1) (j : Fin 1024) : iblk m c 3 t (ix2 a j) = (arrays m c).gain (ix2 0 j) := by
  unfold arrays; blk_ext [iblk, V, idx t]

theorem blk4 (a : Fin 1) (j : Fin 1024) : iblk m c 4 t (ix2 a j) = (arrays m c).scale (ix2 0 j) := by
  unfold arrays; blk_ext [iblk, V, idx t]

theorem blk5 (a : Fin 512) (j : Fin 1024) : iblk m c 5 t (ix2 a j) = (arrays m c).layer (ix2 (at_ t a) j) := by
  unfold arrays at_; blk_ext [iblk, V, idx t]

theorem blk6 (a : Fin 1) (j : Fin 1024) : iblk m c 6 t (ix2 a j) = (arrays m c).gain' (ix2 0 j) := by
  unfold arrays; blk_ext [iblk, V, idx t]

theorem blk7 (a : Fin 1) (j : Fin 1024) : iblk m c 7 t (ix2 a j) = (arrays m c).gate (ix2 0 j) := by
  unfold arrays; blk_ext [iblk, V, idx t]

theorem root_apply (x : Vec Ideal S512x1024 .f32) (a : Fin 512) (b : Fin 1) : k0_pay18 (F := Ideal) x (ix2 a b) = root fun k => x (ix2 a k) := by
  pointwise [k0_pay18, k0_pay17, root, width, eps]

theorem normed_apply (x : Vec Ideal S512x1024 .f32) (a : Fin 512) (j : Fin 1024) :
    k0_pay19 (F := Ideal) x (ix2 a j) = x (ix2 a j) * root fun k => x (ix2 a k) := by
  pointwise [k0_pay19, k0_pay17]
  rw [root_apply]

theorem root'_apply (x : Vec Ideal S512x1024 .bf16) (a : Fin 512) (b : Fin 1) : k0_pay24 (F := Ideal) x (ix2 a b) = root fun k => x (ix2 a k) := by
  pointwise [k0_pay24, k0_pay23, root, width, eps]

theorem normed'_apply (x : Vec Ideal S512x1024 .bf16) (a : Fin 512) (j : Fin 1024) :
    k0_pay25 (F := Ideal) x (ix2 a j) = x (ix2 a j) * root fun k => x (ix2 a k) := by
  pointwise [k0_pay25, k0_pay23]
  rw [root'_apply]

theorem rows_apply (h x d : Vec Ideal S512x1024 .f32) (s g : Vec Ideal S1x1024 .f32) (a : Fin 512) (j : Fin 1024) :
    k0_pay20 (F := Ideal) h x d s g (ix2 a j)
      = d (ix2 a j) + back (fun k => h (ix2 a k) * ((one + s (ix2 0 k)) * g (ix2 0 k))) (fun k => x (ix2 a k)) j := by
  pointwise [k0_pay20, normed_apply, root_apply, back, one, width]

theorem made_apply (x : FVec Ideal S512x1024 .f32) (y : Vec Ideal S512x1024 .bf16) (g s : Vec Ideal S1x1024 .f32) (a : Fin 512) (j : Fin 1024) :
    k0_pay1 (F := Ideal) (k0_pay24 y) (k0_pay25 y) (k0_pay26 x g s) (k0_pay27 x y g s) (ix2 a j)
      = back (fun k => x (ix2 a k) * (s (ix2 0 k) * g (ix2 0 k))) (fun k => y (ix2 a k)) j := by
  pointwise [k0_pay1, k0_pay26, k0_pay27, normed'_apply, root'_apply, back, width]

theorem stored_apply (r : FVec Ideal S512x1 .f32) (u v w : FVec Ideal S512x1024 .f32) (a : Fin 512) (j : Fin 1024) :
    k0_pay2 (F := Ideal) r u v w (ix2 a j) = k0_pay1 (F := Ideal) r u v w (ix2 a j) := by
  pointwise [k0_pay2]

theorem add1_apply (h : Vec Ideal S512x1024 .f32) (acc : Vec Ideal S8x1024 .f32) (a : Fin 8) (j : Fin 1024) :
    k0_pay21 (F := Ideal) h acc (ix2 a j) = acc (ix2 a j) + ∑ b : Fin 64, h (ix2 ⟨b.val * 8 + a.val, by omega⟩ j) := by
  pointwise [k0_pay21]

theorem add2_apply (h : Vec Ideal S512x1024 .f32) (y : FVec Ideal S512x1024 .f32) (acc : Vec Ideal S8x1024 .f32) (a : Fin 8) (j : Fin 1024) :
    k0_pay22 (F := Ideal) h y acc (ix2 a j)
      = acc (ix2 a j) + ∑ b : Fin 64, h (ix2 ⟨b.val * 8 + a.val, by omega⟩ j) * y (ix2 ⟨b.val * 8 + a.val, by omega⟩ j) := by
  pointwise [k0_pay22]

theorem add3_apply (x y : FVec Ideal S512x1024 .f32) (acc : Vec Ideal S8x1024 .f32) (a : Fin 8) (j : Fin 1024) :
    k0_pay3 (F := Ideal) x y acc (ix2 a j)
      = acc (ix2 a j) + ∑ b : Fin 64, x (ix2 ⟨b.val * 8 + a.val, by omega⟩ j) * y (ix2 ⟨b.val * 8 + a.val, by omega⟩ j) := by
  pointwise [k0_pay3]

theorem add4_apply (r : FVec Ideal S512x1 .f32) (u v w : FVec Ideal S512x1024 .f32) (acc : Vec Ideal S8x1024 .f32) (a : Fin 8) (j : Fin 1024) :
    k0_pay4 (F := Ideal) r u v w acc (ix2 a j)
      = acc (ix2 a j) + ∑ b : Fin 64, k0_pay1 (F := Ideal) r u v w (ix2 ⟨b.val * 8 + a.val, by omega⟩ j) := by
  pointwise [k0_pay4]

theorem zeros (a : Fin 8) (j : Fin 1024) : k0_pay13 (F := Ideal) (ix2 a j) = (0 : EReal) ∧ k0_pay14 (F := Ideal) (ix2 a j) = (0 : EReal)
    ∧ k0_pay15 (F := Ideal) (ix2 a j) = (0 : EReal) ∧ k0_pay16 (F := Ideal) (ix2 a j) = (0 : EReal) :=
  ⟨by pointwise [k0_pay13], by pointwise [k0_pay14], by pointwise [k0_pay15], by pointwise [k0_pay16]⟩

/-- The row of the array that a row of a carried array takes from a block of eight. -/
def every (b : Fin 64) (a : Fin 8) : Fin 8192 := at_ t ⟨b.val * 8 + a.val, by omega⟩

/-- What the four carried arrays hold after a point. -/
def held (n : Nat) (h : n < cfg0.N) (i : Fin 8 × Fin 1024) : EReal × EReal × EReal × EReal :=
  ((outsAt0 m c n h).2.2.2.2.2.2.2.2.1 (ix2 i.1 i.2), (outsAt0 m c n h).2.2.2.2.2.2.2.2.2.1 (ix2 i.1 i.2),
    (outsAt0 m c n h).2.2.2.2.2.2.2.2.2.2.1 (ix2 i.1 i.2), (outsAt0 m c n h).2.2.2.2.2.2.2.2.2.2.2 (ix2 i.1 i.2))

/-- What a point adds to the four. -/
def added (i : Fin 8 × Fin 1024) : EReal × EReal × EReal × EReal :=
  (∑ b : Fin 64, (arrays m c).gradient (ix2 (every t b i.1) i.2),
    ∑ b : Fin 64, (arrays m c).gradient (ix2 (every t b i.1) i.2) * (arrays m c).normed (every t b i.1) i.2,
    ∑ b : Fin 64, (arrays m c).rows (every t b i.1) i.2 * (arrays m c).normed' (every t b i.1) i.2,
    ∑ b : Fin 64, (arrays m c).made (every t b i.1) i.2)

/-- A point's rows, from its blocks. -/
theorem point_rows (a : Fin 512) (j : Fin 1024) :
    k0_pay20 (F := Ideal) (iblk m c 1 t) (iblk m c 2 t) (iblk m c 0 t) (iblk m c 4 t) (iblk m c 3 t) (ix2 a j) = (arrays m c).rows (at_ t a) j := by
  simp only [rows_apply, blk0, blk1, blk2, blk3, blk4]
  rfl

theorem point_made (a : Fin 512) (j : Fin 1024) :
    k0_pay1 (F := Ideal) (k0_pay24 (iblk m c 5 t)) (k0_pay25 (iblk m c 5 t))
      (k0_pay26 (k0_pay20 (iblk m c 1 t) (iblk m c 2 t) (iblk m c 0 t) (iblk m c 4 t) (iblk m c 3 t)) (iblk m c 6 t) (iblk m c 7 t))
      (k0_pay27 (k0_pay20 (iblk m c 1 t) (iblk m c 2 t) (iblk m c 0 t) (iblk m c 4 t) (iblk m c 3 t)) (iblk m c 5 t) (iblk m c 6 t) (iblk m c 7 t))
      (ix2 a j) = (arrays m c).made (at_ t a) j := by
  simp only [made_apply, point_rows, blk5, blk6, blk7]
  rfl

theorem carried (hr : t.val % 16 = 16 - 1) (i : Fin 8 × Fin 1024) :
    held m c t.val t.isLt i = ∑ s : Fin 16, added m c ⟨16 * (t.val / 16) + s.val, Pipeline.run_point_lt_of_flush t hr s⟩ i := by
  rw [Pipeline.eq_sum_fin_of_reset_step_apply_of_flush (M := EReal × EReal × EReal × EReal) (held m c) 16 (fun _ => 0) (added m c) ?_ ?_ t hr i]
  · exact zero_add _
  · intro t h i
    unfold held
    rw [outsAt0_A m c t h (by omega)]
    frame_out
    simp only [read_unread_whole, add1_apply, add2_apply, add3_apply, add4_apply, normed_apply, normed'_apply, point_rows, point_made, blk1, blk2,
      blk5, zeros]
    rfl
  · intro t h i
    unfold held
    by_cases h2 : t.val % 16 = 15
    · rw [outsAt0_C m c t h h2]
      frame_out
      simp only [read_unread_whole, add1_apply, add2_apply, add3_apply, add4_apply, normed_apply, normed'_apply, point_rows, point_made, blk1, blk2,
        blk5]
      rfl
    · rw [outsAt0_B m c t h h2]
      frame_out
      simp only [read_unread_whole, add1_apply, add2_apply, add3_apply, add4_apply, normed_apply, normed'_apply, point_rows, point_made, blk1, blk2,
        blk5]
      rfl

/-- What the two results of rows hold after a point. -/
theorem written_rows (a : Fin 512) (j : Fin 1024) : (outsAt0 m c t.val t.isLt).1 (ix2 a j) = (arrays m c).rows (at_ t a) j
    ∧ (outsAt0 m c t.val t.isLt).2.1 (ix2 a j) = (arrays m c).made (at_ t a) j := by
  by_cases h0 : t.val % 16 = 0
  · rw [outsAt0_A m c t h0 (by omega)]
    frame_out
    simp only [read_unread_whole, stored_apply, point_rows, point_made, and_self]
  by_cases h1 : t.val % 16 = 15
  · rw [outsAt0_C m c t h0 h1]
    frame_out
    simp only [read_unread_whole, stored_apply, point_rows, point_made, and_self]
  · rw [outsAt0_B m c t h0 h1]
    frame_out
    simp only [read_unread_whole, stored_apply, point_rows, point_made, and_self]

/-- What the six results of one row hold at the last point: the carried arrays' sums over their eight rows, times the factors. -/
theorem written (h : t.val % 16 = 15) (a : Fin 1) (j : Fin 1024) :
    (outsAt0 m c t.val t.isLt).2.2.1 (ix2 a j) = (∑ r : Fin 8, (held m c t.val t.isLt (r, j)).1 : EReal)
    ∧ (outsAt0 m c t.val t.isLt).2.2.2.1 (ix2 a j) = ((arrays m c).gain (ix2 0 j) * ∑ r : Fin 8, (held m c t.val t.isLt (r, j)).2.1 : EReal)
    ∧ (outsAt0 m c t.val t.isLt).2.2.2.2.1 (ix2 a j) = ((one + (arrays m c).scale (ix2 0 j)) * ∑ r : Fin 8, (held m c t.val t.isLt (r, j)).2.1 : EReal)
    ∧ (outsAt0 m c t.val t.isLt).2.2.2.2.2.1 (ix2 a j) = ((arrays m c).gate (ix2 0 j) * ∑ r : Fin 8, (held m c t.val t.isLt (r, j)).2.2.1 : EReal)
    ∧ (outsAt0 m c t.val t.isLt).2.2.2.2.2.2.1 (ix2 a j) = ((arrays m c).gain' (ix2 0 j) * ∑ r : Fin 8, (held m c t.val t.isLt (r, j)).2.2.1 : EReal)
    ∧ (outsAt0 m c t.val t.isLt).2.2.2.2.2.2.2.1 (ix2 a j) = (∑ r : Fin 8, (held m c t.val t.isLt (r, j)).2.2.2 : EReal) := by
  unfold held
  rw [outsAt0_C m c t (by omega) h]
  frame_out
  refine ⟨?_, ?_, ?_, ?_, ?_, ?_⟩
  · pointwise [k0_pay8]
  · pointwise [k0_pay9, k0_pay6, blk3]
  · pointwise [k0_pay10, k0_pay6, blk4, one]
  · pointwise [k0_pay11, k0_pay7, blk7]
  · pointwise [k0_pay12, k0_pay7, blk6]
  · pointwise [k0_pay5]

/-- The eight rows of the carried arrays together: the sums over all the rows. -/
theorem sums (h : t.val % 16 = 15) (j : Fin 1024) :
    (∑ r : Fin 8, (held m c t.val t.isLt (r, j)).1 : EReal) = ∑ k : Fin 8192, (arrays m c).gradient (ix2 k j)
    ∧ (∑ r : Fin 8, (held m c t.val t.isLt (r, j)).2.1 : EReal) = (arrays m c).total j
    ∧ (∑ r : Fin 8, (held m c t.val t.isLt (r, j)).2.2.1 : EReal) = (arrays m c).total' j
    ∧ (∑ r : Fin 8, (held m c t.val t.isLt (r, j)).2.2.2 : EReal) = ∑ k : Fin 8192, (arrays m c).made k j := by
  have h0 : 16 * (t.val / 16) = 0 := by have := lt_of_lt_of_eq t.isLt N_0; omega
  have e (s : Fin 16) (b : Fin 64) (a : Fin 8) (hl) :
      every ⟨16 * (t.val / 16) + s.val, Pipeline.run_point_lt_of_flush t h s⟩ b a = ⟨s.val * 512 + (b.val * 8 + a.val), hl⟩ := by
    apply Fin.ext
    show 512 * (16 * (t.val / 16) + s.val) + (b.val * 8 + a.val) = s.val * 512 + (b.val * 8 + a.val)
    omega
  simp only [carried m c t h, Prod.fst_sum, Prod.snd_sum, added]
  exact ⟨sum_rows _ _ fun a s b hl => by rw [e s b a hl], sum_rows _ _ fun a s b hl => by rw [e s b a hl],
    sum_rows _ _ fun a s b hl => by rw [e s b a hl], sum_rows _ _ fun a s b hl => by rw [e s b a hl]⟩

/-- The gradients of the rows before the layer and of the layer. -/
theorem result_rows : (dats m 0 c).arrAt 8 cfg0.N = fun i : S8192x1024.Idx => (arrays m c).rows (i 0) (i 1) := by
  refine (dats m 0 c).arrAt_eq_of_covers 8 _ (by decide +kernel) fun t hf y => ?_
  blk_simp
  rw [after0_8]
  idx_vars y
  have q : ((cfg0.win 8).blk t).view.emb (ix2 y0 y1) = ix2 (at_ t y0) y1 := by
    unfold at_; blk_ext [idx t]
  rw [q]
  exact (written_rows m c t y0 y1).1

theorem result_layer : (dats m 0 c).arrAt 9 cfg0.N = fun i : S8192x1024.Idx => (arrays m c).made (i 0) (i 1) := by
  refine (dats m 0 c).arrAt_eq_of_covers 9 _ (by decide +kernel) fun t hf y => ?_
  blk_simp
  rw [after0_9]
  idx_vars y
  have q : ((cfg0.win 9).blk t).view.emb (ix2 y0 y1) = ix2 (at_ t y0) y1 := by
    unfold at_; blk_ext [idx t]
  rw [q]
  exact (written_rows m c t y0 y1).2

/-- The gradient of the shift. -/
theorem result_shift : (dats m 0 c).arrAt 10 cfg0.N = fun i : S1x1024.Idx => (∑ k : Fin 8192, (arrays m c).gradient (ix2 k (i 1)) : EReal) := by
  refine (dats m 0 c).arrAt_eq_of_covers 10 _ (by decide +kernel) fun t hf y => ?_
  have ht := (flush0_10 t).mp hf
  blk_simp
  rw [after0_10]
  idx_vars y
  have q : ((cfg0.win 10).blk t).view.emb (ix2 y0 y1) = ix2 0 y1 := by blk_ext [idx t]
  rw [q, (written m c t ht y0 y1).1, (sums m c t ht y1).1]
  rfl

/-- The gradient of the scale. -/
theorem result_scale : (dats m 0 c).arrAt 11 cfg0.N = fun i : S1x1024.Idx => (arrays m c).gain (ix2 0 (i 1)) * (arrays m c).total (i 1) := by
  refine (dats m 0 c).arrAt_eq_of_covers 11 _ (by decide +kernel) fun t hf y => ?_
  have ht := (flush0_11 t).mp hf
  blk_simp
  rw [after0_11]
  idx_vars y
  have q : ((cfg0.win 11).blk t).view.emb (ix2 y0 y1) = ix2 0 y1 := by blk_ext [idx t]
  rw [q, (written m c t ht y0 y1).2.1, (sums m c t ht y1).2.1]
  rfl

/-- The gradient of the gain. -/
theorem result_gain : (dats m 0 c).arrAt 12 cfg0.N = fun i : S1x1024.Idx => (one + (arrays m c).scale (ix2 0 (i 1))) * (arrays m c).total (i 1) := by
  refine (dats m 0 c).arrAt_eq_of_covers 12 _ (by decide +kernel) fun t hf y => ?_
  have ht := (flush0_12 t).mp hf
  blk_simp
  rw [after0_12]
  idx_vars y
  have q : ((cfg0.win 12).blk t).view.emb (ix2 y0 y1) = ix2 0 y1 := by blk_ext [idx t]
  rw [q, (written m c t ht y0 y1).2.2.1, (sums m c t ht y1).2.1]
  rfl

/-- The gradient of the gain of the layer's norm. -/
theorem result_gain' : (dats m 0 c).arrAt 13 cfg0.N = fun i : S1x1024.Idx => (arrays m c).gate (ix2 0 (i 1)) * (arrays m c).total' (i 1) := by
  refine (dats m 0 c).arrAt_eq_of_covers 13 _ (by decide +kernel) fun t hf y => ?_
  have ht := (flush0_13 t).mp hf
  blk_simp
  rw [after0_13]
  idx_vars y
  have q : ((cfg0.win 13).blk t).view.emb (ix2 y0 y1) = ix2 0 y1 := by blk_ext [idx t]
  rw [q, (written m c t ht y0 y1).2.2.2.1, (sums m c t ht y1).2.2.1]
  rfl

/-- The gradient of the gate. -/
theorem result_gate : (dats m 0 c).arrAt 14 cfg0.N = fun i : S1x1024.Idx => (arrays m c).gain' (ix2 0 (i 1)) * (arrays m c).total' (i 1) := by
  refine (dats m 0 c).arrAt_eq_of_covers 14 _ (by decide +kernel) fun t hf y => ?_
  have ht := (flush0_14 t).mp hf
  blk_simp
  rw [after0_14]
  idx_vars y
  have q : ((cfg0.win 14).blk t).view.emb (ix2 y0 y1) = ix2 0 y1 := by blk_ext [idx t]
  rw [q, (written m c t ht y0 y1).2.2.2.2.1, (sums m c t ht y1).2.2.1]
  rfl

/-- The gradient of a bias of the layer. -/
theorem result_bias : (dats m 0 c).arrAt 15 cfg0.N = fun i : S1x1024.Idx => (∑ k : Fin 8192, (arrays m c).made k (i 1) : EReal) := by
  refine (dats m 0 c).arrAt_eq_of_covers 15 _ (by decide +kernel) fun t hf y => ?_
  have ht := (flush0_15 t).mp hf
  blk_simp
  rw [after0_15]
  idx_vars y
  have q : ((cfg0.win 15).blk t).view.emb (ix2 y0 y1) = ix2 0 y1 := by blk_ext [idx t]
  rw [q, (written m c t ht y0 y1).2.2.2.2.2, (sums m c t ht y1).2.2.2]
  rfl

end Cert.Kernel9Ideal.Norm

end
-- ==== Proof.BetweenClaims.lean ====
/-
  The gradient of the norms between two layers: what the reference computes, and where the kernel's results are it.
-/
module

public import proofs.«01_k».proof.Proof.Gen.Reference9Ideal.Run
public import proofs.«01_k».proof.Proof.NormClaims
public import proofs.«01_k».proof.Proof.NormBetween
public import proofs.«01_k».proof.Pre_finite_factors
public import Idealize.ShloMosaic.Lib.IdealHost

@[expose] public section

set_option maxRecDepth 16384

noncomputable section

namespace Cert.Reference9Ideal.Norm

open Cert.Reference9Ideal Cert.Reference9Ideal.Gen Idealize.ShloMosaic Idealize.ShloMosaic.TcCoe Idealize.SL.Sem Cert.Norm

/-! ## The steps of the reference -/

abbrev Wide : Type := FVec Ideal S8192x1024 .f32
abbrev Line : Type := FVec Ideal S1x1024 .f32

/-- A single row, under every row, and a column beside every column. -/
def under (g : Line) : Wide := broadcastInDim S8192x1024 ![0, 1] bcast_S1x1024_S8192x1024_0_1 g
def beside (r : FVec Ideal S8192x1 .f32) : Wide := broadcastInDim S8192x1024 ![0, 1] bcast_S8192x1_S8192x1024_0_1 r

/-- What the layer made, with a bias of zeros. -/
def biased (y : FVec Ideal S8192x1024 .bf16) : Wide :=
  addf (extf .f32 y bitsLt_bf16_f32) (under (broadcastInDim S1x1024 ![] bcast_S_S1x1024 (constant S_ .f32 0x00000000#32)))

/-- The mean square of every row, and the constant. -/
def squares (X : Wide) : FVec Ideal S8192x1 .f32 :=
  addf (Host.divf (broadcastInDim S8192x1 ![0] bcast_S8192_S8192x1_0 (Host.reduceAdd (mulf X X) (constant S_ .f32 0x00000000#32)
    reducesTo_S8192x1024_S8192_d1 h_S_)) (broadcastInDim S8192x1 ![] bcast_S_S8192x1 (constant S_ .f32 0x44800000#32)))
    (broadcastInDim S8192x1 ![] bcast_S_S8192x1 (constant S_ .f32 0x358637BD#32))

/-- A gradient through the root of the mean square. -/
def through (X G : Wide) : Wide :=
  broadcastInDim S8192x1024 ![0] bcast_S8192_S8192x1024_0 (Host.reduceAdd (Host.divf (mulf (shapeCast _ (Host.reduceAdd (mulf X G)
    (constant S_ .f32 0x00000000#32) reducesTo_S8192x1024_S8192_d1 h_S_) shapeCasts_S8192_S8192x1)
    (mulf (broadcastInDim S8192x1 ![] bcast_S_S8192x1 (constant S_ .f32 0xBF000000#32)) (Host.divf (Host.rsqrt (squares X)) (squares X))))
    (broadcastInDim S8192x1 ![] bcast_S_S8192x1 (constant S_ .f32 0x44800000#32))) (constant S_ .f32 0x00000000#32) reducesTo_S8192x1_S8192_d1 h_S_)

/-- The sum of the rows. -/
def summed (X : Wide) : Line := shapeCast _ (Host.reduceAdd X (constant S_ .f32 0x00000000#32) reducesTo_S8192x1024_S1024_d0 h_S_) shapeCasts_S1024_S1x1024

theorem under_apply (g : Line) (t : Fin 8192) (j : Fin 1024) : under g (ix2 t j) = g (ix2 0 j) := by pointwise [under]

theorem biased_apply (y : FVec Ideal S8192x1024 .bf16) (t : Fin 8192) (j : Fin 1024) : biased y (ix2 t j) = y (ix2 t j) := by
  pointwise [biased, under_apply]

theorem squares_apply (X : Wide) (t : Fin 8192) (a : Fin 1) : squares X (ix2 t a) = square fun k => X (ix2 t k) := by
  pointwise [squares, square, width, eps]

theorem beside_apply (X : Wide) (t : Fin 8192) (j : Fin 1024) : beside (Host.rsqrt (squares X)) (ix2 t j) = root fun k => X (ix2 t k) := by
  pointwise [beside, squares_apply]
  rfl

theorem through_apply (X G : Wide) (t : Fin 8192) (j : Fin 1024) : through X G (ix2 t j)
    = Ideal.div ((∑ k, X (ix2 t k) * G (ix2 t k)) * (half * Ideal.div (root fun k => X (ix2 t k)) (square fun k => X (ix2 t k)))) width := by
  pointwise [through, squares_apply, width, half]
  simp only [Finset.univ_unique, Finset.sum_singleton]
  rfl

theorem summed_apply (X : Wide) (a : Fin 1) (j : Fin 1024) : summed X (ix2 a j) = ∑ t : Fin 8192, X (ix2 t j) := by
  pointwise [summed]

variable (m : (ℓ : Loc nD τ sig) → Buf (Elt Ideal) ℓ) (c : Dev nD)

/-- The arrays handed in. -/
def arrays : Arrays where
  onward := m ((c.tc : Thread nD τ).loc main_arg0)
  gradient := m ((c.tc : Thread nD τ).loc main_arg1)
  before := m ((c.tc : Thread nD τ).loc main_arg2)
  gain := m ((c.tc : Thread nD τ).loc main_arg3)
  scale := m ((c.tc : Thread nD τ).loc main_arg4)
  layer := m ((c.tc : Thread nD τ).loc main_arg5)
  gain' := m ((c.tc : Thread nD τ).loc main_arg6)
  gate := m ((c.tc : Thread nD τ).loc main_arg7)

/-- The layer and the rows after it, and one and the scale. -/
def made : Wide := biased (m ((c.tc : Thread nD τ).loc main_arg5))

def rooted (X : Wide) : Wide := mulf X (beside (Host.rsqrt (squares X)))

def after : Wide := addf (m ((c.tc : Thread nD τ).loc main_arg2)) (mulf (under (m ((c.tc : Thread nD τ).loc main_arg7)))
  (mulf (rooted (made m c)) (under (m ((c.tc : Thread nD τ).loc main_arg6)))))

def onescale : Line := addf (broadcastInDim S1x1024 ![] bcast_S_S1x1024 (constant S_ .f32 0x3F800000#32)) (m ((c.tc : Thread nD τ).loc main_arg4))

def given : Wide := shapeCast _ (m ((c.tc : Thread nD τ).loc main_arg1)) shapeCasts_S8192x1024_S8192x1024

/-- The gradient of the normed rows, and of the rows. -/
def scaledRows : Wide := mulf (mulf (given m c) (under (onescale m c))) (under (m ((c.tc : Thread nD τ).loc main_arg3)))

def rows : Wide := addf (addf (addf (m ((c.tc : Thread nD τ).loc main_arg0)) (mulf (scaledRows m c) (beside (Host.rsqrt (squares (after m c))))))
  (mulf (after m c) (through (after m c) (scaledRows m c)))) (mulf (through (after m c) (scaledRows m c)) (after m c))

def rowsAgain : Wide := shapeCast _ (rows m c) shapeCasts_S8192x1024_S8192x1024

/-- The gradient of the normed layer, and of the layer. -/
def gatedRows : Wide := mulf (mulf (under (m ((c.tc : Thread nD τ).loc main_arg7))) (rowsAgain m c)) (under (m ((c.tc : Thread nD τ).loc main_arg6)))

def layerRows : Wide := addf (addf (mulf (gatedRows m c) (beside (Host.rsqrt (squares (made m c)))))
  (mulf (made m c) (through (made m c) (gatedRows m c)))) (mulf (through (made m c) (gatedRows m c)) (made m c))

theorem rows_eq : Value.res_main_v70 m c = rows m c := rfl

theorem layer_eq : Value.res_main_v98 m c = truncf .bf16 (layerRows m c) bitsLt_bf16_f32 := rfl

theorem scale_eq : Value.res_main_v48 m c
    = summed (mulf (mulf (rooted (after m c)) (under (m ((c.tc : Thread nD τ).loc main_arg3)))) (given m c)) := rfl

theorem gain_eq : Value.res_main_v53 m c = summed (mulf (rooted (after m c)) (mulf (given m c) (under (onescale m c)))) := rfl

theorem gain'_eq : Value.res_main_v79 m c
    = summed (mulf (rooted (made m c)) (mulf (under (m ((c.tc : Thread nD τ).loc main_arg7))) (rowsAgain m c))) := rfl

theorem gate_eq : Value.res_main_v76 m c
    = summed (mulf (rowsAgain m c) (mulf (rooted (made m c)) (under (m ((c.tc : Thread nD τ).loc main_arg6))))) := rfl

theorem bias_eq : Value.res_main_v97 m c = summed (layerRows m c) := rfl

/-! ## Their entries -/

theorem made_apply (t : Fin 8192) (j : Fin 1024) : made m c (ix2 t j) = (arrays m c).layer (ix2 t j) := biased_apply ..

theorem rooted_apply (X : Wide) (t : Fin 8192) (j : Fin 1024) : rooted X (ix2 t j) = X (ix2 t j) * root fun k => X (ix2 t k) := by
  pointwise [rooted, beside_apply]

theorem normed'_apply (t : Fin 8192) (j : Fin 1024) : rooted (made m c) (ix2 t j) = (arrays m c).normed' t j := by
  simp only [rooted_apply, made_apply]
  rfl

theorem after_apply (t : Fin 8192) (j : Fin 1024) : after m c (ix2 t j) = (arrays m c).after t j := by
  pointwise [after, normed'_apply, under_apply]
  rfl

theorem normed_apply (t : Fin 8192) (j : Fin 1024) : rooted (after m c) (ix2 t j) = (arrays m c).normed t j := by
  simp only [rooted_apply, after_apply]
  rfl

theorem given_apply (t : Fin 8192) (j : Fin 1024) : given m c (ix2 t j) = (arrays m c).gradient (ix2 t j) := by
  pointwise [given]
  rfl

theorem onescale_apply (a : Fin 1) (j : Fin 1024) : onescale m c (ix2 a j) = one + (arrays m c).scale (ix2 0 j) := by
  obtain rfl : a = 0 := Subsingleton.elim _ _
  pointwise [onescale, one]
  rfl

theorem scaledRows_apply (t : Fin 8192) (j : Fin 1024) :
    scaledRows m c (ix2 t j) = scaled (arrays m c).gradient (arrays m c).gain (arrays m c).scale t j := by
  pointwise [scaledRows, given_apply, under_apply, onescale_apply]
  exact mul_assoc ..

variable {m} {c} (h : (arrays m c).Numbers)

include h

theorem rows_apply (t : Fin 8192) (j : Fin 1024) : rows m c (ix2 t j) = (arrays m c).rows t j := by
  rw [← Arrays.forth_rows h t j]
  pointwise [rows, scaledRows_apply, beside_apply, through_apply, after_apply]
  rfl

theorem rowsAgain_apply (t : Fin 8192) (j : Fin 1024) : rowsAgain m c (ix2 t j) = (arrays m c).rows t j := by
  pointwise [rowsAgain, rows_apply h]

theorem gatedRows_apply (t : Fin 8192) (j : Fin 1024) : gatedRows m c (ix2 t j) = (arrays m c).gated t j := by
  refine Eq.trans ?_ (show (arrays m c).gate (ix2 0 j) * (arrays m c).rows t j * (arrays m c).gain' (ix2 0 j) = _ by
    rw [mul_comm ((arrays m c).gate (ix2 0 j)), mul_assoc]; rfl)
  pointwise [gatedRows, rowsAgain_apply h, under_apply]
  rfl

theorem layerRows_apply (t : Fin 8192) (j : Fin 1024) : layerRows m c (ix2 t j) = (arrays m c).made t j := by
  rw [← Arrays.forth_made h t j]
  unfold forth
  rw [zero_add]
  pointwise [layerRows, gatedRows_apply h, beside_apply, through_apply, made_apply]

/-! ## The eight results -/

theorem result_rows : Value.res_main_v70 m c = fun i : S8192x1024.Idx => (arrays m c).rows (i 0) (i 1) := by
  funext i
  idx_vars i
  exact rows_apply h _ _

theorem result_layer : Value.res_main_v98 m c = fun i : S8192x1024.Idx => (arrays m c).made (i 0) (i 1) := by
  funext i
  idx_vars i
  exact layerRows_apply h _ _

theorem result_scale : Value.res_main_v48 m c = fun i : S1x1024.Idx => (arrays m c).gain (ix2 0 (i 1)) * (arrays m c).total (i 1) := by
  rw [scale_eq]
  funext i
  idx_vars i
  refine Eq.trans ?_ (Arrays.sum_scale h i1)
  pointwise [summed_apply, normed_apply, under_apply, given_apply]
  rfl

theorem result_gain : Value.res_main_v53 m c = fun i : S1x1024.Idx => (one + (arrays m c).scale (ix2 0 (i 1))) * (arrays m c).total (i 1) := by
  rw [gain_eq]
  funext i
  idx_vars i
  refine Eq.trans ?_ (Arrays.sum_gain h i1)
  pointwise [summed_apply, normed_apply, under_apply, given_apply, onescale_apply]

theorem result_gain' : Value.res_main_v79 m c = fun i : S1x1024.Idx => (arrays m c).gate (ix2 0 (i 1)) * (arrays m c).total' (i 1) := by
  rw [gain'_eq]
  funext i
  idx_vars i
  refine Eq.trans ?_ (Arrays.sum_gain' h i1)
  pointwise [summed_apply, normed'_apply, under_apply, rowsAgain_apply h]
  rfl

theorem result_gate : Value.res_main_v76 m c = fun i : S1x1024.Idx => (arrays m c).gain' (ix2 0 (i 1)) * (arrays m c).total' (i 1) := by
  rw [gate_eq]
  funext i
  idx_vars i
  refine Eq.trans ?_ (Arrays.sum_gate h i1)
  pointwise [summed_apply, normed'_apply, under_apply, rowsAgain_apply h]
  rfl

theorem result_bias : Value.res_main_v97 m c = fun i : S1x1024.Idx => (∑ k : Fin 8192, (arrays m c).made k (i 1) : EReal) := by
  rw [bias_eq]
  funext i
  idx_vars i
  pointwise [summed_apply, layerRows_apply h]

omit h

theorem run (ρ : Dev nD → PrngReg) (h : ∀ c, (arrays m c).Numbers) :
    θ_run defs (onTc (τ := τ) (main (F := Ideal))) ⟨m, fun _ => 0, ρ⟩ fun r => ∀ c : Dev nD,
      r.2.mem ((c.tc : Thread nD τ).loc main_v70) = (fun i : S8192x1024.Idx => (arrays m c).rows (i 0) (i 1))
      ∧ r.2.mem ((c.tc : Thread nD τ).loc main_v98) = (fun i : S8192x1024.Idx => (arrays m c).made (i 0) (i 1))
      ∧ r.2.mem ((c.tc : Thread nD τ).loc main_v45) = (fun i : S1x1024.Idx => (∑ k : Fin 8192, (arrays m c).gradient (ix2 k (i 1)) : EReal))
      ∧ r.2.mem ((c.tc : Thread nD τ).loc main_v48) = (fun i : S1x1024.Idx => (arrays m c).gain (ix2 0 (i 1)) * (arrays m c).total (i 1))
      ∧ r.2.mem ((c.tc : Thread nD τ).loc main_v53) = (fun i : S1x1024.Idx => (one + (arrays m c).scale (ix2 0 (i 1))) * (arrays m c).total (i 1))
      ∧ r.2.mem ((c.tc : Thread nD τ).loc main_v79) = (fun i : S1x1024.Idx => (arrays m c).gate (ix2 0 (i 1)) * (arrays m c).total' (i 1))
      ∧ r.2.mem ((c.tc : Thread nD τ).loc main_v76) = (fun i : S1x1024.Idx => (arrays m c).gain' (ix2 0 (i 1)) * (arrays m c).total' (i 1))
      ∧ r.2.mem ((c.tc : Thread nD τ).loc main_v97) = (fun i : S1x1024.Idx => (∑ k : Fin 8192, (arrays m c).made k (i 1) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r hr c => ?_) (Value.run (F := Ideal) m ρ)
  obtain ⟨r0, r1, r2, r3, r4, r5, r6, r7, kept⟩ := hr c
  refine ⟨r0.trans (result_rows (h c)), r1.trans (result_layer (h c)), r2.trans ?_, r3.trans (result_scale (h c)), r4.trans (result_gain (h c)),
    r5.trans (result_gain' (h c)), r6.trans (result_gate (h c)), r7.trans (result_bias (h c)), kept⟩
  funext i
  idx_vars i
  exact summed_apply _ _ _

end Cert.Reference9Ideal.Norm

namespace Cert.Norm

open Idealize.ShloMosaic

/-- What the precondition says: all but two of the arrays hold numbers. -/
theorem factors [Cert.Pre_finite_factors.Facts] (A : Arrays)
    (e : Cert.Pre_finite_factors.fn (F := Ideal) A.onward A.gradient A.before A.gain A.scale A.layer A.gain' A.gate = fun _ => 1#1) : A.Numbers := by
  have e (t : Fin 8192) (j : Fin 1024) := congrFun e (ix2 t j)
  unfold Cert.Pre_finite_factors.fn Cert.Pre_finite_factors.fn_part1 at e
  refine ⟨fun t j => ?_, fun t j => ?_, fun j => ?_, fun j => ?_, fun j => ?_, fun j => ?_⟩
  · exact Reals.of_lt _ (both (both (both (both (both (e t j)).1).1).1).1).1
  · exact Reals.of_lt _ (both (both (both (both (both (e t j)).1).1).1).1).2
  · exact Reals.of_lt _ ((across ..).symm.trans (both (both (both (both (e 0 j)).1).1).1).2)
  · exact Reals.of_lt _ ((across ..).symm.trans (both (both (both (e 0 j)).1).1).2)
  · exact Reals.of_lt _ ((across ..).symm.trans (both (both (e 0 j)).1).2)
  · exact Reals.of_lt _ ((across ..).symm.trans (both (e 0 j)).2)

end Cert.Norm

end
-- ==== Proof.MixerLast.lean ====
/-
  The mixers' last product, with a bias or none, and its gradients in both factors: where the kernel adds partial products over
  the tokens into an array it carries, the reference takes one product.
-/
module

public import proofs.«01_k».proof.Proof.Gen.Kernel10Ideal.Value
public import proofs.«01_k».proof.Proof.Gen.Reference10Ideal.Run
public import proofs.«01_k».proof.Proof.Gen.Kernel11Ideal.Value
public import proofs.«01_k».proof.Proof.Gen.Reference11Ideal.Run
public import proofs.«01_k».proof.Proof.Gen.Kernel17Ideal.Value
public import proofs.«01_k».proof.Proof.Gen.Reference17Ideal.Run
public import proofs.«01_k».proof.Proof.Gen.Kernel19Ideal.Value
public import proofs.«01_k».proof.Proof.Gen.Reference19Ideal.Run
public import proofs.«01_k».proof.Proof.Products
public import Idealize.ShloMosaic.Lib.Pointwise
public import Idealize.ShloMosaic.Lib.IdealHost
public import Idealize.ShloMosaic.Lib.Pipeline.ValueKit
public import Idealize.ShloMosaic.Lib.Pipeline.ReadBack

@[expose] public section

set_option maxRecDepth 16384

noncomputable section

namespace Cert.Kernel10Ideal.Last

open Cert.Kernel10Ideal Cert.Kernel10Ideal.Gen Idealize.ShloMosaic Idealize.ShloMosaic.TcCoe Idealize.SL.Sem Cert.Products

variable (m : (ℓ : Loc nD τ sig) → Buf (Elt Ideal) ℓ)

theorem idx : ∀ t : Fin grid0.N, win0_0.index t = ![win0_2.index t 0, 0] ∧ win0_1.index t = ![win0_2.index t 1, 0] := by decide +kernel

/-- The array after the run is the product. -/
theorem result (c : Dev nD) : (dats m 0 c).arrAt 2 cfg0.N
    = rowsByRows (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  pointwise [k0_pay1, rowsByRows]
  refine Fin.sum_fin_congr fun k => ?_
  congr 1 <;> blk_ext [iblk, V, idx t]

end Cert.Kernel10Ideal.Last

namespace Cert.Reference10Ideal.Last

open Cert.Reference10Ideal Cert.Reference10Ideal.Gen Cert.Reference10Ideal.Value Idealize.ShloMosaic Idealize.ShloMosaic.TcCoe Idealize.SL.Sem Cert.Products

theorem result (dy : FVec Ideal S8192x1024 .bf16) (w : FVec Ideal S1024x1024 .bf16) (h1 h2) :
    (Host.dotGeneral (F := Ideal) dot_S8192x1024_S1024x1024_S8192x1024_1_1_0_0_n_n none (extf .f32 dy h1) (extf .f32 w h2) : FVec Ideal S8192x1024 .f32) = rowsByRows dy w := by
  funext y
  idx_vars y
  pointwise [rowsByRows]

end Cert.Reference10Ideal.Last

namespace Cert.Kernel11Ideal.Last

open Cert.Kernel11Ideal Cert.Kernel11Ideal.Gen Idealize.ShloMosaic Idealize.ShloMosaic.TcCoe Idealize.SL.Sem Cert.Products

variable (m : (ℓ : Loc nD τ sig) → Buf (Elt Ideal) ℓ)

theorem idx : ∀ t : Fin grid0.N, win0_0.index t = ![t.val % 4, 0] ∧ win0_1.index t = ![t.val % 4, 0]
    ∧ win0_2.index t = ![t.val / 4, 0] := by decide +kernel

/-- What one point adds: the product over its tokens. -/
def part (c : Dev nD) (t : Fin cfg0.N) : S1024x1024.Idx → EReal := columnsByColumns (a := 1024) (b := 1024) (n := 2048) (iblk m c 0 t) (iblk m c 1 t)

theorem part_eq (c : Dev nD) (t : Fin cfg0.N) (j : S1024x1024.Idx) : k0_pay1 (F := Ideal) (iblk m c 0 t) (iblk m c 1 t) j = part m c t j := by
  idx_vars j
  pointwise [k0_pay1, part, columnsByColumns]

/-- What is carried after the last point of a block: the sum over the block's points. -/
theorem carried (c : Dev nD) (t : Fin cfg0.N) (hr : t.val % 4 = 4 - 1) (j : S1024x1024.Idx) :
    (outsAt0 m c t.val t.isLt).2 j
      = (∑ s : Fin 4, part m c ⟨4 * (t.val / 4) + s.val, Pipeline.run_point_lt_of_flush t hr s⟩ j : EReal) := by
  rw [Pipeline.eq_sum_fin_of_reset_step_apply_of_flush (M := EReal) (fun n h => (outsAt0 m c n h).2) 4 (fun _ => 0)
    (part m c) ?_ ?_ t hr j]
  · exact zero_add _
  · intro t h j
    have hN : cfg0.N = 4 := N_0
    rw [outsAt0_A m c t h (by omega) (by omega)]
    frame_out
    rw [zero_add, ← part_eq]
    simp only [k0_pay2, shapeCast_self]
  · intro t h j
    by_cases h2 : t.val % 4 = 3
    · rw [outsAt0_C m c t h (by omega) h2]
      frame_out
      rw [← part_eq]
      simp only [k0_pay3, shapeCast_self, read_unread_whole]
      rfl
    · rw [outsAt0_B m c t h (by omega) h2]
      frame_out
      rw [← part_eq]
      simp only [k0_pay3, shapeCast_self, read_unread_whole]
      rfl

/-- What the last point of a block writes out is what is carried. -/
theorem written (c : Dev nD) (t : Fin cfg0.N) (h : t.val % 4 = 3) (j : S1024x1024.Idx) :
    (outsAt0 m c t.val t.isLt).1 j = (outsAt0 m c t.val t.isLt).2 j := by
  rw [outsAt0_C m c t (by omega) (by omega) h]
  frame_out
  simp only [k0_pay4, k0_pay3, shapeCast_self, read_unread_whole]
  rfl

/-- The array after the run is the product. -/
theorem result (c : Dev nD) : (dats m 0 c).arrAt 2 cfg0.N
    = columnsByColumns (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  rw [after0_2, written m c t ht, carried m c t ht]
  idx_vars y
  simp only [part, columnsByColumns]
  refine Fin.sum_mul_add_congr (S := 4) (n := 2048) fun s k hl => ?_
  congr 1 <;> blk_ext [iblk, V, (idx t).2.2, (idx ⟨4 * (t.val / 4) + s.val, Pipeline.run_point_lt_of_flush t ht s⟩).1, (idx ⟨4 * (t.val / 4) + s.val, Pipeline.run_point_lt_of_flush t ht s⟩).2.1]

end Cert.Kernel11Ideal.Last

namespace Cert.Reference11Ideal.Last

open Cert.Reference11Ideal Cert.Reference11Ideal.Gen Cert.Reference11Ideal.Value Idealize.ShloMosaic Idealize.ShloMosaic.TcCoe Idealize.SL.Sem Cert.Products

theorem result (a : FVec Ideal S8192x1024 .bf16) (dy : FVec Ideal S8192x1024 .bf16) (h1 h2 h3 h4) :
    (truncf .bf16 (transpose S1024x1024 [1, 0] (Host.dotGeneral (F := Ideal) dot_S8192x1024_S8192x1024_S1024x1024_0_0_1_1_n_n none
      (extf .f32 dy h1) (extf .f32 a h2)) h3) h4 : FVec Ideal S1024x1024 .bf16) = columnsByColumns a dy := by
  funext y
  idx_vars y
  pointwise [columnsByColumns]
  exact Fin.sum_fin_congr fun k => mul_comm _ _

end Cert.Reference11Ideal.Last

namespace Cert.Kernel17Ideal.Last

open Cert.Kernel17Ideal Cert.Kernel17Ideal.Gen Idealize.ShloMosaic Idealize.ShloMosaic.TcCoe Idealize.SL.Sem Cert.Products

variable (m : (ℓ : Loc nD τ sig) → Buf (Elt Ideal) ℓ)

theorem idx : ∀ t : Fin grid0.N, win0_0.index t = ![win0_3.index t 0, 0] ∧ win0_1.index t = ![0, win0_3.index t 1]
    ∧ win0_2.index t = ![0, win0_3.index t 1] := by decide +kernel

/-- The array after the run is the product with the bias added. -/
theorem result (c : Dev nD) : (dats m 0 c).arrAt 3 cfg0.N
    = plusRow (rowsByColumns (m ((c : Thread nD τ).loc main_arg0)) (m ((c : Thread nD τ).loc main_arg1))) (m ((c : Thread nD τ).loc main_arg2)) := by
  refine (dats m 0 c).arrAt_eq_of_covers 3 _ (by decide +kernel) fun t hf y => ?_
  blk_simp
  rw [after0_3]
  frame_out
  idx_vars y
  pointwise [k0_pay1, rowsByColumns, plusRow]
  congr 1
  · refine Fin.sum_fin_congr fun k => ?_
    congr 1 <;> blk_ext [iblk, V, idx t]
  · blk_ext [iblk, V, idx t]

end Cert.Kernel17Ideal.Last

namespace Cert.Reference17Ideal.Last

open Cert.Reference17Ideal Cert.Reference17Ideal.Gen Cert.Reference17Ideal.Value Idealize.ShloMosaic Idealize.ShloMosaic.TcCoe Idealize.SL.Sem Cert.Products

theorem result (u : FVec Ideal S8192x1024 .bf16) (w : FVec Ideal S1024x1024 .bf16) (b : FVec Ideal S1x1024 .f32) (h1 h2 h3 h4 h5 h6) :
    (truncf .bf16 (addf (Host.dotGeneral (F := Ideal) dot_S8192x1024_S1024x1024_S8192x1024_1_0_0_1_n_n none (extf .f32 u h1) (extf .f32 w h2))
      (broadcastInDim S8192x1024 ![0, 1] h3 (broadcastInDim S1x1024 ![1] h4 (shapeCast S1024 b h5)))) h6
      : FVec Ideal S8192x1024 .bf16) = plusRow (rowsByColumns u w) b := by
  funext y
  idx_vars y
  pointwise [rowsByColumns, plusRow]

end Cert.Reference17Ideal.Last

namespace Cert.Kernel19Ideal.Last

open Cert.Kernel19Ideal Cert.Kernel19Ideal.Gen Idealize.ShloMosaic Idealize.ShloMosaic.TcCoe Idealize.SL.Sem Cert.Products

variable (m : (ℓ : Loc nD τ sig) → Buf (Elt Ideal) ℓ)

theorem idx : ∀ t : Fin grid0.N, win0_0.index t = ![win0_2.index t 0, 0] ∧ win0_1.index t = ![0, win0_2.index t 1] := by decide +kernel

/-- The array after the run is the product. -/
theorem result (c : Dev nD) : (dats m 0 c).arrAt 2 cfg0.N
    = rowsByColumns (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  pointwise [k0_pay1, rowsByColumns]
  refine Fin.sum_fin_congr fun k => ?_
  congr 1 <;> blk_ext [iblk, V, idx t]

end Cert.Kernel19Ideal.Last

namespace Cert.Reference19Ideal.Last

open Cert.Reference19Ideal Cert.Reference19Ideal.Gen Cert.Reference19Ideal.Value Idealize.ShloMosaic Idealize.ShloMosaic.TcCoe Idealize.SL.Sem Cert.Products

theorem result (a : FVec Ideal S8192x1024 .bf16) (w : FVec Ideal S1024x1024 .bf16) (h1 h2 h3) :
    (truncf .bf16 (Host.dotGeneral (F := Ideal) dot_S8192x1024_S1024x1024_S8192x1024_1_0_0_1_n_n none (extf .f32 a h1) (extf .f32 w h2)) h3
      : FVec Ideal S8192x1024 .bf16) = rowsByColumns a w := by
  funext y
  idx_vars y
  pointwise [rowsByColumns]

end Cert.Reference19Ideal.Last

end
-- ==== Proof.MixerFirst.lean ====
/-
  The mixers' first product from a gathered weight, and its gradient in the rows: each shard gives its columns of the product,
  and one summand of the gradient.
-/
module

public import proofs.«01_k».proof.Proof.Gen.Kernel12Ideal.Value
public import proofs.«01_k».proof.Proof.Gen.Reference12Ideal.Run
public import proofs.«01_k».proof.Proof.Gen.Kernel14Ideal.Value
public import proofs.«01_k».proof.Proof.Gen.Reference14Ideal.Run
public import proofs.«01_k».proof.Proof.Gen.Kernel16Ideal.Value
public import proofs.«01_k».proof.Proof.Gen.Reference16Ideal.Run
public import proofs.«01_k».proof.Proof.Gen.Kernel18Ideal.Value
public import proofs.«01_k».proof.Proof.Gen.Reference18Ideal.Run
public import proofs.«01_k».proof.Proof.Products
public import Idealize.ShloMosaic.Lib.Pointwise
public import Idealize.ShloMosaic.Lib.IdealHost
public import Idealize.ShloMosaic.Lib.Pipeline.ValueKit
public import Idealize.ShloMosaic.Lib.Pipeline.ReadBack

@[expose] public section

set_option maxRecDepth 16384

noncomputable section

namespace Cert.Kernel12Ideal.First

open Cert.Kernel12Ideal Cert.Kernel12Ideal.Gen Idealize.ShloMosaic Idealize.ShloMosaic.TcCoe Idealize.SL.Sem Cert.Products

variable (m : (ℓ : Loc nD τ sig) → Buf (Elt Ideal) ℓ)

theorem idx : ∀ t : Fin grid0.N, win0_0.index t = ![t.val / 4, t.val % 4] ∧ win0_1.index t = ![t.val % 4, 0, 0, 0]
    ∧ win0_2.index t = ![t.val / 4, 0] := by decide +kernel

/-- What one point adds: the product over one shard's columns. -/
def part (c : Dev nD) (t : Fin cfg0.N) : S1024x1024.Idx → EReal := rowsByRows (a := 1024) (b := 1024) (n := 512) (iblk m c 0 t) (fun y => iblk m c 1 t (ix4 (0 : Fin 1) (0 : Fin 1) (y 0) (y 1)))

theorem part_eq (c : Dev nD) (t : Fin cfg0.N) (j : S1024x1024.Idx) : k0_pay1 (F := Ideal) (iblk m c 0 t) (iblk m c 1 t) j = part m c t j := by
  idx_vars j
  pointwise [k0_pay1, part, rowsByRows]

/-- What is carried after the last point of a block: the sum over the block's points. -/
theorem carried (c : Dev nD) (t : Fin cfg0.N) (hr : t.val % 4 = 4 - 1) (j : S1024x1024.Idx) :
    (outsAt0 m c t.val t.isLt).2 j
      = (∑ s : Fin 4, part m c ⟨4 * (t.val / 4) + s.val, Pipeline.run_point_lt_of_flush t hr s⟩ j : EReal) := by
  rw [Pipeline.eq_sum_fin_of_reset_step_apply_of_flush (M := EReal) (fun n h => (outsAt0 m c n h).2) 4 (fun _ => 0)
    (part m c) ?_ ?_ t hr j]
  · exact zero_add _
  · intro t h j
    rw [outsAt0_A m c t h (by omega) (by omega)]
    frame_out
    rw [zero_add, ← part_eq]
    simp only [k0_pay2, shapeCast_self]
  · intro t h j
    by_cases h2 : t.val % 4 = 3
    · rw [outsAt0_C m c t h (by omega) h2]
      frame_out
      rw [← part_eq]
      simp only [k0_pay3, shapeCast_self, read_unread_whole]
      rfl
    · rw [outsAt0_B m c t h (by omega) h2]
      frame_out
      rw [← part_eq]
      simp only [k0_pay3, shapeCast_self, read_unread_whole]
      rfl

/-- What the last point of a block writes out is what is carried. -/
theorem written (c : Dev nD) (t : Fin cfg0.N) (h : t.val % 4 = 3) (j : S1024x1024.Idx) :
    (outsAt0 m c t.val t.isLt).1 j = (outsAt0 m c t.val t.isLt).2 j := by
  rw [outsAt0_C m c t (by omega) (by omega) h]
  frame_out

/-- The array after the run is the product. -/
theorem result (c : Dev nD) : (dats m 0 c).arrAt 2 cfg0.N
    = rowsByRows (m ((c : Thread nD τ).loc main_arg0)) (sideBySide (l := 2) (k := 1024) (n := 512) 0 (m ((c : Thread nD τ).loc main_arg1))) := by
  refine (dats m 0 c).arrAt_eq_of_covers 2 _ (by decide +kernel) fun t hf y => ?_
  have ht := (flush0_2 t).mp hf
  blk_simp
  rw [after0_2, written m c t ht, carried m c t ht]
  idx_vars y
  simp only [part, rowsByRows, sideBySide]
  refine Fin.sum_mul_add_congr (S := 4) (n := 512) fun s k hl => ?_
  congr 1 <;> blk_ext [iblk, V, (idx t).2.2, (idx ⟨4 * (t.val / 4) + s.val, Pipeline.run_point_lt_of_flush t ht s⟩).1, (idx ⟨4 * (t.val / 4) + s.val, Pipeline.run_point_lt_of_flush t ht s⟩).2.1]

end Cert.Kernel12Ideal.First

namespace Cert.Reference12Ideal.First

open Cert.Reference12Ideal Cert.Reference12Ideal.Gen Cert.Reference12Ideal.Value Idealize.ShloMosaic Idealize.ShloMosaic.TcCoe Idealize.SL.Sem Cert.Products

theorem result (du : FVec Ideal S8192x2048 .bf16) (w : FVec Ideal S4x2x1024x512 .bf16) (h1 h2 h3 h4 h5 h6) :
    (Host.dotGeneral (F := Ideal) dot_S8192x2048_S1024x2048_S8192x1024_1_1_0_0_n_n none (extf .f32 du h1)
      (shapeCast S1024x2048 (transpose S1024x4x512 [1, 0, 2] (extf .f32 (shapeCast S4x1024x512 (extractStridedSlice S4x1x1024x512 ![0, 0, 0, 0] w h2) h3) h4) h5) h6)
      : FVec Ideal S8192x1024 .f32) = rowsByRows du (sideBySide (l := 2) (k := 1024) (n := 512) 0 w) := by
  funext y
  idx_vars y
  pointwise [rowsByRows, sideBySide]

end Cert.Reference12Ideal.First

namespace Cert.Kernel14Ideal.First

open Cert.Kernel14Ideal Cert.Kernel14Ideal.Gen Idealize.ShloMosaic Idealize.ShloMosaic.TcCoe Idealize.SL.Sem Cert.Products

variable (m : (ℓ : Loc nD τ sig) → Buf (Elt Ideal) ℓ)

theorem idx : ∀ t : Fin grid0.N, win0_0.index t = ![t.val / 4, t.val % 4] ∧ win0_1.index t = ![t.val % 4, 0, 0, 0]
    ∧ win0_2.index t = ![t.val / 4, 0] := by decide +kernel

/-- What one point adds: the product over one shard's columns. -/
def part (c : Dev nD) (t : Fin cfg0.N) : S1024x1024.Idx → EReal := rowsByRows (a := 1024) (b := 1024) (n := 768) (iblk m c 0 t) (fun y => iblk m c 1 t (ix4 (0 : Fin 1) (0 : Fin 1) (y 0) (y 1)))

theorem part_eq (c : Dev nD) (t : Fin cfg0.N) (j : S1024x1024.Idx) : k0_pay1 (F := Ideal) (iblk m c 0 t) (iblk m c 1 t) j = part m c t j := by
  idx_vars j
  pointwise [k0_pay1, part, rowsByRows]

/-- What is carried after the last point of a block: the sum over the block's points. -/
theorem carried (c : Dev nD) (t : Fin cfg0.N) (hr : t.val % 4 = 4 - 1) (j : S1024x1024.Idx) :
    (outsAt0 m c t.val t.isLt).2 j
      = (∑ s : Fin 4, part m c ⟨4 * (t.val / 4) + s.val, Pipeline.run_point_lt_of_flush t hr s⟩ j : EReal) := by
  rw [Pipeline.eq_sum_fin_of_reset_step_apply_of_flush (M := EReal) (fun n h => (outsAt0 m c n h).2) 4 (fun _ => 0)
    (part m c) ?_ ?_ t hr j]
  · exact zero_add _
  · intro t h j
    rw [outsAt0_A m c t h (by omega) (by omega)]
    frame_out
    rw [zero_add, ← part_eq]
    simp only [k0_pay2, shapeCast_self]
  · intro t h j
    by_cases h2 : t.val % 4 = 3
    · rw [outsAt0_C m c t h (by omega) h2]
      frame_out
      rw [← part_eq]
      simp only [k0_pay3, shapeCast_self, read_unread_whole]
      rfl
    · rw [outsAt0_B m c t h (by omega) h2]
      frame_out
      rw [← part_eq]
      simp only [k0_pay3, shapeCast_self, read_unread_whole]
      rfl

/-- What the last point of a block writes out is what is carried. -/
theorem written (c : Dev nD) (t : Fin cfg0.N) (h : t.val % 4 = 3) (j : S1024x1024.Idx) :
    (outsAt0 m c t.val t.isLt).1 j = (outsAt0 m c t.val t.isLt).2 j := by
  rw [outsAt0_C m c t (by omega) (by omega) h]
  frame_out

/-- The array after the run is the product. -/
theorem result (c : Dev nD) : (dats m 0 c).arrAt 2 cfg0.N
    = rowsByRows (m ((c : Thread nD τ).loc main_arg0)) (sideBySide (l := 1) (k := 1024) (n := 768) 0 (m ((c : Thread nD τ).loc main_arg1))) := by
  refine (dats m 0 c).arrAt_eq_of_covers 2 _ (by decide +kernel) fun t hf y => ?_
  have ht := (flush0_2 t).mp hf
  blk_simp
  rw [after0_2, written m c t ht, carried m c t ht]
  idx_vars y
  simp only [part, rowsByRows, sideBySide]
  refine Fin.sum_mul_add_congr (S := 4) (n := 768) fun s k hl => ?_
  congr 1 <;> blk_ext [iblk, V, (idx t).2.2, (idx ⟨4 * (t.val / 4) + s.val, Pipeline.run_point_lt_of_flush t ht s⟩).1, (idx ⟨4 * (t.val / 4) + s.val, Pipeline.run_point_lt_of_flush t ht s⟩).2.1]

end Cert.Kernel14Ideal.First

namespace Cert.Reference14Ideal.First

open Cert.Reference14Ideal Cert.Reference14Ideal.Gen Cert.Reference14Ideal.Value Idealize.ShloMosaic Idealize.ShloMosaic.TcCoe Idealize.SL.Sem Cert.Products

theorem result (du : FVec Ideal S8192x3072 .bf16) (w : FVec Ideal S4x1x1024x768 .bf16) (h1 h3 h4 h5 h6) :
    (Host.dotGeneral (F := Ideal) dot_S8192x3072_S1024x3072_S8192x1024_1_1_0_0_n_n none (extf .f32 du h1)
      (shapeCast S1024x3072 (transpose S1024x4x768 [1, 0, 2] (extf .f32 (shapeCast S4x1024x768 w h3) h4) h5) h6)
      : FVec Ideal S8192x1024 .f32) = rowsByRows du (sideBySide (l := 1) (k := 1024) (n := 768) 0 w) := by
  funext y
  idx_vars y
  pointwise [rowsByRows, sideBySide]

end Cert.Reference14Ideal.First

namespace Cert.Kernel16Ideal.First

open Cert.Kernel16Ideal Cert.Kernel16Ideal.Gen Idealize.ShloMosaic Idealize.ShloMosaic.TcCoe Idealize.SL.Sem Cert.Products

variable (m : (ℓ : Loc nD τ sig) → Buf (Elt Ideal) ℓ)

theorem idx : ∀ t : Fin grid0.N, win0_0.index t = ![win0_2.index t 0, 0] ∧ win0_1.index t = ![win0_2.index t 1, 0, 0, 0] := by decide +kernel

/-- The array after the run is the product. -/
theorem result (c : Dev nD) : (dats m 0 c).arrAt 2 cfg0.N
    = rowsByColumns (m ((c : Thread nD τ).loc main_arg0)) (sideBySide (l := 2) (k := 1024) (n := 512) 0 (m ((c : Thread nD τ).loc main_arg1))) := by
  refine (dats m 0 c).arrAt_eq_of_covers 2 _ (by decide +kernel) fun t hf y => ?_
  blk_simp
  rw [after0_2]
  frame_out
  idx_vars y
  pointwise [k0_pay1, rowsByColumns, sideBySide]
  refine Fin.sum_fin_congr fun k => ?_
  congr 1 <;> blk_ext [iblk, V, idx t]

end Cert.Kernel16Ideal.First

namespace Cert.Reference16Ideal.First

open Cert.Reference16Ideal Cert.Reference16Ideal.Gen Cert.Reference16Ideal.Value Idealize.ShloMosaic Idealize.ShloMosaic.TcCoe Idealize.SL.Sem Cert.Products

theorem result (h : FVec Ideal S8192x1024 .bf16) (w : FVec Ideal S4x2x1024x512 .bf16) (h1 h2 h3 h4 h5 h6) :
    (Host.dotGeneral (F := Ideal) dot_S8192x1024_S1024x2048_S8192x2048_1_0_0_1_n_n none (extf .f32 h h1)
      (shapeCast S1024x2048 (transpose S1024x4x512 [1, 0, 2] (extf .f32 (shapeCast S4x1024x512 (extractStridedSlice S4x1x1024x512 ![0, 0, 0, 0] w h2) h3) h4) h5) h6)
      : FVec Ideal S8192x2048 .f32) = rowsByColumns h (sideBySide (l := 2) (k := 1024) (n := 512) 0 w) := by
  funext y
  idx_vars y
  pointwise [rowsByColumns, sideBySide]

end Cert.Reference16Ideal.First

namespace Cert.Kernel18Ideal.First

open Cert.Kernel18Ideal Cert.Kernel18Ideal.Gen Idealize.ShloMosaic Idealize.ShloMosaic.TcCoe Idealize.SL.Sem Cert.Products

variable (m : (ℓ : Loc nD τ sig) → Buf (Elt Ideal) ℓ)

theorem idx : ∀ t : Fin grid0.N, win0_0.index t = ![win0_2.index t 0, 0] ∧ win0_1.index t = ![win0_2.index t 1, 0, 0, 0] := by decide +kernel

/-- The array after the run is the product. -/
theorem result (c : Dev nD) : (dats m 0 c).arrAt 2 cfg0.N
    = rowsByColumns (m ((c : Thread nD τ).loc main_arg0)) (sideBySide (l := 1) (k := 1024) (n := 768) 0 (m ((c : Thread nD τ).loc main_arg1))) := by
  refine (dats m 0 c).arrAt_eq_of_covers 2 _ (by decide +kernel) fun t hf y => ?_
  blk_simp
  rw [after0_2]
  frame_out
  idx_vars y
  pointwise [k0_pay1, rowsByColumns, sideBySide]
  refine Fin.sum_fin_congr fun k => ?_
  congr 1 <;> blk_ext [iblk, V, idx t]

end Cert.Kernel18Ideal.First

namespace Cert.Reference18Ideal.First

open Cert.Reference18Ideal Cert.Reference18Ideal.Gen Cert.Reference18Ideal.Value Idealize.ShloMosaic Idealize.ShloMosaic.TcCoe Idealize.SL.Sem Cert.Products

theorem result (h : FVec Ideal S8192x1024 .bf16) (w : FVec Ideal S4x1x1024x768 .bf16) (h1 h3 h4 h5 h6) :
    (Host.dotGeneral (F := Ideal) dot_S8192x1024_S1024x3072_S8192x3072_1_0_0_1_n_n none (extf .f32 h h1)
      (shapeCast S1024x3072 (transpose S1024x4x768 [1, 0, 2] (extf .f32 (shapeCast S4x1024x768 w h3) h4) h5) h6)
      : FVec Ideal S8192x3072 .f32) = rowsByColumns h (sideBySide (l := 1) (k := 1024) (n := 768) 0 w) := by
  funext y
  idx_vars y
  pointwise [rowsByColumns, sideBySide]

end Cert.Reference18Ideal.First

end
-- ==== Proof.MixerWeight.lean ====
/-
  The gradient of the mixers' first product in its weight, one array per shard: the kernel adds four partial products over the
  tokens into an array it carries, and the reference takes one product.
-/
module

public import proofs.«01_k».proof.Proof.Gen.Kernel13Ideal.Value
public import proofs.«01_k».proof.Proof.Gen.Reference13Ideal.Run
public import proofs.«01_k».proof.Proof.Gen.Kernel15Ideal.Value
public import proofs.«01_k».proof.Proof.Gen.Reference15Ideal.Run
public import proofs.«01_k».proof.Proof.Products
public import Idealize.ShloMosaic.Lib.Pointwise
public import Idealize.ShloMosaic.Lib.IdealHost
public import Idealize.ShloMosaic.Lib.Pipeline.ValueKit
public import Idealize.ShloMosaic.Lib.Pipeline.ReadBack

@[expose] public section

set_option maxRecDepth 16384

noncomputable section

namespace Cert.Kernel13Ideal.First

open Cert.Kernel13Ideal Cert.Kernel13Ideal.Gen Idealize.ShloMosaic Idealize.ShloMosaic.TcCoe Idealize.SL.Sem Cert.Products

variable (m : (ℓ : Loc nD τ sig) → Buf (Elt Ideal) ℓ)

theorem idx : ∀ t : Fin grid0.N, win0_0.index t = ![t.val % 4, 0] ∧ win0_1.index t = ![t.val % 4, t.val / 4]
    ∧ win0_2.index t = ![t.val / 4, 0, 0] := by decide +kernel

/-- What one point adds: the product over its tokens. -/
def part (c : Dev nD) (t : Fin cfg0.N) : S1024x512.Idx → EReal := columnsByColumns (a := 1024) (b := 512) (n := 2048) (iblk m c 0 t) (iblk m c 1 t)

theorem part_eq (c : Dev nD) (t : Fin cfg0.N) (j : S1024x512.Idx) : k0_pay1 (F := Ideal) (iblk m c 0 t) (iblk m c 1 t) j = part m c t j := by
  idx_vars j
  pointwise [k0_pay1, part, columnsByColumns]

/-- What is carried after the last point of a block: the sum over the block's points. -/
theorem carried (c : Dev nD) (t : Fin cfg0.N) (hr : t.val % 4 = 4 - 1) (j : S1024x512.Idx) :
    (outsAt0 m c t.val t.isLt).2 j
      = (∑ s : Fin 4, part m c ⟨4 * (t.val / 4) + s.val, Pipeline.run_point_lt_of_flush t hr s⟩ j : EReal) := by
  rw [Pipeline.eq_sum_fin_of_reset_step_apply_of_flush (M := EReal) (fun n h => (outsAt0 m c n h).2) 4 (fun _ => 0)
    (part m c) ?_ ?_ t hr j]
  · exact zero_add _
  · intro t h j
    rw [outsAt0_A m c t h (by omega) (by omega)]
    frame_out
    rw [zero_add, ← part_eq]
    simp only [k0_pay2, shapeCast_self]
  · intro t h j
    by_cases h2 : t.val % 4 = 3
    · rw [outsAt0_C m c t h (by omega) h2]
      frame_out
      rw [← part_eq]
      simp only [k0_pay3, shapeCast_self, read_unread_whole]
      rfl
    · rw [outsAt0_B m c t h (by omega) h2]
      frame_out
      rw [← part_eq]
      simp only [k0_pay3, shapeCast_self, read_unread_whole]
      rfl

theorem last_eq (v : FVec Ideal S1024x512 .f32) (a : Fin 1) (r : Fin 1024) (j : Fin 512) : k0_pay4 (F := Ideal) v (ix3 a r j) = v (ix2 r j) := by
  pointwise [k0_pay4]

/-- What the last point of a block writes out is what is carried. -/
theorem written (c : Dev nD) (t : Fin cfg0.N) (h : t.val % 4 = 3) (j : S1x1024x512.Idx) :
    (outsAt0 m c t.val t.isLt).1 j = (outsAt0 m c t.val t.isLt).2 (ix2 (j 1) (j 2)) := by
  idx_vars j
  rw [outsAt0_C m c t (by omega) (by omega) h]
  frame_out
  exact last_eq _ j0 j1 j2

/-- The array after the run is the product. -/
theorem result (c : Dev nD) : (dats m 0 c).arrAt 2 cfg0.N
    = perShard (k := 1024) (n := 512) (columnsByColumns (a := 1024) (b := 2048) (n := 8192) (m ((c : Thread nD τ).loc main_arg0)) (m ((c : Thread nD τ).loc main_arg1))) := by
  refine (dats m 0 c).arrAt_eq_of_covers 2 _ (by decide +kernel) fun t hf y => ?_
  have ht := (flush0_2 t).mp hf
  have ht4 : t.val / 4 < 4 := by have := t.isLt; have : cfg0.N = 16 := N_0; omega
  blk_simp
  rw [after0_2, written m c t ht, carried m c t ht]
  idx_vars y
  have e : ((View.whole main_v0).slice (win0_2.rect t)).emb (ix3 y0 y1 y2) = ix3 (⟨t.val / 4, ht4⟩ : Fin 4) y1 y2 := by
    blk_ext [(idx t).2.2]
  rw [e]
  simp only [part, columnsByColumns, perShard]
  refine Fin.sum_mul_add_congr (S := 4) (n := 2048) fun s k hl => ?_
  congr 1
  · blk_ext [iblk, V, (idx ⟨4 * (t.val / 4) + s.val, Pipeline.run_point_lt_of_flush t ht s⟩).1]
  · blk_ext [iblk, V, (idx ⟨4 * (t.val / 4) + s.val, Pipeline.run_point_lt_of_flush t ht s⟩).2.1]

end Cert.Kernel13Ideal.First

namespace Cert.Reference13Ideal.First

open Cert.Reference13Ideal Cert.Reference13Ideal.Gen Cert.Reference13Ideal.Value Idealize.ShloMosaic Idealize.ShloMosaic.TcCoe Idealize.SL.Sem Cert.Products

theorem result (h : FVec Ideal S8192x1024 .bf16) (du : FVec Ideal S8192x2048 .bf16) (h1 h2 h3 h4 h5 h6) :
    (truncf .bf16 (transpose S4x1024x512 [1, 0, 2] (shapeCast S1024x4x512 (transpose S1024x2048 [1, 0] (Host.dotGeneral (F := Ideal)
      dot_S8192x2048_S8192x1024_S2048x1024_0_0_1_1_n_n none (extf .f32 du h1) (extf .f32 h h2)) h3) h4) h5) h6
      : FVec Ideal S4x1024x512 .bf16) = perShard (k := 1024) (n := 512) (columnsByColumns h du) := by
  funext y
  idx_vars y
  pointwise [columnsByColumns, perShard]
  exact Fin.sum_fin_congr fun k => mul_comm _ _

end Cert.Reference13Ideal.First

namespace Cert.Kernel15Ideal.First

open Cert.Kernel15Ideal Cert.Kernel15Ideal.Gen Idealize.ShloMosaic Idealize.ShloMosaic.TcCoe Idealize.SL.Sem Cert.Products

variable (m : (ℓ : Loc nD τ sig) → Buf (Elt Ideal) ℓ)

theorem idx : ∀ t : Fin grid0.N, win0_0.index t = ![t.val % 4, 0] ∧ win0_1.index t = ![t.val % 4, t.val / 4]
    ∧ win0_2.index t = ![t.val / 4, 0, 0] := by decide +kernel

/-- What one point adds: the product over its tokens. -/
def part (c : Dev nD) (t : Fin cfg0.N) : S1024x768.Idx → EReal := columnsByColumns (a := 1024) (b := 768) (n := 2048) (iblk m c 0 t) (iblk m c 1 t)

theorem part_eq (c : Dev nD) (t : Fin cfg0.N) (j : S1024x768.Idx) : k0_pay1 (F := Ideal) (iblk m c 0 t) (iblk m c 1 t) j = part m c t j := by
  idx_vars j
  pointwise [k0_pay1, part, columnsByColumns]

/-- What is carried after the last point of a block: the sum over the block's points. -/
theorem carried (c : Dev nD) (t : Fin cfg0.N) (hr : t.val % 4 = 4 - 1) (j : S1024x768.Idx) :
    (outsAt0 m c t.val t.isLt).2 j
      = (∑ s : Fin 4, part m c ⟨4 * (t.val / 4) + s.val, Pipeline.run_point_lt_of_flush t hr s⟩ j : EReal) := by
  rw [Pipeline.eq_sum_fin_of_reset_step_apply_of_flush (M := EReal) (fun n h => (outsAt0 m c n h).2) 4 (fun _ => 0)
    (part m c) ?_ ?_ t hr j]
  · exact zero_add _
  · intro t h j
    rw [outsAt0_A m c t h (by omega) (by omega)]
    frame_out
    rw [zero_add, ← part_eq]
    simp only [k0_pay2, shapeCast_self]
  · intro t h j
    by_cases h2 : t.val % 4 = 3
    · rw [outsAt0_C m c t h (by omega) h2]
      frame_out
      rw [← part_eq]
      simp only [k0_pay3, shapeCast_self, read_unread_whole]
      rfl
    · rw [outsAt0_B m c t h (by omega) h2]
      frame_out
      rw [← part_eq]
      simp only [k0_pay3, shapeCast_self, read_unread_whole]
      rfl

theorem last_eq (v : FVec Ideal S1024x768 .f32) (a : Fin 1) (r : Fin 1024) (j : Fin 768) : k0_pay4 (F := Ideal) v (ix3 a r j) = v (ix2 r j) := by
  pointwise [k0_pay4]

/-- What the last point of a block writes out is what is carried. -/
theorem written (c : Dev nD) (t : Fin cfg0.N) (h : t.val % 4 = 3) (j : S1x1024x768.Idx) :
    (outsAt0 m c t.val t.isLt).1 j = (outsAt0 m c t.val t.isLt).2 (ix2 (j 1) (j 2)) := by
  idx_vars j
  rw [outsAt0_C m c t (by omega) (by omega) h]
  frame_out
  exact last_eq _ j0 j1 j2

/-- The array after the run is the product. -/
theorem result (c : Dev nD) : (dats m 0 c).arrAt 2 cfg0.N
    = perShard (k := 1024) (n := 768) (columnsByColumns (a := 1024) (b := 3072) (n := 8192) (m ((c : Thread nD τ).loc main_arg0)) (m ((c : Thread nD τ).loc main_arg1))) := by
  refine (dats m 0 c).arrAt_eq_of_covers 2 _ (by decide +kernel) fun t hf y => ?_
  have ht := (flush0_2 t).mp hf
  have ht4 : t.val / 4 < 4 := by have := t.isLt; have : cfg0.N = 16 := N_0; omega
  blk_simp
  rw [after0_2, written m c t ht, carried m c t ht]
  idx_vars y
  have e : ((View.whole main_v0).slice (win0_2.rect t)).emb (ix3 y0 y1 y2) = ix3 (⟨t.val / 4, ht4⟩ : Fin 4) y1 y2 := by
    blk_ext [(idx t).2.2]
  rw [e]
  simp only [part, columnsByColumns, perShard]
  refine Fin.sum_mul_add_congr (S := 4) (n := 2048) fun s k hl => ?_
  congr 1
  · blk_ext [iblk, V, (idx ⟨4 * (t.val / 4) + s.val, Pipeline.run_point_lt_of_flush t ht s⟩).1]
  · blk_ext [iblk, V, (idx ⟨4 * (t.val / 4) + s.val, Pipeline.run_point_lt_of_flush t ht s⟩).2.1]

end Cert.Kernel15Ideal.First

namespace Cert.Reference15Ideal.First

open Cert.Reference15Ideal Cert.Reference15Ideal.Gen Cert.Reference15Ideal.Value Idealize.ShloMosaic Idealize.ShloMosaic.TcCoe Idealize.SL.Sem Cert.Products

theorem result (h : FVec Ideal S8192x1024 .bf16) (du : FVec Ideal S8192x3072 .bf16) (h1 h2 h3 h4 h5 h6) :
    (truncf .bf16 (transpose S4x1024x768 [1, 0, 2] (shapeCast S1024x4x768 (transpose S1024x3072 [1, 0] (Host.dotGeneral (F := Ideal)
      dot_S8192x3072_S8192x1024_S3072x1024_0_0_1_1_n_n none (extf .f32 du h1) (extf .f32 h h2)) h3) h4) h5) h6
      : FVec Ideal S4x1024x768 .bf16) = perShard (k := 1024) (n := 768) (columnsByColumns h du) := by
  funext y
  idx_vars y
  pointwise [columnsByColumns, perShard]
  exact Fin.sum_fin_congr fun k => mul_comm _ _

end Cert.Reference15Ideal.First

end
-- ==== Proof.MixerGroups.lean ====
/-
  The pooling mixer's product, one matrix for each group of channels, and its gradients: a block of the kernel's result is one
  group's product, or, in the weight, the sum of four partial products over the tokens.
-/
module

public import proofs.«01_k».proof.Proof.Gen.Kernel20Ideal.Value
public import proofs.«01_k».proof.Proof.Gen.Reference20Ideal.Run
public import proofs.«01_k».proof.Proof.Gen.Kernel21Ideal.Value
public import proofs.«01_k».proof.Proof.Gen.Reference21Ideal.Run
public import proofs.«01_k».proof.Proof.Gen.Kernel22Ideal.Value
public import proofs.«01_k».proof.Proof.Gen.Reference22Ideal.Run
public import proofs.«01_k».proof.Proof.Products
public import Idealize.ShloMosaic.Lib.Pointwise
public import Idealize.ShloMosaic.Lib.IdealHost
public import Idealize.ShloMosaic.Lib.Pipeline.ValueKit
public import Idealize.ShloMosaic.Lib.Pipeline.ReadBack

@[expose] public section

set_option maxRecDepth 16384

noncomputable section

namespace Cert.Kernel20Ideal.Mix

open Cert.Kernel20Ideal Cert.Kernel20Ideal.Gen Idealize.ShloMosaic Idealize.ShloMosaic.TcCoe Idealize.SL.Sem Cert.Products

variable (m : (ℓ : Loc nD τ sig) → Buf (Elt Ideal) ℓ)

theorem idx : ∀ t : Fin grid0.N, win0_0.index t = ![win0_2.index t 0, win0_2.index t 1] ∧ win0_1.index t = ![win0_2.index t 1, 0, 0]
    ∧ win0_2.index t 1 < 4 := by decide +kernel

/-- The array after the run: each group times its matrix. -/
theorem result (c : Dev nD) : (dats m 0 c).arrAt 2 cfg0.N
    = groupsByRows (a := 8192) (n := 256) (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  pointwise [k0_pay1, groupsByRows]
  refine Fin.sum_fin_congr fun k => ?_
  congr 1 <;> blk_ext [iblk, V, idx t, groupOf, placeOf, columnOf]

end Cert.Kernel20Ideal.Mix

namespace Cert.Reference20Ideal.Mix

open Cert.Reference20Ideal Cert.Reference20Ideal.Gen Cert.Reference20Ideal.Value Idealize.ShloMosaic Idealize.ShloMosaic.TcCoe Idealize.SL.Sem Cert.Products

theorem result (x : FVec Ideal S8192x1024 .bf16) (w : FVec Ideal S4x256x256 .bf16) (h1 h2 h3 h4 h5 h6 h7 h8) :
    (shapeCast S8192x1024 (shapeCast S1x8192x1024 (transpose S1x8192x4x256 [1, 2, 0, 3] (Host.dotGeneral (F := Ideal) dot_S4x256x1x8192_S4x256x256_S4x1x8192x256_1_2_23_1_0_0 none
      (transpose S4x256x1x8192 [2, 3, 0, 1] (shapeCast S1x8192x4x256 (broadcastInDim S1x8192x1024 ![1, 2] h1 (extf .f32 x h2)) h3) h4)
      (extf .f32 w h5)) h6) h7) h8 : FVec Ideal S8192x1024 .f32)
    = groupsByRows (a := 8192) (n := 256) x w := by
  funext y
  idx_vars y
  pointwise [groupsByRows, groupOf, placeOf, columnOf]

end Cert.Reference20Ideal.Mix

namespace Cert.Kernel21Ideal.Mix

open Cert.Kernel21Ideal Cert.Kernel21Ideal.Gen Idealize.ShloMosaic Idealize.ShloMosaic.TcCoe Idealize.SL.Sem Cert.Products

variable (m : (ℓ : Loc nD τ sig) → Buf (Elt Ideal) ℓ)

theorem idx : ∀ t : Fin grid0.N, win0_0.index t = ![t.val % 4, t.val / 4] ∧ win0_1.index t = ![t.val % 4, t.val / 4]
    ∧ win0_2.index t = ![t.val / 4, 0, 0] := by decide +kernel

/-- What one point adds: the product over its tokens. -/
def part (c : Dev nD) (t : Fin cfg0.N) : S256x256.Idx → EReal := columnsByColumns (a := 256) (b := 256) (n := 2048) (iblk m c 0 t) (iblk m c 1 t)

theorem part_eq (c : Dev nD) (t : Fin cfg0.N) (j : S256x256.Idx) : k0_pay1 (F := Ideal) (iblk m c 0 t) (iblk m c 1 t) j = part m c t j := by
  idx_vars j
  pointwise [k0_pay1, part, columnsByColumns]

/-- What is carried after the last point of a block: the sum over the block's points. -/
theorem carried (c : Dev nD) (t : Fin cfg0.N) (hr : t.val % 4 = 4 - 1) (j : S256x256.Idx) :
    (outsAt0 m c t.val t.isLt).2 j
      = (∑ s : Fin 4, part m c ⟨4 * (t.val / 4) + s.val, Pipeline.run_point_lt_of_flush t hr s⟩ j : EReal) := by
  rw [Pipeline.eq_sum_fin_of_reset_step_apply_of_flush (M := EReal) (fun n h => (outsAt0 m c n h).2) 4 (fun _ => 0)
    (part m c) ?_ ?_ t hr j]
  · exact zero_add _
  · intro t h j
    rw [outsAt0_A m c t h (by omega) (by omega)]
    frame_out
    rw [zero_add, ← part_eq]
    simp only [k0_pay2, shapeCast_self]
  · intro t h j
    by_cases h2 : t.val % 4 = 3
    · rw [outsAt0_C m c t h (by omega) h2]
      frame_out
      rw [← part_eq]
      simp only [k0_pay3, shapeCast_self, read_unread_whole]
      rfl
    · rw [outsAt0_B m c t h (by omega) h2]
      frame_out
      rw [← part_eq]
      simp only [k0_pay3, shapeCast_self, read_unread_whole]
      rfl

theorem last_eq (v : FVec Ideal S256x256 .f32) (a : Fin 1) (r : Fin 256) (j : Fin 256) : k0_pay4 (F := Ideal) v (ix3 a r j) = v (ix2 r j) := by
  pointwise [k0_pay4]

/-- What the last point of a block writes out is what is carried. -/
theorem written (c : Dev nD) (t : Fin cfg0.N) (h : t.val % 4 = 3) (j : S1x256x256.Idx) :
    (outsAt0 m c t.val t.isLt).1 j = (outsAt0 m c t.val t.isLt).2 (ix2 (j 1) (j 2)) := by
  idx_vars j
  rw [outsAt0_C m c t (by omega) (by omega) h]
  frame_out
  exact last_eq _ j0 j1 j2

/-- The array after the run is the products of the groups. -/
theorem result (c : Dev nD) : (dats m 0 c).arrAt 2 cfg0.N
    = groupsOfColumns (a := 8192) (n := 256) (m ((c : Thread nD τ).loc main_arg0)) (m ((c : Thread nD τ).loc main_arg1)) := by
  refine (dats m 0 c).arrAt_eq_of_covers 2 _ (by decide +kernel) fun t hf y => ?_
  have ht := (flush0_2 t).mp hf
  have ht4 : t.val / 4 < 4 := by have := t.isLt; have : cfg0.N = 16 := N_0; omega
  blk_simp
  rw [after0_2, written m c t ht, carried m c t ht]
  idx_vars y
  have e : ((View.whole main_v0).slice (win0_2.rect t)).emb (ix3 y0 y1 y2) = ix3 (⟨t.val / 4, ht4⟩ : Fin 4) y1 y2 := by
    blk_ext [(idx t).2.2]
  rw [e]
  simp only [part, columnsByColumns, groupsOfColumns, columnOf]
  refine Fin.sum_mul_add_congr (S := 4) (n := 2048) fun s k hl => ?_
  congr 1
  · blk_ext [iblk, V, (idx ⟨4 * (t.val / 4) + s.val, Pipeline.run_point_lt_of_flush t ht s⟩).1]
  · blk_ext [iblk, V, (idx ⟨4 * (t.val / 4) + s.val, Pipeline.run_point_lt_of_flush t ht s⟩).2.1]

end Cert.Kernel21Ideal.Mix

namespace Cert.Reference21Ideal.Mix

open Cert.Reference21Ideal Cert.Reference21Ideal.Gen Cert.Reference21Ideal.Value Idealize.ShloMosaic Idealize.ShloMosaic.TcCoe Idealize.SL.Sem Cert.Products

theorem result (x dy : FVec Ideal S8192x1024 .bf16) (h1 h2 h3 h4 h5 h6 h7 h8 h9) :
    (truncf .bf16 (transpose S4x256x256 [0, 2, 1] (Host.dotGeneral (F := Ideal) dot_S4x256x1x8192_S1x8192x4x256_S4x256x256_23_01_1_3_0_2 none
      (transpose S4x256x1x8192 [2, 3, 0, 1] (shapeCast S1x8192x4x256 (broadcastInDim S1x8192x1024 ![1, 2] h1 (extf .f32 dy h2)) h3) h4)
      (shapeCast S1x8192x4x256 (broadcastInDim S1x8192x1024 ![1, 2] h5 (extf .f32 x h6)) h7)) h8) h9
      : FVec Ideal S4x256x256 .bf16) = groupsOfColumns (a := 8192) (n := 256) x dy := by
  funext y
  idx_vars y
  pointwise [groupsOfColumns, columnOf]
  simp only [Finset.univ_unique, Finset.sum_singleton]
  exact Fin.sum_fin_congr fun k => mul_comm _ _

end Cert.Reference21Ideal.Mix

namespace Cert.Kernel22Ideal.Mix

open Cert.Kernel22Ideal Cert.Kernel22Ideal.Gen Idealize.ShloMosaic Idealize.ShloMosaic.TcCoe Idealize.SL.Sem Cert.Products

variable (m : (ℓ : Loc nD τ sig) → Buf (Elt Ideal) ℓ)

theorem idx : ∀ t : Fin grid0.N, win0_0.index t = ![win0_2.index t 0, win0_2.index t 1] ∧ win0_1.index t = ![win0_2.index t 1, 0, 0]
    ∧ win0_2.index t 1 < 4 := by decide +kernel

/-- The array after the run: each group times its matrix. -/
theorem result (c : Dev nD) : (dats m 0 c).arrAt 2 cfg0.N
    = groupsByColumns (a := 8192) (n := 256) (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  pointwise [k0_pay1, groupsByColumns]
  refine Fin.sum_fin_congr fun k => ?_
  congr 1 <;> blk_ext [iblk, V, idx t, groupOf, placeOf, columnOf]

end Cert.Kernel22Ideal.Mix

namespace Cert.Reference22Ideal.Mix

open Cert.Reference22Ideal Cert.Reference22Ideal.Gen Cert.Reference22Ideal.Value Idealize.ShloMosaic Idealize.ShloMosaic.TcCoe Idealize.SL.Sem Cert.Products

theorem result (x : FVec Ideal S8192x1024 .bf16) (w : FVec Ideal S4x256x256 .bf16) (h1 h2 h3 h4 h5 h6 h7) :
    (shapeCast S8192x1024 (shapeCast S1x8192x1024 (transpose S1x8192x4x256 [2, 3, 0, 1] (Host.dotGeneral (F := Ideal) dot_S4x256x256_S1x8192x4x256_S4x256x1x8192_1_3_2_01_0_2 none
      (extf .f32 w h1) (shapeCast S1x8192x4x256 (broadcastInDim S1x8192x1024 ![1, 2] h2 (extf .f32 x h3)) h4)) h5) h6) h7 : FVec Ideal S8192x1024 .f32)
    = groupsByColumns (a := 8192) (n := 256) x w := by
  funext y
  idx_vars y
  pointwise [groupsByColumns, groupOf, placeOf, columnOf]
  exact Fin.sum_fin_congr fun k => mul_comm _ _

end Cert.Reference22Ideal.Mix

end
-- ==== Proof.Affine.lean ====
/-
  The pooling mixer's last line, a bias and a scale of every channel: its gradient and itself.
-/
module

public import proofs.«01_k».proof.Proof.Gen.Kernel23Ideal.Value
public import proofs.«01_k».proof.Proof.Gen.Reference23Ideal.Run
public import proofs.«01_k».proof.Proof.Gen.Kernel27Ideal.Value
public import proofs.«01_k».proof.Proof.Gen.Reference27Ideal.Run
public import proofs.«01_k».proof.Proof.NormClaims
public import proofs.«01_k».proof.Pre_finite_scale
public import Idealize.ShloMosaic.Lib.Pipeline.ReadBack
public import Idealize.ShloMosaic.Lib.IdealHost

@[expose] public section

set_option maxRecDepth 16384

noncomputable section

namespace Cert.Affine

open Idealize.ShloMosaic Cert.Norm

/-- The arrays of the gradient: the gradient handed back, the mixed rows, the bias and the scale. -/
structure Arrays where
  gradient : Rows
  mixed : Rows
  bias : Row
  scale : Row

namespace Arrays

variable (A : Arrays)

/-- The gradients of the mixed rows, of the scale and of the bias. -/
def rows (i : (⟨2, ![8192, 1024]⟩ : Shape).Idx) : EReal := A.gradient i * A.scale (ix2 0 (i 1))

def scales (j : Fin 1024) : EReal := ∑ t : Fin 8192, A.gradient (ix2 t j) * (A.mixed (ix2 t j) + A.bias (ix2 0 j))

def biases (j : Fin 1024) : EReal := (∑ t : Fin 8192, A.gradient (ix2 t j)) * A.scale (ix2 0 j)

/-- The condition the claim has: the gradient and the scale are numbers. -/
structure Numbers : Prop where
  gradient (t : Fin 8192) (j : Fin 1024) : ∃ r : ℝ, A.gradient (ix2 t j) = r
  scale (j : Fin 1024) : ∃ r : ℝ, A.scale (ix2 0 j) = r

theorem sum_bias (h : A.Numbers) (j : Fin 1024) : ∑ t : Fin 8192, A.gradient (ix2 t j) * A.scale (ix2 0 j) = A.biases j :=
  (Finset.sum_congr rfl fun t _ => mul_comm ..).trans ((times_sum _ _ (h.scale j) fun t => h.gradient t j).trans (mul_comm ..))

/-- What the precondition says. -/
theorem numbers [Cert.Pre_finite_scale.Facts]
    (e : Cert.Pre_finite_scale.fn (F := Ideal) A.gradient A.mixed A.bias A.scale = fun _ => 1#1) : A.Numbers := by
  have e (t : Fin 8192) (j : Fin 1024) := congrFun e (ix2 t j)
  unfold Cert.Pre_finite_scale.fn at e
  exact ⟨fun t j => Reals.of_lt _ (both (e t j)).1, fun j => Reals.of_lt _ ((across ..).symm.trans (both (e 0 j)).2)⟩

end Arrays

/-- The rows with the bias added, times the scale. -/
def forward (x : Rows) (b s : Row) : Rows := fun i => (x i + b (ix2 0 (i 1))) * s (ix2 0 (i 1))

end Cert.Affine

namespace Cert.Kernel23Ideal.Affine

open Cert.Kernel23Ideal Cert.Kernel23Ideal.Gen Idealize.ShloMosaic Idealize.ShloMosaic.TcCoe Idealize.SL.Sem Cert.Norm Cert.Affine

variable (m : (ℓ : Loc nD τ sig) → Buf (Elt Ideal) ℓ)

theorem idx : ∀ t : Fin grid0.N, win0_0.index t = ![t.val, 0] ∧ win0_1.index t = ![t.val, 0] ∧ win0_2.index t = ![0, 0]
    ∧ win0_3.index t = ![0, 0] ∧ win0_4.index t = ![t.val, 0] ∧ win0_5.index t = ![0, 0] ∧ win0_6.index t = ![0, 0] := by decide +kernel

/-- A row of a block, as its row of the array. -/
def at_ (t : Fin cfg0.N) (a : Fin 512) : Fin 8192 := ⟨512 * t.val + a.val, by have := lt_of_lt_of_eq t.isLt N_0; omega⟩

/-- The arrays handed in. -/
def arrays (c : Dev nD) : Arrays where
  gradient := m ((c : Thread nD τ).loc main_arg0)
  mixed := m ((c : Thread nD τ).loc main_arg1)
  bias := m ((c : Thread nD τ).loc main_arg2)
  scale := m ((c : Thread nD τ).loc main_arg3)

variable (c : Dev nD) (t : Fin cfg0.N)

theorem blk0 (a : Fin 512) (j : Fin 1024) : iblk m c 0 t (ix2 a j) = (arrays m c).gradient (ix2 (at_ t a) j) := by
  unfold arrays at_; blk_ext [iblk, V, idx t]

theorem blk1 (a : Fin 512) (j : Fin 1024) : iblk m c 1 t (ix2 a j) = (arrays m c).mixed (ix2 (at_ t a) j) := by
  unfold arrays at_; blk_ext [iblk, V, idx t]

theorem blk2 (a : Fin 1) (j : Fin 1024) : iblk m c 2 t (ix2 a j) = (arrays m c).bias (ix2 0 j) := by
  unfold arrays; blk_ext [iblk, V, idx t]

theorem blk3 (a : Fin 1) (j : Fin 1024) : iblk m c 3 t (ix2 a j) = (arrays m c).scale (ix2 0 j) := by
  unfold arrays; blk_ext [iblk, V, idx t]

theorem rows_apply (d : Vec Ideal S512x1024 .f32) (s : Vec Ideal S1x1024 .f32) (a : Fin 512) (j : Fin 1024) :
    k0_pay5 (F := Ideal) d s (ix2 a j) = d (ix2 a j) * s (ix2 0 j) := by
  pointwise [k0_pay5]

theorem add1_apply (d x : Vec Ideal S512x1024 .f32) (acc : Vec Ideal S8x1024 .f32) (b : Vec Ideal S1x1024 .f32) (a : Fin 8) (j : Fin 1024) :
    k0_pay6 (F := Ideal) d acc x b (ix2 a j) = acc (ix2 a j)
      + ∑ r : Fin 64, d (ix2 ⟨r.val * 8 + a.val, by omega⟩ j) * (x (ix2 ⟨r.val * 8 + a.val, by omega⟩ j) + b (ix2 0 j)) := by
  pointwise [k0_pay6]

theorem add2_apply (d : Vec Ideal S512x1024 .f32) (acc : Vec Ideal S8x1024 .f32) (a : Fin 8) (j : Fin 1024) :
    k0_pay7 (F := Ideal) d acc (ix2 a j) = acc (ix2 a j) + ∑ b : Fin 64, d (ix2 ⟨b.val * 8 + a.val, by omega⟩ j) := by
  pointwise [k0_pay7]

theorem zeros (a : Fin 8) (j : Fin 1024) : k0_pay3 (F := Ideal) (ix2 a j) = (0 : EReal) ∧ k0_pay4 (F := Ideal) (ix2 a j) = (0 : EReal) :=
  ⟨by pointwise [k0_pay3], by pointwise [k0_pay4]⟩

/-- The row of the array that a row of a carried array takes from a block of eight. -/
def every (b : Fin 64) (a : Fin 8) : Fin 8192 := at_ t ⟨b.val * 8 + a.val, by omega⟩

/-- What the two carried arrays hold after a point, and what a point adds to them. -/
def held (n : Nat) (h : n < cfg0.N) (i : Fin 8 × Fin 1024) : EReal × EReal :=
  ((outsAt0 m c n h).2.2.2.1 (ix2 i.1 i.2), (outsAt0 m c n h).2.2.2.2 (ix2 i.1 i.2))

def added (i : Fin 8 × Fin 1024) : EReal × EReal :=
  (∑ b : Fin 64, (arrays m c).gradient (ix2 (every t b i.1) i.2) * ((arrays m c).mixed (ix2 (every t b i.1) i.2) + (arrays m c).bias (ix2 0 i.2)),
    ∑ b : Fin 64, (arrays m c).gradient (ix2 (every t b i.1) i.2))

theorem carried (hr : t.val % 16 = 16 - 1) (i : Fin 8 × Fin 1024) :
    held m c t.val t.isLt i = ∑ s : Fin 16, added m c ⟨16 * (t.val / 16) + s.val, Pipeline.run_point_lt_of_flush t hr s⟩ i := by
  rw [Pipeline.eq_sum_fin_of_reset_step_apply_of_flush (M := EReal × EReal) (held m c) 16 (fun _ => 0) (added m c) ?_ ?_ t hr i]
  · exact zero_add _
  · intro t h i
    unfold held
    rw [outsAt0_A m c t h (by omega)]
    frame_out
    simp only [read_unread_whole, add1_apply, add2_apply, blk0, blk1, blk2, zeros]
    rfl
  · intro t h i
    unfold held
    by_cases h2 : t.val % 16 = 15
    · rw [outsAt0_C m c t h h2]
      frame_out
      simp only [read_unread_whole, add1_apply, add2_apply, blk0, blk1, blk2]
      rfl
    · rw [outsAt0_B m c t h h2]
      frame_out
      simp only [read_unread_whole, add1_apply, add2_apply, blk0, blk1, blk2]
      rfl

/-- What the result of rows holds after a point, and the two of one row at the last point. -/
theorem written_rows (a : Fin 512) (j : Fin 1024) :
    (outsAt0 m c t.val t.isLt).1 (ix2 a j) = (arrays m c).gradient (ix2 (at_ t a) j) * (arrays m c).scale (ix2 0 j) := by
  by_cases h0 : t.val % 16 = 0
  · rw [outsAt0_A m c t h0 (by omega)]
    frame_out
    simp only [read_unread_whole, rows_apply, blk0, blk3]
  by_cases h1 : t.val % 16 = 15
  · rw [outsAt0_C m c t h0 h1]
    frame_out
    simp only [read_unread_whole, rows_apply, blk0, blk3]
  · rw [outsAt0_B m c t h0 h1]
    frame_out
    simp only [read_unread_whole, rows_apply, blk0, blk3]

theorem written (h : t.val % 16 = 15) (a : Fin 1) (j : Fin 1024) :
    (outsAt0 m c t.val t.isLt).2.1 (ix2 a j) = (∑ r : Fin 8, (held m c t.val t.isLt (r, j)).1 : EReal)
    ∧ (outsAt0 m c t.val t.isLt).2.2.1 (ix2 a j) = ((∑ r : Fin 8, (held m c t.val t.isLt (r, j)).2) * (arrays m c).scale (ix2 0 j) : EReal) := by
  unfold held
  rw [outsAt0_C m c t (by omega) h]
  frame_out
  refine ⟨?_, ?_⟩
  · pointwise [k0_pay1]
  · pointwise [k0_pay2, blk3]

/-- The eight rows of the carried arrays together: the sums over all the rows. -/
theorem sums (h : t.val % 16 = 15) (j : Fin 1024) :
    (∑ r : Fin 8, (held m c t.val t.isLt (r, j)).1 : EReal) = (arrays m c).scales j
    ∧ (∑ r : Fin 8, (held m c t.val t.isLt (r, j)).2 : EReal) = ∑ k : Fin 8192, (arrays m c).gradient (ix2 k j) := by
  have h0 : 16 * (t.val / 16) = 0 := by have := lt_of_lt_of_eq t.isLt N_0; omega
  have e (s : Fin 16) (b : Fin 64) (a : Fin 8) (hl) :
      every ⟨16 * (t.val / 16) + s.val, Pipeline.run_point_lt_of_flush t h s⟩ b a = ⟨s.val * 512 + (b.val * 8 + a.val), hl⟩ := by
    apply Fin.ext
    show 512 * (16 * (t.val / 16) + s.val) + (b.val * 8 + a.val) = s.val * 512 + (b.val * 8 + a.val)
    omega
  simp only [carried m c t h, Prod.fst_sum, Prod.snd_sum, added]
  exact ⟨sum_rows _ _ fun a s b hl => by rw [e s b a hl], sum_rows _ _ fun a s b hl => by rw [e s b a hl]⟩

theorem result_rows : (dats m 0 c).arrAt 4 cfg0.N = (arrays m c).rows := by
  refine (dats m 0 c).arrAt_eq_of_covers 4 _ (by decide +kernel) fun t hf y => ?_
  blk_simp
  rw [after0_4]
  idx_vars y
  have q : ((cfg0.win 4).blk t).view.emb (ix2 y0 y1) = ix2 (at_ t y0) y1 := by
    unfold at_; blk_ext [idx t]
  rw [q]
  exact written_rows m c t y0 y1

theorem result_scale : (dats m 0 c).arrAt 5 cfg0.N = fun i : S1x1024.Idx => (arrays m c).scales (i 1) := by
  refine (dats m 0 c).arrAt_eq_of_covers 5 _ (by decide +kernel) fun t hf y => ?_
  have ht := (flush0_5 t).mp hf
  blk_simp
  rw [after0_5]
  idx_vars y
  have q : ((cfg0.win 5).blk t).view.emb (ix2 y0 y1) = ix2 0 y1 := by blk_ext [idx t]
  rw [q, (written m c t ht y0 y1).1, (sums m c t ht y1).1]
  rfl

theorem result_bias : (dats m 0 c).arrAt 6 cfg0.N = fun i : S1x1024.Idx => (arrays m c).biases (i 1) := by
  refine (dats m 0 c).arrAt_eq_of_covers 6 _ (by decide +kernel) fun t hf y => ?_
  have ht := (flush0_6 t).mp hf
  blk_simp
  rw [after0_6]
  idx_vars y
  have q : ((cfg0.win 6).blk t).view.emb (ix2 y0 y1) = ix2 0 y1 := by blk_ext [idx t]
  rw [q, (written m c t ht y0 y1).2, (sums m c t ht y1).2]
  rfl

end Cert.Kernel23Ideal.Affine

namespace Cert.Reference23Ideal.Affine

open Cert.Reference23Ideal Cert.Reference23Ideal.Gen Idealize.ShloMosaic Idealize.ShloMosaic.TcCoe Idealize.SL.Sem Cert.Norm Cert.Affine

variable (m : (ℓ : Loc nD τ sig) → Buf (Elt Ideal) ℓ)

/-- The arrays handed in. -/
def arrays (c : Dev nD) : Arrays where
  gradient := m ((c.tc : Thread nD τ).loc main_arg0)
  mixed := m ((c.tc : Thread nD τ).loc main_arg1)
  bias := m ((c.tc : Thread nD τ).loc main_arg2)
  scale := m ((c.tc : Thread nD τ).loc main_arg3)

theorem run (ρ : Dev nD → PrngReg) (h : ∀ c, (arrays m c).Numbers) :
    θ_run defs (onTc (τ := τ) (main (F := Ideal))) ⟨m, fun _ => 0, ρ⟩ fun r => ∀ c : Dev nD,
      r.2.mem ((c.tc : Thread nD τ).loc main_v11) = (arrays m c).rows
      ∧ r.2.mem ((c.tc : Thread nD τ).loc main_v6) = (fun i : S1x1024.Idx => (arrays m c).scales (i 1))
      ∧ r.2.mem ((c.tc : Thread nD τ).loc main_v10) = (fun i : S1x1024.Idx => (arrays m c).biases (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r hr c => ⟨(hr c).1.trans ?_, (hr c).2.1.trans ?_, (hr c).2.2.1.trans ?_, (hr c).2.2.2⟩)
    (Value.run (F := Ideal) m ρ)
  · funext i
    idx_vars i
    unfold Arrays.rows arrays
    pointwise []
  · funext i
    idx_vars i
    unfold Arrays.scales arrays
    pointwise []
    exact Finset.sum_congr rfl fun t _ => mul_comm ..
  · funext i
    idx_vars i
    refine Eq.trans ?_ ((arrays m c).sum_bias (h c) i1)
    unfold arrays
    pointwise []

end Cert.Reference23Ideal.Affine

namespace Cert.Kernel27Ideal.Affine

open Cert.Kernel27Ideal Cert.Kernel27Ideal.Gen Idealize.ShloMosaic Idealize.ShloMosaic.TcCoe Idealize.SL.Sem Cert.Affine

variable (m : (ℓ : Loc nD τ sig) → Buf (Elt Ideal) ℓ)

theorem idx : ∀ t : Fin grid0.N, win0_0.index t = win0_3.index t ∧ win0_1.index t = ![0, 0] ∧ win0_2.index t = ![0, 0]
    ∧ win0_3.index t = ![t.val, 0] := by decide +kernel

/-- The array after the run. -/
theorem result (c : Dev nD) : (dats m 0 c).arrAt 3 cfg0.N
    = forward (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  idx_vars y
  pointwise [k0_pay1, forward]
  congr 1
  · congr 1 <;> blk_ext [iblk, V, idx t]
  · blk_ext [iblk, V, idx t]

end Cert.Kernel27Ideal.Affine

namespace Cert.Reference27Ideal.Affine

open Cert.Reference27Ideal Cert.Reference27Ideal.Gen Cert.Reference27Ideal.Value Idealize.ShloMosaic Idealize.ShloMosaic.TcCoe Idealize.SL.Sem Cert.Affine

theorem result (x : FVec Ideal S8192x1024 .f32) (b s : FVec Ideal S1x1024 .f32) (h1 h2 h3) :
    (truncf .bf16 (mulf (addf x (broadcastInDim S8192x1024 ![0, 1] h1 b)) (broadcastInDim S8192x1024 ![0, 1] h2 s)) h3
      : FVec Ideal S8192x1024 .bf16) = forward x b s := by
  funext y
  idx_vars y
  pointwise [forward]

end Cert.Reference27Ideal.Affine

end
-- ==== Proof.NormForward.lean ====
/-
  The norms before a layer and between two layers, run forward: rows normed, scaled and shifted.
-/
module

public import proofs.«01_k».proof.Proof.Gen.Kernel25Ideal.Value
public import proofs.«01_k».proof.Proof.Gen.Reference25Ideal.Run
public import proofs.«01_k».proof.Proof.Gen.Kernel26Ideal.Value
public import proofs.«01_k».proof.Proof.Gen.Reference26Ideal.Run
public import proofs.«01_k».proof.Proof.BetweenClaims

@[expose] public section

set_option maxRecDepth 16384

noncomputable section

namespace Cert.Norm

open Idealize.ShloMosaic

/-- What a layer reads: a row normed, times the gain, scaled and shifted. -/
def shifted (x : Fin 1024 → EReal) (g s b : Row) (j : Fin 1024) : EReal :=
  x j * root x * g (ix2 0 j) * (one + s (ix2 0 j)) + b (ix2 0 j)

/-- The rows after a layer: the rows before it plus what it made, normed and gated. -/
def onto (x y : Rows) (g gate : Row) (t : Fin 8192) (j : Fin 1024) : EReal :=
  x (ix2 t j) + gate (ix2 0 j) * (y (ix2 t j) * (root fun k => y (ix2 t k)) * g (ix2 0 j))

end Cert.Norm

namespace Cert.Kernel25Ideal.Norm

open Cert.Kernel25Ideal Cert.Kernel25Ideal.Gen Idealize.ShloMosaic Idealize.ShloMosaic.TcCoe Idealize.SL.Sem Cert.Norm

variable (m : (ℓ : Loc nD τ sig) → Buf (Elt Ideal) ℓ)

theorem idx : ∀ t : Fin grid0.N, win0_0.index t = win0_4.index t ∧ win0_1.index t = ![0, 0] ∧ win0_2.index t = ![0, 0]
    ∧ win0_3.index t = ![0, 0] ∧ win0_4.index t = ![t.val, 0] := by decide +kernel

theorem shifted_apply (x : Vec Ideal S512x1024 .f32) (g s b : Vec Ideal S1x1024 .f32) (a : Fin 512) (j : Fin 1024) :
    k0_pay1 (F := Ideal) x g s b (ix2 a j) = shifted (fun k => x (ix2 a k)) g s b j := by
  pointwise [k0_pay1, shifted, root, width, eps, one]

/-- The array after the run. -/
theorem result (c : Dev nD) : (dats m 0 c).arrAt 4 cfg0.N = fun i : S8192x1024.Idx =>
    shifted (fun k => (m ((c : Thread nD τ).loc main_arg0) : Rows) (ix2 (i 0) k)) (m ((c : Thread nD τ).loc main_arg1))
      (m ((c : Thread nD τ).loc main_arg2)) (m ((c : Thread nD τ).loc main_arg3)) (i 1) := by
  refine (dats m 0 c).arrAt_eq_of_covers 4 _ (by decide +kernel) fun t hf y => ?_
  blk_simp
  rw [after0_4]
  frame_out
  idx_vars y
  rw [shifted_apply]
  unfold shifted
  congr 1
  · congr 1
    · congr 1
      · congr 1
        · blk_ext [iblk, V, idx t]
        · congr 1
          funext k
          blk_ext [iblk, V, idx t]
      · blk_ext [iblk, V, idx t]
    · congr 1
      blk_ext [iblk, V, idx t]
  · blk_ext [iblk, V, idx t]

end Cert.Kernel25Ideal.Norm

namespace Cert.Kernel26Ideal.Norm

open Cert.Kernel26Ideal Cert.Kernel26Ideal.Gen Idealize.ShloMosaic Idealize.ShloMosaic.TcCoe Idealize.SL.Sem Cert.Norm

variable (m : (ℓ : Loc nD τ sig) → Buf (Elt Ideal) ℓ)

theorem idx : ∀ t : Fin grid0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] := by decide +kernel

/-- A row of a block, as its row of the array. -/
def at_ (t : Fin cfg0.N) (a : Fin 512) : Fin 8192 := ⟨512 * t.val + a.val, by have := lt_of_lt_of_eq t.isLt N_0; omega⟩

/-- The rows after the layer, of the arrays handed in. -/
def rows (c : Dev nD) : Fin 8192 → Fin 1024 → EReal :=
  onto (m ((c : Thread nD τ).loc main_arg0)) (m ((c : Thread nD τ).loc main_arg1)) (m ((c : Thread nD τ).loc main_arg2)) (m ((c : Thread nD τ).loc main_arg3))

theorem onto_apply (y : Vec Ideal S512x1024 .bf16) (x : Vec Ideal S512x1024 .f32) (gate g : Vec Ideal S1x1024 .f32) (a : Fin 512) (j : Fin 1024) :
    k0_pay2 (F := Ideal) y x gate g (ix2 a j)
      = x (ix2 a j) + gate (ix2 0 j) * (y (ix2 a j) * (root fun k => y (ix2 a k)) * g (ix2 0 j)) := by
  pointwise [k0_pay2, root, width, eps]

theorem shifted_apply (y : Vec Ideal S512x1024 .bf16) (x : Vec Ideal S512x1024 .f32) (gate g' g s b : Vec Ideal S1x1024 .f32) (a : Fin 512) (j : Fin 1024) :
    k0_pay1 (F := Ideal) s b (k0_pay3 y x gate g' g) (ix2 a j) = shifted (fun k => k0_pay2 (F := Ideal) y x gate g' (ix2 a k)) g s b j := by
  pointwise [k0_pay1, k0_pay3, shifted, root, width, eps, one]

variable (c : Dev nD) (t : Fin cfg0.N)

/-- A point's rows, from its blocks. -/
theorem point_rows (a : Fin 512) (j : Fin 1024) :
    k0_pay2 (F := Ideal) (iblk m c 1 t) (iblk m c 0 t) (iblk m c 3 t) (iblk m c 2 t) (ix2 a j) = rows m c (at_ t a) j := by
  rw [onto_apply]
  unfold rows onto at_
  congr 1
  · blk_ext [iblk, V, idx t]
  · congr 1
    · blk_ext [iblk, V, idx t]
    · congr 1
      · congr 1
        · blk_ext [iblk, V, idx t]
        · congr 1
          funext k
          blk_ext [iblk, V, idx t]
      · blk_ext [iblk, V, idx t]

/-- The two arrays after the run. -/
theorem result_rows : (dats m 0 c).arrAt 7 cfg0.N = fun i : S8192x1024.Idx => rows m c (i 0) (i 1) := by
  refine (dats m 0 c).arrAt_eq_of_covers 7 _ (by decide +kernel) fun t hf y => ?_
  blk_simp
  rw [after0_7]
  frame_out
  idx_vars y
  have q : ((cfg0.win 7).blk t).view.emb (ix2 y0 y1) = ix2 (at_ t y0) y1 := by
    unfold at_; blk_ext [idx t]
  rw [q, point_rows]
  rfl

theorem result_shifted : (dats m 0 c).arrAt 8 cfg0.N = fun i : S8192x1024.Idx =>
    shifted (rows m c (i 0)) (m ((c : Thread nD τ).loc main_arg4)) (m ((c : Thread nD τ).loc main_arg5)) (m ((c : Thread nD τ).loc main_arg6)) (i 1) := by
  refine (dats m 0 c).arrAt_eq_of_covers 8 _ (by decide +kernel) fun t hf y => ?_
  blk_simp
  rw [after0_8]
  frame_out
  idx_vars y
  have q : ((cfg0.win 8).blk t).view.emb (ix2 y0 y1) = ix2 (at_ t y0) y1 := by
    unfold at_; blk_ext [idx t]
  rw [q, shifted_apply]
  simp only [point_rows]
  unfold shifted
  congr 1
  · congr 1
    · congr 1
      blk_ext [iblk, V, idx t]
    · congr 1
      blk_ext [iblk, V, idx t]
  · blk_ext [iblk, V, idx t]

end Cert.Kernel26Ideal.Norm

namespace Cert.Reference9Ideal.Norm

open Cert.Reference9Ideal Cert.Reference9Ideal.Gen Idealize.ShloMosaic Idealize.ShloMosaic.TcCoe Idealize.SL.Sem Cert.Norm

/-- Rows normed, scaled and shifted, as the references write it, and rows with a gated, normed layer added. -/
def shiftedRows (X : Wide) (g s b : Line) : FVec Ideal S8192x1024 .bf16 :=
  truncf .bf16 (addf (mulf (mulf (rooted X) (under g)) (under (addf (broadcastInDim S1x1024 ![] bcast_S_S1x1024 (constant S_ .f32 0x3F800000#32)) s)))
    (under b)) bitsLt_bf16_f32

def ontoRows (X Y : Wide) (g gate : Line) : Wide := addf X (mulf (under gate) (mulf (rooted Y) (under g)))

theorem shiftedRows_apply (X : Wide) (g s b : Line) (t : Fin 8192) (j : Fin 1024) :
    shiftedRows X g s b (ix2 t j) = shifted (fun k => X (ix2 t k)) g s b j := by
  pointwise [shiftedRows, rooted_apply, under_apply, shifted, one]

theorem ontoRows_apply (X Y : Wide) (g gate : Line) (t : Fin 8192) (j : Fin 1024) : ontoRows X Y g gate (ix2 t j) = onto X Y g gate t j := by
  pointwise [ontoRows, rooted_apply, under_apply, onto]

end Cert.Reference9Ideal.Norm

namespace Cert.Reference25Ideal.Norm

open Cert.Reference25Ideal Cert.Reference25Ideal.Gen Idealize.ShloMosaic Idealize.ShloMosaic.TcCoe Idealize.SL.Sem Cert.Norm

variable (m : (ℓ : Loc nD τ sig) → Buf (Elt Ideal) ℓ)

theorem run (ρ : Dev nD → PrngReg) :
    θ_run defs (onTc (τ := τ) (main (F := Ideal))) ⟨m, fun _ => 0, ρ⟩ fun r => ∀ c : Dev nD,
      r.2.mem ((c.tc : Thread nD τ).loc main_v18) = (fun i : S8192x1024.Idx =>
        shifted (fun k => (m ((c.tc : Thread nD τ).loc main_arg0) : Rows) (ix2 (i 0) k)) (m ((c.tc : Thread nD τ).loc main_arg1))
          (m ((c.tc : Thread nD τ).loc main_arg2)) (m ((c.tc : Thread nD τ).loc main_arg3)) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r hr c => ⟨(hr c).1.trans ?_, (hr c).2⟩) (Value.run (F := Ideal) m ρ)
  refine Eq.trans (b := Cert.Reference9Ideal.Norm.shiftedRows (m ((c.tc : Thread nD τ).loc main_arg0)) (m ((c.tc : Thread nD τ).loc main_arg1))
    (m ((c.tc : Thread nD τ).loc main_arg2)) (m ((c.tc : Thread nD τ).loc main_arg3))) rfl ?_
  funext i
  idx_vars i
  exact Cert.Reference9Ideal.Norm.shiftedRows_apply ..

end Cert.Reference25Ideal.Norm

namespace Cert.Reference26Ideal.Norm

open Cert.Reference26Ideal Cert.Reference26Ideal.Gen Idealize.ShloMosaic Idealize.ShloMosaic.TcCoe Idealize.SL.Sem Cert.Norm

variable (m : (ℓ : Loc nD τ sig) → Buf (Elt Ideal) ℓ)

/-- The rows after the layer, of the arrays handed in. -/
def rows (c : Dev nD) : Fin 8192 → Fin 1024 → EReal :=
  onto (m ((c.tc : Thread nD τ).loc main_arg0)) (m ((c.tc : Thread nD τ).loc main_arg1)) (m ((c.tc : Thread nD τ).loc main_arg2))
    (m ((c.tc : Thread nD τ).loc main_arg3))

def wide (c : Dev nD) : Cert.Reference9Ideal.Norm.Wide :=
  Cert.Reference9Ideal.Norm.ontoRows (m ((c.tc : Thread nD τ).loc main_arg0))
    (extf .f32 (m ((c.tc : Thread nD τ).loc main_arg1) : FVec Ideal S8192x1024 .bf16) bitsLt_bf16_f32)
    (m ((c.tc : Thread nD τ).loc main_arg2)) (m ((c.tc : Thread nD τ).loc main_arg3))

theorem wide_apply (c : Dev nD) (t : Fin 8192) (j : Fin 1024) : wide m c (ix2 t j) = rows m c t j :=
  Cert.Reference9Ideal.Norm.ontoRows_apply ..

theorem run (ρ : Dev nD → PrngReg) :
    θ_run defs (onTc (τ := τ) (main (F := Ideal))) ⟨m, fun _ => 0, ρ⟩ fun r => ∀ c : Dev nD,
      r.2.mem ((c.tc : Thread nD τ).loc main_v15) = (fun i : S8192x1024.Idx => rows m c (i 0) (i 1))
      ∧ r.2.mem ((c.tc : Thread nD τ).loc main_v34) = (fun i : S8192x1024.Idx =>
        shifted (rows m c (i 0)) (m ((c.tc : Thread nD τ).loc main_arg4)) (m ((c.tc : Thread nD τ).loc main_arg5))
          (m ((c.tc : Thread nD τ).loc main_arg6)) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r hr c => ⟨(hr c).1.trans ?_, (hr c).2.1.trans ?_, (hr c).2.2⟩) (Value.run (F := Ideal) m ρ)
  · refine Eq.trans (b := wide m c) rfl ?_
    funext i
    idx_vars i
    exact wide_apply ..
  · refine Eq.trans (b := Cert.Reference9Ideal.Norm.shiftedRows (wide m c) (m ((c.tc : Thread nD τ).loc main_arg4))
      (m ((c.tc : Thread nD τ).loc main_arg5)) (m ((c.tc : Thread nD τ).loc main_arg6))) rfl ?_
    funext i
    idx_vars i
    refine (Cert.Reference9Ideal.Norm.shiftedRows_apply ..).trans ?_
    exact congrArg (fun f => shifted f (m ((c.tc : Thread nD τ).loc main_arg4)) (m ((c.tc : Thread nD τ).loc main_arg5))
      (m ((c.tc : Thread nD τ).loc main_arg6)) i1) (funext fun k => wide_apply m c i0 k)

end Cert.Reference26Ideal.Norm

end
-- ==== Proof.Ending.lean ====
/-
  The last norm and the loss with their gradient, as functions of the arrays: half the summed mean square of the rows handed in
  plus a gated, normed layer, less the target.
-/
module

public import proofs.«01_k».proof.Proof.NormClaims

@[expose] public section

set_option maxRecDepth 16384

noncomputable section

namespace Cert.Norm

open Idealize.ShloMosaic

/-- The constants, as the programs write them: one over the width, half of that, a half and two. -/
def share : EReal := Ideal.ofBits .f32 0x3A800000#32
def small : EReal := Ideal.ofBits .f32 0x3A000000#32
def halved : EReal := Ideal.ofBits .f32 0x3F000000#32
def twice : EReal := Ideal.ofBits .f32 0x40000000#32

theorem share_real : share = ((1 / 1024 : ℝ) : EReal) := by
  simp [share, Ideal.ofBits, Ideal.ieee, -EReal.coe_mul]; norm_num

theorem small_real : small = ((1 / 2048 : ℝ) : EReal) := by
  simp [small, Ideal.ofBits, Ideal.ieee, -EReal.coe_mul]; norm_num

theorem halved_real : halved = ((1 / 2 : ℝ) : EReal) := by
  simp [halved, Ideal.ofBits, Ideal.ieee, -EReal.coe_mul]; norm_num

theorem twice_real : twice = ((2 : ℝ) : EReal) := by
  simp [twice, Ideal.ofBits, Ideal.ieee, -EReal.coe_mul]; norm_num

/-- The gradient of the loss in an entry, as differentiating forms it. -/
theorem slope (e : EReal) : Ideal.div (halved * one) width * (twice * e) = e * share := by
  rw [halved_real, one_real, width_real, twice_real, share_real, ← EReal.coe_mul, Reals.div_coe _ _ (by norm_num), ← mul_assoc, ← EReal.coe_mul,
    mul_comm]
  congr 2
  norm_num

/-- Half the sum of the means, where the entries are numbers. -/
theorem half_means (e : Fin 8192 → Fin 1024 → EReal) (h : ∀ t j, ∃ r : ℝ, e t j = r) :
    halved * ∑ t, Ideal.div (∑ j, e t j * e t j) width = (∑ j, ∑ t, e t j * e t j) * small := by
  choose E hE using h
  simp only [hE, halved_real, width_real, small_real, ← EReal.coe_mul, ← Reals.coe_sum, Reals.div_coe _ _ (show (1024 : ℝ) ≠ 0 by norm_num)]
  congr 1
  rw [← Finset.sum_div, Finset.sum_comm]
  ring

/-- The arrays: the rows before the layer, what the layer made, the target, the gain of the norm on the layer, and the gate. -/
structure Ends where
  before : Rows
  layer : Rows
  target : Rows
  gain : Row
  gate : Row

namespace Ends

variable (A : Ends)

/-- What the layer made, normed. -/
def normed (t : Fin 8192) (j : Fin 1024) : EReal := A.layer (ix2 t j) * root fun k => A.layer (ix2 t k)

/-- What the rows after the layer are off the target. -/
def error (t : Fin 8192) (j : Fin 1024) : EReal :=
  A.before (ix2 t j) + A.gate (ix2 0 j) * (A.normed t j * A.gain (ix2 0 j)) - A.target (ix2 t j)

/-- The gradients of the rows, of the normed layer and of the layer. -/
def rows (t : Fin 8192) (j : Fin 1024) : EReal := A.error t j * share

def gated (t : Fin 8192) (j : Fin 1024) : EReal := A.rows t j * (A.gate (ix2 0 j) * A.gain (ix2 0 j))

def made (t : Fin 8192) (j : Fin 1024) : EReal := back (A.gated t) (fun k => A.layer (ix2 t k)) j

/-- The sum over the rows that the gradients of the gain and of the gate are multiples of. -/
def total (j : Fin 1024) : EReal := ∑ t, A.rows t j * A.normed t j

def loss : EReal := (∑ j : Fin 1024, ∑ t : Fin 8192, A.error t j * A.error t j) * small

/-- The condition the claim has: all but what the layer made are numbers. -/
structure Numbers : Prop where
  before (t : Fin 8192) (j : Fin 1024) : ∃ r : ℝ, A.before (ix2 t j) = r
  target (t : Fin 8192) (j : Fin 1024) : ∃ r : ℝ, A.target (ix2 t j) = r
  gain (j : Fin 1024) : ∃ r : ℝ, A.gain (ix2 0 j) = r
  gate (j : Fin 1024) : ∃ r : ℝ, A.gate (ix2 0 j) = r

variable {A} (h : A.Numbers)

include h

theorem error_real (t : Fin 8192) (j : Fin 1024) : ∃ r : ℝ, A.error t j = r := by
  obtain ⟨x, hx⟩ := h.before t j
  obtain ⟨y, hy⟩ := h.target t j
  obtain ⟨z, hz⟩ := real_mul (h.gate j) (real_mul (normed_real (fun k => A.layer (ix2 t k)) j) (h.gain j))
  refine ⟨x + z - y, ?_⟩
  unfold error normed
  rw [hx, hy, hz, ← EReal.coe_add, ← EReal.coe_sub]

theorem rows_real (t : Fin 8192) (j : Fin 1024) : ∃ r : ℝ, A.rows t j = r := real_mul (error_real h t j) ⟨_, share_real⟩

theorem gated_real (t : Fin 8192) (j : Fin 1024) : ∃ r : ℝ, A.gated t j = r :=
  real_mul (rows_real h t j) (real_mul (h.gate j) (h.gain j))

theorem forth_made (t : Fin 8192) (j : Fin 1024) : forth 0 (A.gated t) (fun k => A.layer (ix2 t k)) j = A.made t j := by
  choose G hG using gated_real h t
  unfold made
  rw [show A.gated t = fun k => (G k : EReal) from funext hG]
  exact (forth_eq G _ _ _).trans (zero_add _)

theorem sum_gain (j : Fin 1024) : ∑ t, A.normed t j * (A.gate (ix2 0 j) * A.rows t j) = A.gate (ix2 0 j) * A.total j :=
  (Finset.sum_congr rfl fun t _ => by rw [mul_comm (A.normed t j), mul_assoc]).trans
    (times_sum _ _ (h.gate j) fun t => real_mul (rows_real h t j) (normed_real (fun k => A.layer (ix2 t k)) j))

theorem sum_gate (j : Fin 1024) : ∑ t, A.rows t j * (A.normed t j * A.gain (ix2 0 j)) = A.gain (ix2 0 j) * A.total j :=
  (Finset.sum_congr rfl fun t _ => by rw [← mul_assoc, mul_comm]).trans
    (times_sum _ _ (h.gain j) fun t => real_mul (rows_real h t j) (normed_real (fun k => A.layer (ix2 t k)) j))

theorem sum_loss : halved * ∑ t, Ideal.div (∑ j, A.error t j * A.error t j) width = A.loss := half_means _ (error_real h)

end Ends

end Cert.Norm

end
-- ==== Proof.LastNorm.lean ====
/-
  The gradient of the last norm and of the loss: what the kernel leaves in its six arrays.
-/
module

public import proofs.«01_k».proof.Proof.Gen.Kernel24Ideal.Value
public import proofs.«01_k».proof.Proof.Ending
public import Idealize.ShloMosaic.Lib.Pipeline.ReadBack

@[expose] public section

set_option maxRecDepth 16384

noncomputable section

namespace Cert.Kernel24Ideal.Norm

open Cert.Kernel24Ideal Cert.Kernel24Ideal.Gen Idealize.ShloMosaic Idealize.ShloMosaic.TcCoe Idealize.SL.Sem Cert.Norm

variable (m : (ℓ : Loc nD τ sig) → Buf (Elt Ideal) ℓ)

theorem idx : ∀ t : Fin grid0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![t.val, 0]
    ∧ win0_7.index t = ![0, 0] ∧ win0_8.index t = ![0, 0] ∧ win0_9.index t = ![0, 0] ∧ win0_10.index t = ![0, 0] := by decide +kernel

/-- A row of a block, as its row of the array. -/
def at_ (t : Fin cfg0.N) (a : Fin 512) : Fin 8192 := ⟨512 * t.val + a.val, by have := lt_of_lt_of_eq t.isLt N_0; omega⟩

/-- The arrays handed in. -/
def arrays (c : Dev nD) : Ends where
  before := m ((c : Thread nD τ).loc main_arg0)
  layer := m ((c : Thread nD τ).loc main_arg1)
  target := m ((c : Thread nD τ).loc main_arg2)
  gain := m ((c : Thread nD τ).loc main_arg3)
  gate := m ((c : Thread nD τ).loc main_arg4)

variable (c : Dev nD) (t : Fin cfg0.N)

theorem blk0 (a : Fin 512) (j : Fin 1024) : iblk m c 0 t (ix2 a j) = (arrays m c).before (ix2 (at_ t a) j) := by
  unfold arrays at_; blk_ext [iblk, V, idx t]

theorem blk1 (a : Fin 512) (j : Fin 1024) : iblk m c 1 t (ix2 a j) = (arrays m c).layer (ix2 (at_ t a) j) := by
  unfold arrays at_; blk_ext [iblk, V, idx t]

theorem blk2 (a : Fin 512) (j : Fin 1024) : iblk m c 2 t (ix2 a j) = (arrays m c).target (ix2 (at_ t a) j) := by
  unfold arrays at_; blk_ext [iblk, V, idx t]

theorem blk3 (a : Fin 1) (j : Fin 1024) : iblk m c 3 t (ix2 a j) = (arrays m c).gain (ix2 0 j) := by
  unfold arrays; blk_ext [iblk, V, idx t]

theorem blk4 (a : Fin 1) (j : Fin 1024) : iblk m c 4 t (ix2 a j) = (arrays m c).gate (ix2 0 j) := by
  unfold arrays; blk_ext [iblk, V, idx t]

theorem root_apply (y : Vec Ideal S512x1024 .bf16) (a : Fin 512) (b : Fin 1) : k0_pay14 (F := Ideal) y (ix2 a b) = root fun k => y (ix2 a k) := by
  pointwise [k0_pay14, k0_pay13, root, width, eps]

theorem normed_apply (y : Vec Ideal S512x1024 .bf16) (a : Fin 512) (j : Fin 1024) :
    k0_pay15 (F := Ideal) y (ix2 a j) = y (ix2 a j) * root fun k => y (ix2 a k) := by
  pointwise [k0_pay15, k0_pay13]
  rw [root_apply]

theorem error_apply (y : Vec Ideal S512x1024 .bf16) (gate g : Vec Ideal S1x1024 .f32) (x z : Vec Ideal S512x1024 .f32) (a : Fin 512) (j : Fin 1024) :
    k0_pay16 (F := Ideal) y gate g x z (ix2 a j)
      = x (ix2 a j) + gate (ix2 0 j) * (y (ix2 a j) * (root fun k => y (ix2 a k)) * g (ix2 0 j)) - z (ix2 a j) := by
  pointwise [k0_pay16, normed_apply]

theorem rows_apply (y : Vec Ideal S512x1024 .bf16) (gate g : Vec Ideal S1x1024 .f32) (x z : Vec Ideal S512x1024 .f32) (a : Fin 512) (j : Fin 1024) :
    k0_pay18 (F := Ideal) y gate g x z (ix2 a j) = k0_pay16 (F := Ideal) y gate g x z (ix2 a j) * share := by
  pointwise [k0_pay18, share]

theorem made_apply (y : Vec Ideal S512x1024 .bf16) (gate g : Vec Ideal S1x1024 .f32) (d : FVec Ideal S512x1024 .f32) (a : Fin 512) (j : Fin 1024) :
    k0_pay1 (F := Ideal) (k0_pay14 y) (k0_pay15 y) gate g d (ix2 a j)
      = back (fun k => d (ix2 a k) * (gate (ix2 0 k) * g (ix2 0 k))) (fun k => y (ix2 a k)) j := by
  pointwise [k0_pay1, normed_apply, root_apply, back, width]

theorem stored_apply (r : FVec Ideal S512x1 .f32) (u : FVec Ideal S512x1024 .f32) (v w : Vec Ideal S1x1024 .f32) (d : FVec Ideal S512x1024 .f32)
    (a : Fin 512) (j : Fin 1024) : k0_pay2 (F := Ideal) r u v w d (ix2 a j) = k0_pay1 (F := Ideal) r u v w d (ix2 a j) := by
  pointwise [k0_pay2]

theorem add1_apply (u d : FVec Ideal S512x1024 .f32) (acc : Vec Ideal S8x1024 .f32) (a : Fin 8) (j : Fin 1024) :
    k0_pay3 (F := Ideal) u d acc (ix2 a j)
      = acc (ix2 a j) + ∑ b : Fin 64, d (ix2 ⟨b.val * 8 + a.val, by omega⟩ j) * u (ix2 ⟨b.val * 8 + a.val, by omega⟩ j) := by
  pointwise [k0_pay3]

theorem add2_apply (r : FVec Ideal S512x1 .f32) (u : FVec Ideal S512x1024 .f32) (v w : Vec Ideal S1x1024 .f32) (d : FVec Ideal S512x1024 .f32)
    (acc : Vec Ideal S8x1024 .f32) (a : Fin 8) (j : Fin 1024) : k0_pay4 (F := Ideal) r u v w d acc (ix2 a j)
      = acc (ix2 a j) + ∑ b : Fin 64, k0_pay1 (F := Ideal) r u v w d (ix2 ⟨b.val * 8 + a.val, by omega⟩ j) := by
  pointwise [k0_pay4]

theorem add3_apply (y : Vec Ideal S512x1024 .bf16) (gate g : Vec Ideal S1x1024 .f32) (x z : Vec Ideal S512x1024 .f32) (acc : Vec Ideal S8x1024 .f32)
    (a : Fin 8) (j : Fin 1024) : k0_pay17 (F := Ideal) y gate g x z acc (ix2 a j)
      = acc (ix2 a j) + ∑ b : Fin 64, k0_pay16 (F := Ideal) y gate g x z (ix2 ⟨b.val * 8 + a.val, by omega⟩ j)
        * k0_pay16 (F := Ideal) y gate g x z (ix2 ⟨b.val * 8 + a.val, by omega⟩ j) := by
  pointwise [k0_pay17]

theorem zeros (a : Fin 8) (j : Fin 1024) : k0_pay10 (F := Ideal) (ix2 a j) = (0 : EReal) ∧ k0_pay11 (F := Ideal) (ix2 a j) = (0 : EReal)
    ∧ k0_pay12 (F := Ideal) (ix2 a j) = (0 : EReal) :=
  ⟨by pointwise [k0_pay10], by pointwise [k0_pay11], by pointwise [k0_pay12]⟩

/-- The row of the array that a row of a carried array takes from a block of eight. -/
def every (b : Fin 64) (a : Fin 8) : Fin 8192 := at_ t ⟨b.val * 8 + a.val, by omega⟩

/-- What the three carried arrays hold after a point. -/
def held (n : Nat) (h : n < cfg0.N) (i : Fin 8 × Fin 1024) : EReal × EReal × EReal :=
  ((outsAt0 m c n h).2.2.2.2.2.2.1 (ix2 i.1 i.2), (outsAt0 m c n h).2.2.2.2.2.2.2.1 (ix2 i.1 i.2), (outsAt0 m c n h).2.2.2.2.2.2.2.2 (ix2 i.1 i.2))

/-- What a point adds to the three. -/
def added (i : Fin 8 × Fin 1024) : EReal × EReal × EReal :=
  (∑ b : Fin 64, (arrays m c).rows (every t b i.1) i.2 * (arrays m c).normed (every t b i.1) i.2,
    ∑ b : Fin 64, (arrays m c).made (every t b i.1) i.2,
    ∑ b : Fin 64, (arrays m c).error (every t b i.1) i.2 * (arrays m c).error (every t b i.1) i.2)

/-- A point's rows, from its blocks. -/
theorem point_normed (a : Fin 512) (j : Fin 1024) : k0_pay15 (F := Ideal) (iblk m c 1 t) (ix2 a j) = (arrays m c).normed (at_ t a) j := by
  simp only [normed_apply, blk1]
  rfl

theorem point_error (a : Fin 512) (j : Fin 1024) :
    k0_pay16 (F := Ideal) (iblk m c 1 t) (iblk m c 4 t) (iblk m c 3 t) (iblk m c 0 t) (iblk m c 2 t) (ix2 a j) = (arrays m c).error (at_ t a) j := by
  simp only [error_apply, blk0, blk1, blk2, blk3, blk4]
  rfl

theorem point_rows (a : Fin 512) (j : Fin 1024) :
    k0_pay18 (F := Ideal) (iblk m c 1 t) (iblk m c 4 t) (iblk m c 3 t) (iblk m c 0 t) (iblk m c 2 t) (ix2 a j) = (arrays m c).rows (at_ t a) j := by
  simp only [rows_apply, point_error]
  rfl

theorem point_made (a : Fin 512) (j : Fin 1024) :
    k0_pay1 (F := Ideal) (k0_pay14 (iblk m c 1 t)) (k0_pay15 (iblk m c 1 t)) (iblk m c 4 t) (iblk m c 3 t)
      (k0_pay18 (iblk m c 1 t) (iblk m c 4 t) (iblk m c 3 t) (iblk m c 0 t) (iblk m c 2 t)) (ix2 a j) = (arrays m c).made (at_ t a) j := by
  simp only [made_apply, point_rows, blk1, blk3, blk4]
  rfl

theorem carried (hr : t.val % 16 = 16 - 1) (i : Fin 8 × Fin 1024) :
    held m c t.val t.isLt i = ∑ s : Fin 16, added m c ⟨16 * (t.val / 16) + s.val, Pipeline.run_point_lt_of_flush t hr s⟩ i := by
  rw [Pipeline.eq_sum_fin_of_reset_step_apply_of_flush (M := EReal × EReal × EReal) (held m c) 16 (fun _ => 0) (added m c) ?_ ?_ t hr i]
  · exact zero_add _
  · intro t h i
    unfold held
    rw [outsAt0_A m c t h (by omega)]
    frame_out
    simp only [read_unread_whole, add1_apply, add2_apply, add3_apply, point_normed, point_rows, point_made, point_error, zeros]
    rfl
  · intro t h i
    unfold held
    by_cases h2 : t.val % 16 = 15
    · rw [outsAt0_C m c t h h2]
      frame_out
      simp only [read_unread_whole, add1_apply, add2_apply, add3_apply, point_normed, point_rows, point_made, point_error]
      rfl
    · rw [outsAt0_B m c t h h2]
      frame_out
      simp only [read_unread_whole, add1_apply, add2_apply, add3_apply, point_normed, point_rows, point_made, point_error]
      rfl

/-- What the two results of rows hold after a point. -/
theorem written_rows (a : Fin 512) (j : Fin 1024) : (outsAt0 m c t.val t.isLt).1 (ix2 a j) = (arrays m c).rows (at_ t a) j
    ∧ (outsAt0 m c t.val t.isLt).2.1 (ix2 a j) = (arrays m c).made (at_ t a) j := by
  by_cases h0 : t.val % 16 = 0
  · rw [outsAt0_A m c t h0 (by omega)]
    frame_out
    simp only [read_unread_whole, stored_apply, point_rows, point_made, and_self]
  by_cases h1 : t.val % 16 = 15
  · rw [outsAt0_C m c t h0 h1]
    frame_out
    simp only [read_unread_whole, stored_apply, point_rows, point_made, and_self]
  · rw [outsAt0_B m c t h0 h1]
    frame_out
    simp only [read_unread_whole, stored_apply, point_rows, point_made, and_self]

/-- What the four small results hold at the last point, from the carried arrays. -/
theorem written (h : t.val % 16 = 15) (a : Fin 1) (j : Fin 1024) :
    (outsAt0 m c t.val t.isLt).2.2.1 (ix2 a j) = ((arrays m c).gate (ix2 0 j) * ∑ r : Fin 8, (held m c t.val t.isLt (r, j)).1 : EReal)
    ∧ (outsAt0 m c t.val t.isLt).2.2.2.1 (ix2 a j) = ((arrays m c).gain (ix2 0 j) * ∑ r : Fin 8, (held m c t.val t.isLt (r, j)).1 : EReal)
    ∧ (outsAt0 m c t.val t.isLt).2.2.2.2.1 (ix2 a j) = (∑ r : Fin 8, (held m c t.val t.isLt (r, j)).2.1 : EReal) := by
  unfold held
  rw [outsAt0_C m c t (by omega) h]
  frame_out
  refine ⟨?_, ?_, ?_⟩
  · pointwise [k0_pay6, k0_pay5, blk4]
  · pointwise [k0_pay7, k0_pay5, blk3]
  · pointwise [k0_pay8]

theorem written_loss (h : t.val % 16 = 15) (a b : Fin 1) :
    (outsAt0 m c t.val t.isLt).2.2.2.2.2.1 (ix2 a b) = ((∑ j : Fin 1024, ∑ r : Fin 8, (held m c t.val t.isLt (r, j)).2.2) * small : EReal) := by
  unfold held
  rw [outsAt0_C m c t (by omega) h]
  frame_out
  pointwise [k0_pay9, small]

/-- The eight rows of the carried arrays together: the sums over all the rows. -/
theorem sums (h : t.val % 16 = 15) (j : Fin 1024) :
    (∑ r : Fin 8, (held m c t.val t.isLt (r, j)).1 : EReal) = (arrays m c).total j
    ∧ (∑ r : Fin 8, (held m c t.val t.isLt (r, j)).2.1 : EReal) = ∑ k : Fin 8192, (arrays m c).made k j
    ∧ (∑ r : Fin 8, (held m c t.val t.isLt (r, j)).2.2 : EReal) = ∑ k : Fin 8192, (arrays m c).error k j * (arrays m c).error k j := by
  have h0 : 16 * (t.val / 16) = 0 := by have := lt_of_lt_of_eq t.isLt N_0; omega
  have e (s : Fin 16) (b : Fin 64) (a : Fin 8) (hl) :
      every ⟨16 * (t.val / 16) + s.val, Pipeline.run_point_lt_of_flush t h s⟩ b a = ⟨s.val * 512 + (b.val * 8 + a.val), hl⟩ := by
    apply Fin.ext
    show 512 * (16 * (t.val / 16) + s.val) + (b.val * 8 + a.val) = s.val * 512 + (b.val * 8 + a.val)
    omega
  simp only [carried m c t h, Prod.fst_sum, Prod.snd_sum, added]
  exact ⟨sum_rows _ _ fun a s b hl => by rw [e s b a hl], sum_rows _ _ fun a s b hl => by rw [e s b a hl],
    sum_rows _ _ fun a s b hl => by rw [e s b a hl]⟩

/-- The gradients of the rows before the layer and of the layer. -/
theorem result_rows : (dats m 0 c).arrAt 5 cfg0.N = fun i : S8192x1024.Idx => (arrays m c).rows (i 0) (i 1) := by
  refine (dats m 0 c).arrAt_eq_of_covers 5 _ (by decide +kernel) fun t hf y => ?_
  blk_simp
  rw [after0_5]
  idx_vars y
  have q : ((cfg0.win 5).blk t).view.emb (ix2 y0 y1) = ix2 (at_ t y0) y1 := by
    unfold at_; blk_ext [idx t]
  rw [q]
  exact (written_rows m c t y0 y1).1

theorem result_layer : (dats m 0 c).arrAt 6 cfg0.N = fun i : S8192x1024.Idx => (arrays m c).made (i 0) (i 1) := by
  refine (dats m 0 c).arrAt_eq_of_covers 6 _ (by decide +kernel) fun t hf y => ?_
  blk_simp
  rw [after0_6]
  idx_vars y
  have q : ((cfg0.win 6).blk t).view.emb (ix2 y0 y1) = ix2 (at_ t y0) y1 := by
    unfold at_; blk_ext [idx t]
  rw [q]
  exact (written_rows m c t y0 y1).2

/-- The gradients of the gain and of the gate, and of a bias of the layer. -/
theorem result_gain : (dats m 0 c).arrAt 7 cfg0.N = fun i : S1x1024.Idx => (arrays m c).gate (ix2 0 (i 1)) * (arrays m c).total (i 1) := by
  refine (dats m 0 c).arrAt_eq_of_covers 7 _ (by decide +kernel) fun t hf y => ?_
  have ht := (flush0_7 t).mp hf
  blk_simp
  rw [after0_7]
  idx_vars y
  have q : ((cfg0.win 7).blk t).view.emb (ix2 y0 y1) = ix2 0 y1 := by blk_ext [idx t]
  rw [q, (written m c t ht y0 y1).1, (sums m c t ht y1).1]
  rfl

theorem result_gate : (dats m 0 c).arrAt 8 cfg0.N = fun i : S1x1024.Idx => (arrays m c).gain (ix2 0 (i 1)) * (arrays m c).total (i 1) := by
  refine (dats m 0 c).arrAt_eq_of_covers 8 _ (by decide +kernel) fun t hf y => ?_
  have ht := (flush0_8 t).mp hf
  blk_simp
  rw [after0_8]
  idx_vars y
  have q : ((cfg0.win 8).blk t).view.emb (ix2 y0 y1) = ix2 0 y1 := by blk_ext [idx t]
  rw [q, (written m c t ht y0 y1).2.1, (sums m c t ht y1).1]
  rfl

theorem result_bias : (dats m 0 c).arrAt 9 cfg0.N = fun i : S1x1024.Idx => (∑ k : Fin 8192, (arrays m c).made k (i 1) : EReal) := by
  refine (dats m 0 c).arrAt_eq_of_covers 9 _ (by decide +kernel) fun t hf y => ?_
  have ht := (flush0_9 t).mp hf
  blk_simp
  rw [after0_9]
  idx_vars y
  have q : ((cfg0.win 9).blk t).view.emb (ix2 y0 y1) = ix2 0 y1 := by blk_ext [idx t]
  rw [q, (written m c t ht y0 y1).2.2, (sums m c t ht y1).2.1]
  rfl

/-- The loss. -/
theorem result_loss : (dats m 0 c).arrAt 10 cfg0.N = fun _ : S1x1.Idx => (arrays m c).loss := by
  refine (dats m 0 c).arrAt_eq_of_covers 10 _ (by decide +kernel) fun t hf y => ?_
  have ht := (flush0_10 t).mp hf
  blk_simp
  rw [after0_10]
  idx_vars y
  refine (written_loss m c t ht y0 y1).trans ?_
  unfold Ends.loss
  exact congrArg (fun v : EReal => v * small) (Finset.sum_congr rfl fun j _ => (sums m c t ht j).2.2)

end Cert.Kernel24Ideal.Norm

end
-- ==== Proof.LastClaims.lean ====
/-
  The gradient of the last norm and of the loss: what the reference computes, and where the kernel's results are it.
-/
module

public import proofs.«01_k».proof.Proof.Gen.Reference24Ideal.Run
public import proofs.«01_k».proof.Proof.BetweenClaims
public import proofs.«01_k».proof.Proof.Ending
public import proofs.«01_k».proof.Pre_finite_ends

@[expose] public section

set_option maxRecDepth 16384

noncomputable section

namespace Cert.Reference24Ideal.Norm

open Cert.Reference24Ideal Cert.Reference24Ideal.Gen Idealize.ShloMosaic Idealize.ShloMosaic.TcCoe Idealize.SL.Sem Cert.Norm
open Cert.Reference9Ideal.Norm (Wide Line under beside biased squares through summed rooted under_apply biased_apply beside_apply through_apply
  summed_apply rooted_apply)

variable (m : (ℓ : Loc nD τ sig) → Buf (Elt Ideal) ℓ) (c : Dev nD)

/-- The arrays handed in. -/
def arrays : Ends where
  before := m ((c.tc : Thread nD τ).loc main_arg0)
  layer := m ((c.tc : Thread nD τ).loc main_arg1)
  target := m ((c.tc : Thread nD τ).loc main_arg2)
  gain := m ((c.tc : Thread nD τ).loc main_arg3)
  gate := m ((c.tc : Thread nD τ).loc main_arg4)

/-! ## The steps of the reference -/

def made : Wide := biased (m ((c.tc : Thread nD τ).loc main_arg1))

def errors : Wide := subf (addf (m ((c.tc : Thread nD τ).loc main_arg0)) (mulf (under (m ((c.tc : Thread nD τ).loc main_arg4)))
  (mulf (rooted (made m c)) (under (m ((c.tc : Thread nD τ).loc main_arg3)))))) (m ((c.tc : Thread nD τ).loc main_arg2))

def rows : Wide := mulf (broadcastInDim S8192x1024 ![0] bcast_S8192_S8192x1024_0 (Host.divf (broadcastInDim S8192 ![] bcast_S_S8192
    (mulf (constant S_ .f32 0x3F000000#32) (constant S_ .f32 0x3F800000#32))) (broadcastInDim S8192 ![] bcast_S_S8192 (constant S_ .f32 0x44800000#32))))
  (mulf (broadcastInDim S8192x1024 ![] bcast_S_S8192x1024 (constant S_ .f32 0x40000000#32)) (errors m c))

def gatedRows : Wide := mulf (mulf (under (m ((c.tc : Thread nD τ).loc main_arg4))) (rows m c)) (under (m ((c.tc : Thread nD τ).loc main_arg3)))

def layerRows : Wide := addf (addf (mulf (gatedRows m c) (beside (Host.rsqrt (squares (made m c)))))
  (mulf (made m c) (through (made m c) (gatedRows m c)))) (mulf (through (made m c) (gatedRows m c)) (made m c))

def lost : FVec Ideal S1x1 .f32 := shapeCast _ (mulf (constant S_ .f32 0x3F000000#32) (Host.reduceAdd (Host.divf (Host.reduceAdd
    (mulf (errors m c) (errors m c)) (constant S_ .f32 0x00000000#32) reducesTo_S8192x1024_S8192_d1 h_S_)
    (broadcastInDim S8192 ![] bcast_S_S8192 (constant S_ .f32 0x44800000#32))) (constant S_ .f32 0x00000000#32) reducesTo_S8192_S_d0 h_S_))
  shapeCasts_S_S1x1

theorem layer_eq : Value.res_main_v63 m c = truncf .bf16 (layerRows m c) bitsLt_bf16_f32 := rfl

theorem bias_eq : Value.res_main_v62 m c = summed (layerRows m c) := rfl

/-! ## Their entries -/

theorem made_apply (t : Fin 8192) (j : Fin 1024) : made m c (ix2 t j) = (arrays m c).layer (ix2 t j) := biased_apply ..

theorem normed_apply (t : Fin 8192) (j : Fin 1024) : rooted (made m c) (ix2 t j) = (arrays m c).normed t j := by
  simp only [rooted_apply, made_apply]
  rfl

theorem errors_apply (t : Fin 8192) (j : Fin 1024) : errors m c (ix2 t j) = (arrays m c).error t j := by
  pointwise [errors, normed_apply, under_apply]
  rfl

theorem rows_apply (t : Fin 8192) (j : Fin 1024) : rows m c (ix2 t j) = (arrays m c).rows t j := by
  refine Eq.trans ?_ (slope _)
  pointwise [rows, errors_apply, halved, one, width, twice]

theorem gatedRows_apply (t : Fin 8192) (j : Fin 1024) : gatedRows m c (ix2 t j) = (arrays m c).gated t j := by
  refine Eq.trans ?_ (show (arrays m c).gate (ix2 0 j) * (arrays m c).rows t j * (arrays m c).gain (ix2 0 j) = _ by
    rw [mul_comm ((arrays m c).gate (ix2 0 j)), mul_assoc]; rfl)
  pointwise [gatedRows, rows_apply, under_apply]
  rfl

variable {m} {c} (h : (arrays m c).Numbers)

include h

theorem layerRows_apply (t : Fin 8192) (j : Fin 1024) : layerRows m c (ix2 t j) = (arrays m c).made t j := by
  rw [← Ends.forth_made h t j]
  unfold forth
  rw [zero_add]
  pointwise [layerRows, gatedRows_apply, beside_apply, through_apply, made_apply]

theorem lost_apply (a b : Fin 1) : lost m c (ix2 a b) = (arrays m c).loss := by
  rw [← Ends.sum_loss h]
  pointwise [lost, errors_apply, halved, width]

/-! ## The results -/

theorem result_layer : Value.res_main_v63 m c = fun i : S8192x1024.Idx => (arrays m c).made (i 0) (i 1) := by
  funext i
  idx_vars i
  exact layerRows_apply h _ _

theorem result_bias : Value.res_main_v62 m c = fun i : S1x1024.Idx => (∑ k : Fin 8192, (arrays m c).made k (i 1) : EReal) := by
  rw [bias_eq]
  funext i
  idx_vars i
  pointwise [summed_apply, layerRows_apply h]

theorem result_gain : summed (mulf (rooted (made m c)) (mulf (under (m ((c.tc : Thread nD τ).loc main_arg4))) (rows m c)))
    = fun i : S1x1024.Idx => (arrays m c).gate (ix2 0 (i 1)) * (arrays m c).total (i 1) := by
  funext i
  idx_vars i
  refine Eq.trans ?_ (Ends.sum_gain h i1)
  pointwise [summed_apply, normed_apply, under_apply, rows_apply]
  rfl

theorem result_gate : summed (mulf (rows m c) (mulf (rooted (made m c)) (under (m ((c.tc : Thread nD τ).loc main_arg3)))))
    = fun i : S1x1024.Idx => (arrays m c).gain (ix2 0 (i 1)) * (arrays m c).total (i 1) := by
  funext i
  idx_vars i
  refine Eq.trans ?_ (Ends.sum_gate h i1)
  pointwise [summed_apply, normed_apply, under_apply, rows_apply]
  rfl

omit h

theorem run (ρ : Dev nD → PrngReg) (h : ∀ c, (arrays m c).Numbers) :
    θ_run defs (onTc (τ := τ) (main (F := Ideal))) ⟨m, fun _ => 0, ρ⟩ fun r => ∀ c : Dev nD,
      r.2.mem ((c.tc : Thread nD τ).loc main_v36) = (fun i : S8192x1024.Idx => (arrays m c).rows (i 0) (i 1))
      ∧ r.2.mem ((c.tc : Thread nD τ).loc main_v63) = (fun i : S8192x1024.Idx => (arrays m c).made (i 0) (i 1))
      ∧ r.2.mem ((c.tc : Thread nD τ).loc main_v44) = (fun i : S1x1024.Idx => (arrays m c).gate (ix2 0 (i 1)) * (arrays m c).total (i 1))
      ∧ r.2.mem ((c.tc : Thread nD τ).loc main_v41) = (fun i : S1x1024.Idx => (arrays m c).gain (ix2 0 (i 1)) * (arrays m c).total (i 1))
      ∧ r.2.mem ((c.tc : Thread nD τ).loc main_v62) = (fun i : S1x1024.Idx => (∑ k : Fin 8192, (arrays m c).made k (i 1) : EReal))
      ∧ r.2.mem ((c.tc : Thread nD τ).loc main_v64) = (fun _ : S1x1.Idx => (arrays m c).loss)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r hr c => ?_) (Value.run (F := Ideal) m ρ)
  obtain ⟨r0, r1, r2, r3, r4, r5, kept⟩ := hr c
  refine ⟨r0.trans (Eq.trans (b := rows m c) rfl ?_), r1.trans (result_layer (h c)), r2.trans (Eq.trans rfl (result_gain (h c))),
    r3.trans (Eq.trans rfl (result_gate (h c))), r4.trans (result_bias (h c)), r5.trans (Eq.trans (b := lost m c) rfl ?_), kept⟩
  · funext i
    idx_vars i
    exact rows_apply m c _ _
  · funext i
    idx_vars i
    exact lost_apply (h c) _ _

end Cert.Reference24Ideal.Norm

namespace Cert.Norm

open Idealize.ShloMosaic

/-- What the precondition says: all but one of the arrays hold numbers. -/
theorem Ends.numbers [Cert.Pre_finite_ends.Facts] (A : Ends)
    (e : Cert.Pre_finite_ends.fn (F := Ideal) A.before A.layer A.target A.gain A.gate = fun _ => 1#1) : A.Numbers := by
  have e (t : Fin 8192) (j : Fin 1024) := congrFun e (ix2 t j)
  unfold Cert.Pre_finite_ends.fn at e
  refine ⟨fun t j => ?_, fun t j => ?_, fun j => ?_, fun j => ?_⟩
  · exact Reals.of_lt _ (both (both (both (e t j)).1).1).1
  · exact Reals.of_lt _ (both (both (both (e t j)).1).1).2
  · exact Reals.of_lt _ ((across ..).symm.trans (both (both (e 0 j)).1).2)
  · exact Reals.of_lt _ ((across ..).symm.trans (both (e 0 j)).2)

end Cert.Norm

end
-- ==== Proof.PoolForward.lean ====
/-
  The pooling mixer's means less the rows: each row's mean over itself and the rows before it, as many as its columns' window has.
-/
module

public import proofs.«01_k».proof.Proof.Gen.Kernel28Ideal.Value
public import proofs.«01_k».proof.Proof.PoolMean
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Pool

open Idealize.ShloMosaic

/-- The rows with sixteen rows of zeros before the first. -/
def late (x : (⟨2, ![8192, 1024]⟩ : Shape).Idx → EReal) (n : Nat) (j : Fin 1024) : EReal :=
  if h : 16 ≤ n ∧ n - 16 < 8192 then x (ix2 ⟨n - 16, h.2⟩ j) else 0

theorem late_eq (x : (⟨2, ![8192, 1024]⟩ : Shape).Idx → EReal) (n r : Nat) (j : Fin 1024) (h : r < 8192) (e : n = r + 16) :
    late x n j = x (ix2 ⟨r, h⟩ j) := by
  subst e
  exact dif_pos ⟨by omega, by omega⟩

theorem late_before (x : (⟨2, ![8192, 1024]⟩ : Shape).Idx → EReal) (n : Nat) (j : Fin 1024) (h : n < 16) : late x n j = 0 :=
  dif_neg (by omega)

/-- A row's mean over the window that ends with it, less the row. -/
def trail (x : (⟨2, ![8192, 1024]⟩ : Shape).Idx → EReal) (w n : Nat) (j : Fin 1024) : EReal :=
  Ideal.div (∑ k ∈ Finset.range w, late x (n + (16 - k)) j) (min (((n + 1 : Nat) : ℝ) : EReal) ((w : ℝ) : EReal)) - late x (n + 16) j

/-- The array of them. -/
def pooled (x : (⟨2, ![8192, 1024]⟩ : Shape).Idx → EReal) : (⟨2, ![8192, 1024]⟩ : Shape).Idx → EReal :=
  fun i => trail x (width (i 1).val) (i 0).val (i 1)

end Cert.Pool

namespace Cert.Kernel28Ideal.PoolBlock

open Cert.Kernel28Ideal Cert.Kernel28Ideal.Gen Idealize.ShloMosaic Idealize.ShloMosaic.TcCoe Idealize.SL.Sem Cert.Pool

variable (m : (ℓ : Loc nD τ sig) → Buf (Elt Ideal) ℓ)

/-- The rows handed in. -/
abbrev arg (c : Dev nD) : S8192x1024.Idx → EReal := m ((c : Thread nD τ).loc main_arg0)

theorem idx : ∀ t : Fin grid0.N, win0_0.index t = ![t.val, 0] ∧ win0_1.index t = ![16 * t.val - 1, 0]
    ∧ win0_2.index t = ![t.val, 0] ∧ (grid0.coords t 0).val = t.val := by decide +kernel

theorem lt32 (t : Fin cfg0.N) : t.val < 32 := by have := lt_of_lt_of_eq t.isLt N_0; omega

variable (c : Dev nD) (t : Fin cfg0.N)

/-- The block's rows, and the sixteen rows before them. -/
theorem blk0 (r : Fin 256) (j : Fin 1024) (h : 256 * t.val + r.val < 8192) :
    iblk m c 0 t (ix2 r j) = arg m c (ix2 ⟨256 * t.val + r.val, h⟩ j) := by
  blk_ext [iblk, V, (idx t).1]

theorem blk1 (ht : 0 < t.val) (r : Fin 16) (j : Fin 1024) (h : 256 * t.val + r.val - 16 < 8192) :
    iblk m c 1 t (ix2 r j) = arg m c (ix2 ⟨256 * t.val + r.val - 16, h⟩ j) := by
  blk_ext [iblk, V, (idx t).2.1]

/-- The scratch array at a point. -/
def held (x : S8192x1024.Idx → EReal) (t : Nat) : S272x1024.Idx → EReal := fun i => late x (256 * t + (i 0).val) (i 1)

/-- The stores of the sixteen rows before the block's, -/
theorem above (inb inb') (x : S16x1024.Idx) :
    k0_pay2 (grid0.coords t) (View.ld (iblk m c 1 t) (Rect.unit ![0, 0] ![16, 1024] inb)) x
      = held (arg m c) t.val ((Rect.unit (s := S272x1024) ![0, 0] ![16, 1024] inb').emb x) := by
  idx_vars x
  have e : (Rect.unit (s := S272x1024) ![0, 0] ![16, 1024] inb').emb (ix2 x0 x1) = ix2 ⟨x0.val, by omega⟩ x1 := by
    funext d; fin_cases d <;> apply Fin.ext
    · show 0 + 1 * x0.val = x0.val; omega
    · show 0 + 1 * x1.val = x1.val; omega
  have e' : View.ld (iblk m c 1 t) (Rect.unit ![0, 0] ![16, 1024] inb) (ix2 x0 x1) = iblk m c 1 t (ix2 x0 x1) := by
    refine congrArg (iblk m c 1 t) ?_
    funext d; fin_cases d <;> apply Fin.ext
    · show 0 + 1 * x0.val = x0.val; omega
    · show 0 + 1 * x1.val = x1.val; omega
  have s : Scalar.cmpi .sgt (BitVec.ofNat 32 t.val) 0#32 = if 0 < t.val then 1#1 else 0#1 :=
    (by decide : ∀ t : Fin 32, Scalar.cmpi .sgt (BitVec.ofNat 32 t.val) 0#32 = if 0 < t.val then 1#1 else 0#1) ⟨t.val, lt32 t⟩
  rw [e]
  show _ = late (arg m c) (256 * t.val + x0.val) x1
  unfold k0_pay2
  dsimp only
  rw [(idx t).2.2.2, s]
  by_cases h : 0 < t.val
  · have ht := lt32 t
    rw [if_pos h, late_eq _ _ (256 * t.val + x0.val - 16) _ (by omega) (by omega), ← blk1 m c t h, ← e']
    pointwise [Scalar.select]
    exact (congrFun (if_pos rfl) _).trans e'
  · have ht : t.val = 0 := by omega
    rw [if_neg h, late_before _ _ _ (by omega)]
    pointwise [Scalar.select]
    exact congrFun (if_neg (by decide)) _

/-- and of the block's rows. -/
theorem below (inb inb') (x : S256x1024.Idx) :
    k0_pay3 (F := Ideal) (View.ld (iblk m c 0 t) (Rect.unit ![0, 0] ![256, 1024] inb)) x
      = held (arg m c) t.val ((Rect.unit (s := S272x1024) ![16, 0] ![256, 1024] inb').emb x) := by
  idx_vars x
  have ht := lt32 t
  have e : (Rect.unit (s := S272x1024) ![16, 0] ![256, 1024] inb').emb (ix2 x0 x1) = ix2 ⟨16 + x0.val, by omega⟩ x1 := by
    funext d; fin_cases d <;> apply Fin.ext
    · show 16 + 1 * x0.val = 16 + x0.val; omega
    · show 0 + 1 * x1.val = x1.val; omega
  have e' : View.ld (iblk m c 0 t) (Rect.unit ![0, 0] ![256, 1024] inb) (ix2 x0 x1) = iblk m c 0 t (ix2 x0 x1) := by
    refine congrArg (iblk m c 0 t) ?_
    funext d; fin_cases d <;> apply Fin.ext
    · show 0 + 1 * x0.val = x0.val; omega
    · show 0 + 1 * x1.val = x1.val; omega
  rw [e]
  show _ = late (arg m c) (256 * t.val + (16 + x0.val)) x1
  rw [late_eq _ _ (256 * t.val + x0.val) _ (by omega) (by omega), ← blk0 m c t, ← e']
  pointwise [k0_pay3]

/-! ## What a window of it sums to -/

/-- A row turned up by `272 - n` rows. -/
theorem turn (r n : Nat) (hr : r < 256) (hn : 256 < n) (hn' : n ≤ 272) : (r + 272 - n) % 272 = r + (272 - n) := by omega

section Windows

variable (x : S8192x1024.Idx → EReal) (t w o : Nat) (ho : o + 256 ≤ 1024)

/-- A load of all rows of one group's columns reads the two stores. -/
theorem window_load (L : List (View.Piece (Elt Ideal) S272x1024 .f32)) (pl : Vec Ideal S16x1024 .f32) (pt : Vec Ideal S256x1024 .f32) (inb inb1 inb2)
    (h : View.PiecesOf (held x t) (⟨Rect.unit ![16, 0] ![256, 1024] inb1, pt⟩ :: ⟨Rect.unit ![0, 0] ![16, 1024] inb2, pl⟩ :: L))
    (a : Fin 272) (b : Fin 256) :
    (View.whole cc0_scratch0).readCov (⟨Rect.unit ![16, 0] ![256, 1024] inb1, pt⟩ :: ⟨Rect.unit ![0, 0] ![16, 1024] inb2, pl⟩ :: L)
        (Rect.unit (s := S272x1024) ![0, o] ![272, 256] inb).toLoadRect (ix2 a b)
      = late x (256 * t + a.val) ⟨o + b.val, by omega⟩ := by
  rw [View.readCov_eq_canon']
  have e : held x t ((Rect.unit (s := S272x1024) ![0, o] ![272, 256] inb).emb (ix2 a b)) = late x (256 * t + a.val) ⟨o + b.val, by omega⟩ := by
    refine congrArg (held x t) (?_ : _ = ix2 a (⟨o + b.val, by omega⟩ : Fin 1024))
    funext d; fin_cases d <;> apply Fin.ext
    · show 0 + 1 * a.val = a.val; omega
    · show o + 1 * b.val = o + b.val; omega
  refine (View.canon_apply_of_pieces (held x t) _ h.mem _ ?_).trans e
  by_cases ha : a.val < 16
  · refine ⟨⟨Rect.unit ![0, 0] ![16, 1024] inb2, pl⟩, List.mem_cons_of_mem _ List.mem_cons_self, (Rect.mem_set_unit (inb := inb2)).mpr fun d => ?_⟩
    fin_cases d
    · show 0 ≤ 0 + 1 * a.val ∧ 0 + 1 * a.val < 0 + 16; omega
    · show 0 ≤ o + 1 * b.val ∧ o + 1 * b.val < 0 + 1024; omega
  · refine ⟨⟨Rect.unit ![16, 0] ![256, 1024] inb1, pt⟩, List.mem_cons_self, (Rect.mem_set_unit (inb := inb1)).mpr fun d => ?_⟩
    fin_cases d
    · show 16 ≤ 0 + 1 * a.val ∧ 0 + 1 * a.val < 16 + 256; omega
    · show 0 ≤ o + 1 * b.val ∧ o + 1 * b.val < 0 + 1024; omega

variable (v : Vec Ideal S272x256 .f32) (ht : t < 32)
  (hv : ∀ (a : Fin 272) (b : Fin 256), v (ix2 a b) = late x (256 * t + a.val) ⟨o + b.val, by omega⟩) (r j : Fin 256)
include ht hv

/-- What each of the four payloads leaves at `(r, j)`. -/
theorem sum2 (i : grid0.Coords) (hi : (i 0).val = t) : k0_pay4 (F := Ideal) i v (ix2 r j) = trail x 2 (256 * t + r.val) ⟨o + j.val, by omega⟩ := by
  subst hi
  pointwise [k0_pay4]
  have hr := r.isLt
  unfold trail
  refine congrArg₂ (fun a b : EReal => a - b) (congrArg₂ Ideal.div ?_ (congrArg₂ min (count _ r ht hr) two)) ?_
  all_goals
    simp (disch := omega) only [hv, turn, Finset.sum_range_succ, Finset.sum_range_zero, zero_add, add_zero, Nat.reduceSub, ← Nat.add_assoc,
      Nat.add_right_comm _ 8, Nat.add_right_comm _ 16]

theorem sum4 : k0_pay7 (F := Ideal) (BitVec.ofNat 32 t) v (k0_pay5 v) (k0_pay6 v) (ix2 r j) = trail x 4 (256 * t + r.val) ⟨o + j.val, by omega⟩ := by
  pointwise [k0_pay7, k0_pay5, k0_pay6]
  have hr := r.isLt
  unfold trail
  refine congrArg₂ (fun a b : EReal => a - b) (congrArg₂ Ideal.div ?_ (congrArg₂ min (count _ r ht hr) four)) ?_
  all_goals
    simp (disch := omega) only [hv, turn, Finset.sum_range_succ, Finset.sum_range_zero, zero_add, add_zero, Nat.reduceSub, ← Nat.add_assoc,
      Nat.add_right_comm _ 8, Nat.add_right_comm _ 16]

theorem sum8 : k0_pay10 (F := Ideal) (BitVec.ofNat 32 t) (k0_pay8 v) (k0_pay9 v) (ix2 r j) = trail x 8 (256 * t + r.val) ⟨o + j.val, by omega⟩ := by
  pointwise [k0_pay10, k0_pay8, k0_pay9]
  have hr := r.isLt
  unfold trail
  refine congrArg₂ (fun a b : EReal => a - b) (congrArg₂ Ideal.div ?_ (congrArg₂ min (count _ r ht hr) eight)) ?_
  all_goals
    simp (disch := omega) only [hv, turn, Finset.sum_range_succ, Finset.sum_range_zero, zero_add, add_zero, Nat.reduceSub, ← Nat.add_assoc,
      Nat.add_right_comm _ 8, Nat.add_right_comm _ 16]

theorem sum16 : k0_pay1 (F := Ideal) (BitVec.ofNat 32 t) v (k0_pay11 v) (k0_pay12 v) (k0_pay13 v) (ix2 r j)
    = trail x 16 (256 * t + r.val) ⟨o + j.val, by omega⟩ := by
  pointwise [k0_pay1, k0_pay11, k0_pay12, k0_pay13]
  have hr := r.isLt
  unfold trail
  refine congrArg₂ (fun a b : EReal => a - b) (congrArg₂ Ideal.div ?_ (congrArg₂ min (count _ r ht hr) sixteen)) ?_
  all_goals
    simp (disch := omega) only [hv, turn, Finset.sum_range_succ, Finset.sum_range_zero, zero_add, add_zero, Nat.reduceSub, ← Nat.add_assoc,
      Nat.add_right_comm _ 8, Nat.add_right_comm _ 16]

end Windows

/-- The block of the result that point `t` is to write. -/
def part (x : S8192x1024.Idx → EReal) (t : Nat) : S256x1024.Idx → EReal :=
  fun y => trail x (width (y 1).val) (256 * t + (y 0).val) (y 1)

theorem part_emb (x : S8192x1024.Idx → EReal) (t w o : Nat) (ho : o + 256 ≤ 1024) (hw : ∀ b < 256, width (o + b) = w) (inb) (r j : Fin 256) :
    trail x w (256 * t + r.val) ⟨o + j.val, by omega⟩ = part x t ((Rect.unit (s := S256x1024) ![0, o] ![256, 256] inb).emb (ix2 r j)) := by
  have e : (Rect.unit (s := S256x1024) ![0, o] ![256, 256] inb).emb (ix2 r j) = ix2 r ⟨o + j.val, by omega⟩ := by
    funext d; fin_cases d <;> apply Fin.ext
    · show 0 + 1 * r.val = r.val; omega
    · show o + 1 * j.val = o + j.val; omega
  rw [e]
  show _ = trail x (width (o + j.val)) (256 * t + r.val) _
  rw [hw j.val j.isLt]
  rfl

/-- What point `t` leaves in the result's block. -/
theorem outs (y : S256x1024.Idx) : outsAt0 m c t y = part (arg m c) t.val y := by
  have ht := lt32 t
  have hi := (idx t).2.2.2
  unfold outsAt0 out0_A_2
  rw [View.read_writes_eq_canon _ _ _ (cover0_A_2 c _ _ _ _ _ _ _ _ _ _ _)]
  unfold kernelRun0_A
  dsimp only
  sl_unfold_words
  simp only [View.readAt_eq_ld, (hs0_0 t).read_unread, (hs0_1 t).read_unread]
  have h0 : ∀ b < 256, width (0 + b) = 2 := by intro b hb; unfold width; split_ifs <;> omega
  have h1 : ∀ b < 256, width (256 + b) = 4 := by intro b hb; unfold width; split_ifs <;> omega
  have h2 : ∀ b < 256, width (512 + b) = 8 := by intro b hb; unfold width; split_ifs <;> omega
  have h3 : ∀ b < 256, width (768 + b) = 16 := by intro b hb; unfold width; split_ifs <;> omega
  have both (inb inb' inb1 inb2) : View.PiecesOf (held (arg m c) t.val)
      ([⟨Rect.unit ![16, 0] ![256, 1024] inb1, k0_pay3 (View.ld (iblk m c 0 t) (Rect.unit ![0, 0] ![256, 1024] inb))⟩,
        ⟨Rect.unit ![0, 0] ![16, 1024] inb2, k0_pay2 (grid0.coords t) (View.ld (iblk m c 1 t) (Rect.unit ![0, 0] ![16, 1024] inb'))⟩] :
        List (View.Piece (Elt Ideal) S272x1024 .f32)) :=
    ⟨below m c t inb inb1, above m c t inb' inb2, trivial⟩
  refine View.canon_apply_of_pieces _ _ (View.PiecesOf.mem ?_) y ?_
  · refine ⟨?_, ?_, ?_, ?_, trivial⟩
    · intro x; idx_vars x
      rw [hi]
      exact (sum16 (arg m c) t.val 768 (by omega) _ ht (window_load _ _ _ (by omega) [] _ _ _ _ _ (both _ _ _ _)) x0 x1).trans
        (part_emb (arg m c) t.val 16 768 (by omega) h3 _ x0 x1)
    · intro x; idx_vars x
      rw [hi]
      exact (sum8 (arg m c) t.val 512 (by omega) _ ht (window_load _ _ _ (by omega) [] _ _ _ _ _ (both _ _ _ _)) x0 x1).trans
        (part_emb (arg m c) t.val 8 512 (by omega) h2 _ x0 x1)
    · intro x; idx_vars x
      rw [hi]
      exact (sum4 (arg m c) t.val 256 (by omega) _ ht (window_load _ _ _ (by omega) [] _ _ _ _ _ (both _ _ _ _)) x0 x1).trans
        (part_emb (arg m c) t.val 4 256 (by omega) h1 _ x0 x1)
    · intro x; idx_vars x
      exact (sum2 (arg m c) t.val 0 (by omega) _ ht (window_load _ _ _ (by omega) [] _ _ _ _ _ (both _ _ _ _)) x0 x1 _ hi).trans
        (part_emb (arg m c) t.val 2 0 (by omega) h0 _ x0 x1)
  · exact View.cover_of_tiledL (s := S256x1024) _ S256x256.size (by sl_kernel_rfl) y

/-- The kernel's result array after the run. -/
theorem result : (dats m 0 c).arrAt 2 cfg0.N = pooled (arg m c) := by
  refine (dats m 0 c).arrAt_eq_of_covers 2 _ (by decide +kernel) fun t hf y => ?_
  have ht := lt32 t
  blk_simp
  rw [after0_2]
  idx_vars y
  have q : ((cfg0.win 2).blk t).view.emb (ix2 y0 y1) = ix2 ⟨256 * t.val + y0.val, by omega⟩ y1 := by blk_ext [(idx t).2.2.1]
  rw [q]
  exact outs m c t (ix2 y0 y1)

end Cert.Kernel28Ideal.PoolBlock

end
-- ==== Proof.PoolMeans.lean ====
/-
  The reference of the pooling mixer's means: running sums, each less the one a window before it.
-/
module

public import proofs.«01_k».proof.Proof.Gen.Reference28Ideal.Run
public import proofs.«01_k».proof.Proof.PoolForward
public import proofs.«01_k».proof.Proof.PoolClaims
public import proofs.«01_k».proof.Pre_finite_input

@[expose] public section

set_option maxRecDepth 16384

noncomputable section

namespace Cert.Pool

open Idealize.ShloMosaic Cert.Reals

/-- The sum of the first `n` rows of the rows handed in and the sixteen before them. -/
def running (x : (⟨2, ![8192, 1024]⟩ : Shape).Idx → EReal) (n : Nat) (j : Fin 1024) : EReal := ∑ i ∈ Finset.range n, late x i j

theorem running_before (x : (⟨2, ![8192, 1024]⟩ : Shape).Idx → EReal) (n : Nat) (j : Fin 1024) (h : n ≤ 16) : running x n j = 0 :=
  Finset.sum_eq_zero fun i hi => late_before x i j (by have := Finset.mem_range.mp hi; omega)

variable (x : (⟨2, ![8192, 1024]⟩ : Shape).Idx → EReal) (hf : ∀ i, ∃ r : ℝ, x i = (r : EReal))
include hf

theorem running_real (n : Nat) (j : Fin 1024) : ∃ r : ℝ, running x n j = (r : EReal) := by
  have h : ∀ i, ∃ r : ℝ, late x i j = (r : EReal) := fun i => by
    unfold late
    split_ifs
    · exact hf _
    · exact ⟨0, rfl⟩
  choose y hy using h
  refine ⟨∑ i ∈ Finset.range n, y i, ?_⟩
  rw [coe_sum]
  exact Finset.sum_congr rfl fun i _ => hy i

/-- Two running sums a window apart differ by the window's sum. -/
theorem apart (t w : Nat) (hw : w ≤ 16) (j : Fin 1024) :
    running x (t + 17) j - running x (t + 17 - w) j = ∑ k ∈ Finset.range w, late x (t + (16 - k)) j := by
  obtain ⟨r, hr⟩ := running_real x hf (t + 17 - w) j
  have e : running x (t + 17) j = running x (t + 17 - w) j + ∑ k ∈ Finset.range w, late x (t + 17 - w + k) j := by
    have := Finset.sum_range_add (fun i => late x i j) (t + 17 - w) w
    rwa [Nat.sub_add_cancel (by omega)] at this
  rw [e, hr, EReal.add_sub_cancel_left, ← Finset.sum_range_reflect]
  refine Finset.sum_congr rfl fun k hk => congrArg (fun n => late x n j) ?_
  have := Finset.mem_range.mp hk
  omega

end Cert.Pool

namespace Cert.Reference28Ideal.Pool

open Cert.Reference28Ideal Cert.Reference28Ideal.Gen Cert.Reference28Ideal.Value Idealize.ShloMosaic Idealize.ShloMosaic.TcCoe Idealize.SL.Sem Cert.Pool
open Cert.ReferenceIdeal.Pool (rank3 rows window_apply counted)

/-- A running sum read at a row: the sum of it and the earlier rows. -/
theorem prefix_n (n d : Nat) (x : FVec Ideal ⟨3, ![1, n, d]⟩ .f32) (init : FVec Ideal S_ .f32) (h hu) (h0 : init (Shape.Idx.first hu) = (0 : EReal)) (a : Fin 1) (t : Fin n) (j : Fin d) :
    Host.reduceWindowAdd (F := Ideal) (s := ⟨3, ![1, n, d]⟩) (t := ⟨3, ![1, n, d]⟩) ![1, n, 1] ![1, 1, 1] ![0, n - 1, 0] ![0, 0, 0] x init h hu
      (ix3 a t j) = ∑ k : Fin n, if hk : n - 1 ≤ t.val + k.val then x (ix3 (0 : Fin 1) ⟨t.val + k.val - (n - 1), by omega⟩ j) else 0 := by
  rw [window_apply, h0, zero_add]
  refine (Equiv.sum_comp (rows n) _).symm.trans (Finset.sum_congr rfl fun k _ => ?_)
  have e : (rank3 n).rowMajor.symm (rows n k) = ix3 (0 : Fin 1) k (0 : Fin 1) := Equiv.symm_apply_apply _ _
  have e0 : ((rank3 n).rowMajor.symm (rows n k) 0).val = 0 := by rw [e]; rfl
  have e1 : ((rank3 n).rowMajor.symm (rows n k) 1).val = k.val := by rw [e]; rfl
  have e2 : ((rank3 n).rowMajor.symm (rows n k) 2).val = 0 := by rw [e]; rfl
  have ha := a.isLt
  have hj := j.isLt
  by_cases hk : n - 1 ≤ t.val + k.val
  · rw [dif_pos hk, dif_pos ?_]
    · refine congrArg x (funext fun b => Fin.ext ?_)
      fin_cases b
      · show a.val * 1 + ((rank3 n).rowMajor.symm (rows n k) 0).val - 0 = 0; omega
      · show t.val * 1 + ((rank3 n).rowMajor.symm (rows n k) 1).val - (n - 1) = t.val + k.val - (n - 1); omega
      · show j.val * 1 + ((rank3 n).rowMajor.symm (rows n k) 2).val - 0 = j.val; omega
    · intro b
      fin_cases b
      · show 0 ≤ a.val * 1 + ((rank3 n).rowMajor.symm (rows n k) 0).val ∧ a.val * 1 + ((rank3 n).rowMajor.symm (rows n k) 0).val - 0 < 1; omega
      · show n - 1 ≤ t.val * 1 + ((rank3 n).rowMajor.symm (rows n k) 1).val ∧ t.val * 1 + ((rank3 n).rowMajor.symm (rows n k) 1).val - (n - 1) < n
        have := t.isLt; have := k.isLt; omega
      · show 0 ≤ j.val * 1 + ((rank3 n).rowMajor.symm (rows n k) 2).val ∧ j.val * 1 + ((rank3 n).rowMajor.symm (rows n k) 2).val - 0 < d; omega
  · rw [dif_neg hk, dif_neg ?_]
    intro hin
    have : n - 1 ≤ t.val * 1 + ((rank3 n).rowMajor.symm (rows n k) 1).val := (hin 1).1
    omega

/-- The reference's running sums. -/
theorem sums (x : S8192x1024.Idx → EReal) (X : FVec Ideal S1x8192x1024 .f32) (hX : ∀ (t : Fin 8192) (j : Fin 1024), X (ix3 (0 : Fin 1) t j) = x (ix2 t j))
    (h hu hb) (t : Fin 8192) (j : Fin 1024) :
    Host.reduceWindowAdd (F := Ideal) (t := S1x8192x1024) ![1, 8192, 1] ![1, 1, 1] ![0, 8191, 0] ![0, 0, 0] X
      (broadcastInDim S_ ![] hb (constant (F := Ideal) S_ .f32 0x00000000#32)) h hu (ix3 (0 : Fin 1) t j) = running x (t.val + 17) j := by
  refine (prefix_n 8192 1024 X _ h hu (Cert.ReferenceIdeal.Pool.init_zero hu hb) 0 t j).trans ?_
  have ht := t.isLt
  have e : ∀ k : Fin 8192, (if hk : 8192 - 1 ≤ t.val + k.val then X (ix3 (0 : Fin 1) ⟨t.val + k.val - (8192 - 1), by omega⟩ j) else (0 : EReal))
      = if 8191 ≤ t.val + k.val then late x (t.val + k.val - 8191 + 16) j else 0 := fun k => by
    have hk := k.isLt
    split_ifs with h1
    · rw [hX]; exact (late_eq x _ _ j (by omega) rfl).symm
    · rfl
  rw [Finset.sum_congr rfl fun k _ => e k,
    Fin.sum_univ_eq_sum_range (fun k => if 8191 ≤ t.val + k then late x (t.val + k - 8191 + 16) j else 0) 8192]
  have e1 := Finset.sum_range_add (fun k => if 8191 ≤ t.val + k then late x (t.val + k - 8191 + 16) j else 0) (8191 - t.val) (t.val + 1)
  have e2 : 8191 - t.val + (t.val + 1) = 8192 := by omega
  rw [e2] at e1
  have e3 := Finset.sum_range_add (fun i => late x i j) 16 (t.val + 1)
  have e4 : 16 + (t.val + 1) = t.val + 17 := by omega
  rw [e4] at e3
  rw [e1]
  refine Eq.trans ?_ e3.symm
  refine congrArg₂ (fun a b : EReal => a + b) ?_ (Finset.sum_congr rfl fun i hi => ?_)
  · refine Eq.trans (Finset.sum_eq_zero fun i hi => if_neg ?_) (running_before x 16 j le_rfl).symm
    have := Finset.mem_range.mp hi; omega
  · rw [if_pos (by omega)]
    exact congrArg (fun n => late x n j) (by omega)

/-- One group of columns. -/
theorem group (x : S8192x1024.Idx → EReal) (hf : ∀ i, ∃ r : ℝ, x i = (r : EReal)) (S : FVec Ideal S1x8192x1024 .f32)
    (hS : ∀ (t : Fin 8192) (j : Fin 1024), S (ix3 (0 : Fin 1) t j) = running x (t.val + 17) j) (t : Fin 8192) (j j' : Fin 1024) (hj : j' = j)
    (w : Nat) (hw : w ≤ 16) (C : Prop) [Decidable C] (hC : C) (k z : EReal) (hz : z = 0) (hk : k = ((w : ℝ) : EReal)) :
    Ideal.div (S (ix3 (0 : Fin 1) t j') - if h : (w ≤ t.val ∧ t.val - w < 8192) ∧ C then S (ix3 (0 : Fin 1) ⟨t.val - w, h.1.2⟩ j') else z)
        (min ((1 : EReal) + (FloatOps.sitofp .f32 (BitVec.ofNat 32 t.val) : Ideal .f32)) k) - x (ix2 t j)
      = trail x w t.val j := by
  subst hj hk hz
  have ht := t.isLt
  have e : (if h : (w ≤ t.val ∧ t.val - w < 8192) ∧ C then S (ix3 (0 : Fin 1) ⟨t.val - w, h.1.2⟩ j') else (0 : EReal)) = running x (t.val + 17 - w) j' := by
    split_ifs with h
    · rw [hS]
      exact congrArg (fun n => running x n j') (by have := h.1.1; show t.val - w + 17 = _; omega)
    · refine (running_before x _ j' ?_).symm
      have : ¬ w ≤ t.val := fun h' => h ⟨⟨h', by omega⟩, hC⟩
      omega
  rw [e, hS, apart x hf t.val w hw, counted _ ht]
  unfold trail
  rw [late_eq x (t.val + 16) t.val j' ht rfl]

set_option maxHeartbeats 400000 in
theorem reference (m : (ℓ : Loc nD τ sig) → Buf (Elt Ideal) ℓ) (c : Dev nD) (x : S8192x1024.Idx → EReal) (hx : m ((c.tc : Thread nD τ).loc main_arg0) = x)
    (hf : ∀ i, ∃ r : ℝ, x i = (r : EReal)) : res_main_v41 m c = pooled x := by
  funext i
  idx_vars i
  show _ = trail x (width i1.val) i0.val i1
  generalize hR : trail x (width i1.val) i0.val i1 = R
  unfold res_main_v41
  rw [hx]
  have hS := sums x (broadcastInDim S1x8192x1024 ![1, 2] bcast_S8192x1024_S1x8192x1024_1_2 x) (fun t j => by pointwise [])
    reduceWindows_S1x8192x1024_S1x8192x1024_w1s1p0_0_w8192s1p8191_0_w1s1p0_0 h_S_ bcast_S_S_
  generalize Host.reduceWindowAdd (F := Ideal) _ _ _ _ _ _ _ _ = S at hS ⊢
  pointwise []
  have hj := i1.isLt
  have z : (FloatOps.sitofp .f32 (0#32) : Ideal .f32) = (0 : EReal) := by
    show (((0#32 : BitVec 32).toInt : ℝ) : EReal) = 0
    simp
  by_cases h0 : i1.val < 256
  · have e : width i1.val = 2 := by unfold width; split_ifs <;> omega
    rw [dif_pos h0]
    rw [e] at hR
    exact (group x hf S hS i0 i1 i1 rfl 2 (by omega) _ h0 _ _ z two).trans hR
  by_cases h1 : i1.val - 256 < 256
  · have e : width i1.val = 4 := by unfold width; split_ifs <;> omega
    rw [dif_neg h0, dif_pos h1]
    rw [e] at hR
    exact (group x hf S hS i0 i1 _ (by apply Fin.ext; show 256 + (i1.val - 256) = _; omega) 4 (by omega) _ h1 _ _ z four).trans hR
  by_cases h2 : i1.val - 256 - 256 < 256
  · have e : width i1.val = 8 := by unfold width; split_ifs <;> omega
    rw [dif_neg h0, dif_neg h1, dif_pos h2]
    rw [e] at hR
    exact (group x hf S hS i0 i1 _ (by apply Fin.ext; show 512 + (i1.val - 256 - 256) = _; omega) 8 (by omega) _ h2 _ _ z eight).trans hR
  · have e : width i1.val = 16 := by unfold width; split_ifs <;> omega
    rw [dif_neg h0, dif_neg h1, dif_neg h2]
    rw [e] at hR
    exact (group x hf S hS i0 i1 _ (by apply Fin.ext; show 768 + (i1.val - 256 - 256 - 256) = _; omega) 16 (by omega) _ (by omega) _ _ z sixteen).trans hR

end Cert.Reference28Ideal.Pool

namespace Cert.Pool

open Idealize.ShloMosaic Cert.Reals

/-- What the precondition says: the rows handed in are numbers everywhere. -/
theorem entries [Cert.Pre_finite_input.Facts] (x : (⟨2, ![8192, 1024]⟩ : Shape).Idx → EReal)
    (h : Cert.Pre_finite_input.fn (F := Ideal) x = fun _ => 1#1) (i : (⟨2, ![8192, 1024]⟩ : Shape).Idx) : ∃ r : ℝ, x i = (r : EReal) := by
  idx_vars i
  have e := congrFun h (ix2 i0 i1)
  unfold Cert.Pre_finite_input.fn at e
  have e' : Ideal.cmp .olt (max (x (ix2 i0 i1)) (-(x (ix2 i0 i1)))) (Ideal.ofBits .f32 0x7F800000#32) = 1#1 := e
  exact of_lt _ e'

end Cert.Pool

end
-- ==== Proof.Adam.lean ====
/-
  One step of the optimiser, entry by entry.
-/
module

public import proofs.«01_k».proof.Proof.Gen.Kernel32Ideal.Value
public import proofs.«01_k».proof.Proof.Gen.Reference32Ideal.Run
public import Idealize.ShloMosaic.Lib.Pointwise
public import Idealize.ShloMosaic.Lib.Pipeline.ReadBack
public import Idealize.ShloMosaic.Lib.Pipeline.ValueKit
public import Idealize.ShloMosaic.Lib.IdealHost

@[expose] public section

set_option maxRecDepth 16384

noncomputable section

namespace Cert.Adam

open Idealize.ShloMosaic

/-- The two running means of a gradient, and the change of a weight they make. -/
def mean (g m : EReal) : EReal := Ideal.ofBits .f32 0x3F666666#32 * m + Ideal.ofBits .f32 0x3DCCCCCD#32 * g

def square (g v : EReal) : EReal := Ideal.ofBits .f32 0x3F7FBE77#32 * v + Ideal.ofBits .f32 0x3A83126F#32 * (g * g)

def change (w g m v : EReal) : EReal :=
  Ideal.ofBits .f32 0xBA83126F#32
    * (Ideal.div (Ideal.div (mean g m) (Ideal.ofBits .f32 0x3F26BD02#32))
        (Ideal.sqrt (Ideal.div (square g v) (Ideal.ofBits .f32 0x3C231ACC#32)) + Ideal.ofBits .f32 0x322BCC77#32)
      + Ideal.ofBits .f32 0x3C23D70A#32 * w)

end Cert.Adam

namespace Cert.Kernel32Ideal.Adam

open Cert.Kernel32Ideal Cert.Kernel32Ideal.Gen Idealize.ShloMosaic Idealize.ShloMosaic.TcCoe Idealize.SL.Sem

variable (m : (ℓ : Loc nD τ sig) → Buf (Elt Ideal) ℓ)

theorem idx : ∀ t : Fin grid0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] := by
  decide +kernel

/-- A row of a block, as its row of the array. -/
def at_ (t : Fin cfg0.N) (a : Fin 256) : Fin 2816 := ⟨256 * t.val + a.val, by have := lt_of_lt_of_eq t.isLt N_0; omega⟩

variable (c : Dev nD) (t : Fin cfg0.N)

theorem blocks (a : Fin 256) (j : Fin 1024) :
    iblk m c 0 t (ix2 a j) = m ((c : Thread nD τ).loc main_arg0) (ix2 (at_ t a) j)
    ∧ iblk m c 1 t (ix2 a j) = m ((c : Thread nD τ).loc main_arg1) (ix2 (at_ t a) j)
    ∧ iblk m c 2 t (ix2 a j) = m ((c : Thread nD τ).loc main_arg2) (ix2 (at_ t a) j)
    ∧ iblk m c 3 t (ix2 a j) = m ((c : Thread nD τ).loc main_arg3) (ix2 (at_ t a) j) := by
  unfold at_
  refine ⟨?_, ?_, ?_, ?_⟩ <;> blk_ext [iblk, V, idx t]

theorem result_change : (dats m 0 c).arrAt 4 cfg0.N = fun i : S2816x1024.Idx =>
    Cert.Adam.change (m ((c : Thread nD τ).loc main_arg0) i) (m ((c : Thread nD τ).loc main_arg1) i)
      (m ((c : Thread nD τ).loc main_arg2) i) (m ((c : Thread nD τ).loc main_arg3) i) := by
  refine (dats m 0 c).arrAt_eq_of_covers 4 _ (by decide +kernel) fun t hf y => ?_
  blk_simp
  rw [after0_4]
  idx_vars y
  have q : ((cfg0.win 4).blk t).view.emb (ix2 y0 y1) = ix2 (at_ t y0) y1 := by unfold at_; blk_ext [idx t]
  obtain ⟨b0, b1, b2, b3⟩ := blocks m c t y0 y1
  rw [q, ← b0, ← b1, ← b2, ← b3]
  frame_out
  rfl

theorem result_mean : (dats m 0 c).arrAt 5 cfg0.N = fun i : S2816x1024.Idx =>
    Cert.Adam.mean (m ((c : Thread nD τ).loc main_arg1) i) (m ((c : Thread nD τ).loc main_arg2) i) := by
  refine (dats m 0 c).arrAt_eq_of_covers 5 _ (by decide +kernel) fun t hf y => ?_
  blk_simp
  rw [after0_5]
  idx_vars y
  have q : ((cfg0.win 5).blk t).view.emb (ix2 y0 y1) = ix2 (at_ t y0) y1 := by unfold at_; blk_ext [idx t]
  obtain ⟨b0, b1, b2, b3⟩ := blocks m c t y0 y1
  rw [q, ← b1, ← b2]
  frame_out
  rfl

theorem result_square : (dats m 0 c).arrAt 6 cfg0.N = fun i : S2816x1024.Idx =>
    Cert.Adam.square (m ((c : Thread nD τ).loc main_arg1) i) (m ((c : Thread nD τ).loc main_arg3) i) := by
  refine (dats m 0 c).arrAt_eq_of_covers 6 _ (by decide +kernel) fun t hf y => ?_
  blk_simp
  rw [after0_6]
  idx_vars y
  have q : ((cfg0.win 6).blk t).view.emb (ix2 y0 y1) = ix2 (at_ t y0) y1 := by unfold at_; blk_ext [idx t]
  obtain ⟨b0, b1, b2, b3⟩ := blocks m c t y0 y1
  rw [q, ← b1, ← b3]
  frame_out
  rfl

end Cert.Kernel32Ideal.Adam

namespace Cert.Reference32Ideal.Adam

open Cert.Reference32Ideal Cert.Reference32Ideal.Gen Idealize.ShloMosaic Idealize.ShloMosaic.TcCoe Idealize.SL.Sem

variable (m : (ℓ : Loc nD τ sig) → Buf (Elt Ideal) ℓ)

theorem run (ρ : Dev nD → PrngReg) :
    θ_run defs (onTc (τ := τ) (main (F := Ideal))) ⟨m, fun _ => 0, ρ⟩ fun r => ∀ c : Dev nD,
      r.2.mem ((c.tc : Thread nD τ).loc main_v23) = (fun i : S2816x1024.Idx =>
        Cert.Adam.change (m ((c.tc : Thread nD τ).loc main_arg0) i) (m ((c.tc : Thread nD τ).loc main_arg1) i)
          (m ((c.tc : Thread nD τ).loc main_arg2) i) (m ((c.tc : Thread nD τ).loc main_arg3) i))
      ∧ r.2.mem ((c.tc : Thread nD τ).loc main_v4) = (fun i : S2816x1024.Idx =>
        Cert.Adam.mean (m ((c.tc : Thread nD τ).loc main_arg1) i) (m ((c.tc : Thread nD τ).loc main_arg2) i))
      ∧ r.2.mem ((c.tc : Thread nD τ).loc main_v10) = (fun i : S2816x1024.Idx =>
        Cert.Adam.square (m ((c.tc : Thread nD τ).loc main_arg1) i) (m ((c.tc : Thread nD τ).loc main_arg3) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans rfl, (h c).2.1.trans rfl, (h c).2.2.1.trans rfl, (h c).2.2.2⟩)
    (Value.run (F := Ideal) m ρ)

end Cert.Reference32Ideal.Adam

end
-- ==== Proof.ModUpdate.lean ====
/-
  The gradient of the weights that make the scales, shifts and gates, and the step they take.
-/
module

public import proofs.«01_k».proof.Proof.Gen.Kernel31Ideal.Frame
public import proofs.«01_k».proof.Proof.Gen.Reference31Ideal.Run
public import proofs.«01_k».proof.Proof.Adam

@[expose] public section

set_option maxRecDepth 16384

noncomputable section

namespace Cert.Modulation

open Idealize.ShloMosaic

/-- A number times its logistic function. -/
def swish (x : EReal) : EReal := x * Ideal.div 1 (1 + Ideal.exp (-x))

/-- The gradient of the weights of one layer: every example's entry times its gradient. -/
def gradient (x : (⟨2, ![8, 1024]⟩ : Shape).Idx → EReal) (d : (⟨3, ![4, 8, 1536]⟩ : Shape).Idx → EReal)
    (i : (⟨3, ![4, 1024, 1536]⟩ : Shape).Idx) : EReal := ∑ e : Fin 8, swish (x (ix2 e (i 1))) * d (ix3 (i 0) e (i 2))

end Cert.Modulation

namespace Cert.Kernel31Ideal.Update

open Cert.Kernel31Ideal Cert.Kernel31Ideal.Gen Idealize.ShloMosaic Idealize.ShloMosaic.TcCoe Idealize.SL.Sem Cert.Modulation

variable (m : (ℓ : Loc nD τ sig) → Buf (Elt Ideal) ℓ)

theorem idx : ∀ t : Fin grid0.N, win0_0.index t = ![t.val % 8, 0] ∧ win0_1.index t = ![t.val / 8, 0, 0]
    ∧ win0_2.index t = ![t.val / 8, t.val % 8, 0] ∧ win0_3.index t = ![t.val / 8, t.val % 8, 0] ∧ win0_4.index t = ![t.val / 8, t.val % 8, 0]
    ∧ win0_5.index t = ![t.val / 8, t.val % 8, 0] ∧ win0_6.index t = ![t.val / 8, t.val % 8, 0] ∧ win0_7.index t = ![t.val / 8, t.val % 8, 0]
    ∧ win0_8.index t = ![t.val / 8, t.val % 8, 0] := by
  decide +kernel

/-- The layer of a point, and a row of a block as its row of the layer. -/
def layer (t : Fin cfg0.N) : Fin 4 := ⟨t.val / 8, by have := lt_of_lt_of_eq t.isLt N_0; omega⟩

def at_ (t : Fin cfg0.N) (a : Fin 128) : Fin 1024 := ⟨128 * (t.val % 8) + a.val, by omega⟩

variable (c : Dev nD) (t : Fin cfg0.N)

/-- The region finds the examples' rows as columns. -/
theorem columns : V m c main_v0 = transpose S1024x8 [1, 0] (m ((c : Thread nD τ).loc main_arg0)) transposes_S8x1024_S1024x8_1_0 := by
  unfold V hostOps0
  after_results_simp

theorem block0 (a : Fin 128) (e : Fin 8) : iblk m c 0 t (ix2 a e) = m ((c : Thread nD τ).loc main_arg0) (ix2 e (at_ t a)) := by
  have e0 : iblk m c 0 t (ix2 a e) = V m c main_v0 (ix2 (at_ t a) e) := by unfold at_; blk_ext [iblk, idx t]
  rw [e0, columns]
  pointwise []

theorem block1 (z : Fin 1) (e : Fin 8) (j : Fin 1536) : iblk m c 1 t (ix3 z e j) = m ((c : Thread nD τ).loc main_arg1) (ix3 (layer t) e j) := by
  unfold layer; blk_ext [iblk, V, idx t]

theorem blocks (z : Fin 1) (a : Fin 128) (j : Fin 1536) :
    iblk m c 2 t (ix3 z a j) = m ((c : Thread nD τ).loc main_arg2) (ix3 (layer t) (at_ t a) j)
    ∧ iblk m c 3 t (ix3 z a j) = m ((c : Thread nD τ).loc main_arg3) (ix3 (layer t) (at_ t a) j)
    ∧ iblk m c 4 t (ix3 z a j) = m ((c : Thread nD τ).loc main_arg4) (ix3 (layer t) (at_ t a) j) := by
  unfold at_ layer
  refine ⟨?_, ?_, ?_⟩ <;> blk_ext [iblk, V, idx t]

theorem act_apply (x : Vec Ideal S128x8 .f32) (a : Fin 128) (e : Fin 8) : k0_pay4 (F := Ideal) x (ix2 a e) = swish (x (ix2 a e)) := by
  unfold swish
  pointwise [k0_pay4]
  rw [zero_sub]

/-- What the body makes of a block's rows and the gradients of the eight examples. -/
theorem grad_apply (x : Vec Ideal S128x8 .f32) (d : Vec Ideal S1x8x1536 .f32) (a : Fin 128) (j : Fin 1536) :
    k0_pay9 (F := Ideal) (k0_pay4 x) (k0_pay5 d) (k0_pay6 x d) (k0_pay7 d) (k0_pay8 x) (ix2 a j)
      = ∑ e : Fin 8, swish (x (ix2 a e)) * d (ix3 0 e j) := by
  simp only [← act_apply, Fin.sum_univ_eight]
  pointwise [k0_pay9, k0_pay5, k0_pay6, k0_pay7, k0_pay8]

/-- The gradient handed to the optimiser. -/
def made (c : Dev nD) : S4x1024x1536.Idx → EReal := gradient (m ((c : Thread nD τ).loc main_arg0)) (m ((c : Thread nD τ).loc main_arg1))

theorem made_apply (z : Fin 1) (a : Fin 128) (j : Fin 1536) :
    k0_pay9 (F := Ideal) (k0_pay4 (iblk m c 0 t)) (k0_pay5 (iblk m c 1 t)) (k0_pay6 (iblk m c 0 t) (iblk m c 1 t)) (k0_pay7 (iblk m c 1 t))
      (k0_pay8 (iblk m c 0 t)) (ix2 a j) = made m c (ix3 (layer t) (at_ t a) j) := by
  rw [grad_apply]
  unfold made gradient
  exact Finset.sum_congr rfl fun e _ => by rw [block0, block1]; rfl

theorem result_gradient : (dats m 0 c).arrAt 5 cfg0.N = fun i : S4x1024x1536.Idx => made m c i := by
  refine (dats m 0 c).arrAt_eq_of_covers 5 _ (by decide +kernel) fun t hf y => ?_
  blk_simp
  rw [after0_5]
  idx_vars y
  have q : ((cfg0.win 5).blk t).view.emb (ix3 y0 y1 y2) = ix3 (layer t) (at_ t y1) y2 := by unfold at_ layer; blk_ext [idx t]
  obtain ⟨b2, b3, b4⟩ := blocks m c t 0 y1 y2
  obtain rfl : y0 = 0 := Subsingleton.elim _ _
  rw [q, ← made_apply m c t 0]
  unfold_out out0_5
  frame_out
  unfold k0_pay10
  generalize k0_pay9 (F := Ideal) _ _ _ _ _ = g
  pointwise []

theorem result_change : (dats m 0 c).arrAt 6 cfg0.N = fun i : S4x1024x1536.Idx =>
    Cert.Adam.change (m ((c : Thread nD τ).loc main_arg2) i) (made m c i) (m ((c : Thread nD τ).loc main_arg3) i)
      (m ((c : Thread nD τ).loc main_arg4) i) := by
  refine (dats m 0 c).arrAt_eq_of_covers 6 _ (by decide +kernel) fun t hf y => ?_
  blk_simp
  rw [after0_6]
  idx_vars y
  have q : ((cfg0.win 6).blk t).view.emb (ix3 y0 y1 y2) = ix3 (layer t) (at_ t y1) y2 := by unfold at_ layer; blk_ext [idx t]
  obtain ⟨b2, b3, b4⟩ := blocks m c t 0 y1 y2
  obtain rfl : y0 = 0 := Subsingleton.elim _ _
  rw [q, ← made_apply m c t 0, ← b2, ← b3, ← b4]
  unfold_out out0_6
  frame_out
  unfold k0_pay1 k0_pay14 k0_pay13 k0_pay12 k0_pay11
  generalize k0_pay9 (F := Ideal) _ _ _ _ _ = g
  pointwise []
  rfl

theorem result_mean : (dats m 0 c).arrAt 7 cfg0.N = fun i : S4x1024x1536.Idx =>
    Cert.Adam.mean (made m c i) (m ((c : Thread nD τ).loc main_arg3) i) := by
  refine (dats m 0 c).arrAt_eq_of_covers 7 _ (by decide +kernel) fun t hf y => ?_
  blk_simp
  rw [after0_7]
  idx_vars y
  have q : ((cfg0.win 7).blk t).view.emb (ix3 y0 y1 y2) = ix3 (layer t) (at_ t y1) y2 := by unfold at_ layer; blk_ext [idx t]
  obtain ⟨b2, b3, b4⟩ := blocks m c t 0 y1 y2
  obtain rfl : y0 = 0 := Subsingleton.elim _ _
  rw [q, ← made_apply m c t 0, ← b3]
  unfold_out out0_7
  frame_out
  unfold k0_pay2 k0_pay11
  generalize k0_pay9 (F := Ideal) _ _ _ _ _ = g
  pointwise []
  rfl

theorem result_square : (dats m 0 c).arrAt 8 cfg0.N = fun i : S4x1024x1536.Idx =>
    Cert.Adam.square (made m c i) (m ((c : Thread nD τ).loc main_arg4) i) := by
  refine (dats m 0 c).arrAt_eq_of_covers 8 _ (by decide +kernel) fun t hf y => ?_
  blk_simp
  rw [after0_8]
  idx_vars y
  have q : ((cfg0.win 8).blk t).view.emb (ix3 y0 y1 y2) = ix3 (layer t) (at_ t y1) y2 := by unfold at_ layer; blk_ext [idx t]
  obtain ⟨b2, b3, b4⟩ := blocks m c t 0 y1 y2
  obtain rfl : y0 = 0 := Subsingleton.elim _ _
  rw [q, ← made_apply m c t 0, ← b4]
  unfold_out out0_8
  frame_out
  unfold k0_pay3 k0_pay12
  generalize k0_pay9 (F := Ideal) _ _ _ _ _ = g
  pointwise []
  rfl

theorem run (ρ : Dev nD → PrngReg) : θ_run defs (onTc (τ := τ) (main (F := Ideal))) ⟨m, fun _ => 0, ρ⟩ fun r => ∀ c : Dev nD,
      r.2.mem ((c : Thread nD τ).loc main_v1_0) = made m c
      ∧ r.2.mem ((c : Thread nD τ).loc main_v1_1) = (fun i : S4x1024x1536.Idx =>
        Cert.Adam.change (m ((c : Thread nD τ).loc main_arg2) i) (made m c i) (m ((c : Thread nD τ).loc main_arg3) i)
          (m ((c : Thread nD τ).loc main_arg4) i))
      ∧ r.2.mem ((c : Thread nD τ).loc main_v1_2) = (fun i : S4x1024x1536.Idx =>
        Cert.Adam.mean (made m c i) (m ((c : Thread nD τ).loc main_arg3) i))
      ∧ r.2.mem ((c : Thread nD τ).loc main_v1_3) = (fun i : S4x1024x1536.Idx =>
        Cert.Adam.square (made m c i) (m ((c : Thread nD τ).loc main_arg4) i))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run _ _ _).mono (fun r h c => by
    have kept (w : Fin 9) (hw : (cfg0.win w).isOut = false) := ((h c).1 w).trans (((dats m 0 c).arrAt_in w hw _).trans (A_eq m c w))
    exact ⟨((h c).1 5).trans (result_gradient m c), ((h c).1 6).trans (result_change m c), ((h c).1 7).trans (result_mean m c),
      ((h c).1 8).trans (result_square m c),
      ((h c).2 main_arg0 (Pipeline.mem_restRefs_of main_arg0 (by decide) (by decide))).trans (V_main_arg0 m c),
      (kept 1 rfl).trans (V_main_arg1 m c), (kept 2 rfl).trans (V_main_arg2 m c), (kept 3 rfl).trans (V_main_arg3 m c),
      (kept 4 rfl).trans (V_main_arg4 m c)⟩)
    (run_main m ρ)

end Cert.Kernel31Ideal.Update

namespace Cert.Reference31Ideal.Update

open Cert.Reference31Ideal Cert.Reference31Ideal.Gen Idealize.ShloMosaic Idealize.ShloMosaic.TcCoe Idealize.SL.Sem Cert.Modulation

variable (m : (ℓ : Loc nD τ sig) → Buf (Elt Ideal) ℓ)

/-- The rows after the function, as the run names them. -/
def rows (c : Dev nD) : FVec Ideal S8x1024 .f32 :=
  mulf (m ((c.tc : Thread nD τ).loc main_arg0)) (Host.divf (broadcastInDim S8x1024 ![] bcast_S_S8x1024 (constant S_ .f32 0x3F800000#32))
    (addf (broadcastInDim S8x1024 ![] bcast_S_S8x1024 (constant S_ .f32 0x3F800000#32)) (Host.exp (Host.negf (m ((c.tc : Thread nD τ).loc main_arg0))))))

/-- The gradient of one layer's weights. -/
def one (c : Dev nD) (d : FVec Ideal S8x1536 .f32) : FVec Ideal S1x1024x1536 .f32 :=
  broadcastInDim S1x1024x1536 ![1, 2] bcast_S1024x1536_S1x1024x1536_1_2 (transpose S1024x1536 [1, 0]
    (Host.dotGeneral dot_S8x1536_S8x1024_S1536x1024_0_0_1_1_n_n none d (rows m c)) transposes_S1536x1024_S1024x1536_1_0)

/-- The four layers' gradients, each among zeros, added. -/
def total (c : Dev nD) : FVec Ideal S4x1024x1536 .f32 :=
  addf (addf (addf
    (pad S4x1024x1536 ![3, 0, 0] ![0, 0, 0] ![0, 0, 0] (one m c (shapeCast _ (extractStridedSlice S1x8x1536 ![3, 0, 0]
      (m ((c.tc : Thread nD τ).loc main_arg1)) slices_S4x8x1536_S1x8x1536_3_0_0) shapeCasts_S1x8x1536_S8x1536))
      (constant S_ .f32 0x00000000#32) pads_S1x1024x1536_S4x1024x1536_300_000_000 h_S_)
    (pad S4x1024x1536 ![2, 0, 0] ![1, 0, 0] ![0, 0, 0] (one m c (shapeCast _ (extractStridedSlice S1x8x1536 ![2, 0, 0]
      (m ((c.tc : Thread nD τ).loc main_arg1)) slices_S4x8x1536_S1x8x1536_2_0_0) shapeCasts_S1x8x1536_S8x1536))
      (constant S_ .f32 0x00000000#32) pads_S1x1024x1536_S4x1024x1536_210_000_000 h_S_))
    (pad S4x1024x1536 ![1, 0, 0] ![2, 0, 0] ![0, 0, 0] (one m c (shapeCast _ (extractStridedSlice S1x8x1536 ![1, 0, 0]
      (m ((c.tc : Thread nD τ).loc main_arg1)) slices_S4x8x1536_S1x8x1536_1_0_0) shapeCasts_S1x8x1536_S8x1536))
      (constant S_ .f32 0x00000000#32) pads_S1x1024x1536_S4x1024x1536_120_000_000 h_S_))
    (pad S4x1024x1536 ![0, 0, 0] ![3, 0, 0] ![0, 0, 0] (one m c (shapeCast _ (extractStridedSlice S1x8x1536 ![0, 0, 0]
      (m ((c.tc : Thread nD τ).loc main_arg1)) slices_S4x8x1536_S1x8x1536_0_0_0) shapeCasts_S1x8x1536_S8x1536))
      (constant S_ .f32 0x00000000#32) pads_S1x1024x1536_S4x1024x1536_030_000_000 h_S_)

theorem one_apply (c : Dev nD) (d : FVec Ideal S8x1536 .f32) (z : Fin 1) (a : Fin 1024) (j : Fin 1536) :
    one m c d (ix3 z a j) = ∑ e : Fin 8, swish (m ((c.tc : Thread nD τ).loc main_arg0) (ix2 e a)) * d (ix2 e j) := by
  have e1 (e : Fin 8) : rows m c (ix2 e a) = swish (m ((c.tc : Thread nD τ).loc main_arg0) (ix2 e a)) := by
    unfold swish
    pointwise [rows]
  simp only [← e1]
  pointwise [one]
  exact Finset.sum_congr rfl fun e _ => mul_comm ..

theorem total_eq (c : Dev nD) : total m c = gradient (m ((c.tc : Thread nD τ).loc main_arg0)) (m ((c.tc : Thread nD τ).loc main_arg1)) := by
  funext i
  idx_vars i
  fin_cases i0 <;> · pointwise [total, one_apply, gradient]

theorem run (ρ : Dev nD → PrngReg) : θ_run defs (onTc (τ := τ) (main (F := Ideal))) ⟨m, fun _ => 0, ρ⟩ fun r => ∀ c : Dev nD,
      r.2.mem ((c.tc : Thread nD τ).loc main_v61) = total m c
      ∧ r.2.mem ((c.tc : Thread nD τ).loc main_v85) = (fun i : S4x1024x1536.Idx =>
        Cert.Adam.change (m ((c.tc : Thread nD τ).loc main_arg2) i) (total m c i) (m ((c.tc : Thread nD τ).loc main_arg3) i)
          (m ((c.tc : Thread nD τ).loc main_arg4) i))
      ∧ r.2.mem ((c.tc : Thread nD τ).loc main_v66) = (fun i : S4x1024x1536.Idx =>
        Cert.Adam.mean (total m c i) (m ((c.tc : Thread nD τ).loc main_arg3) i))
      ∧ r.2.mem ((c.tc : Thread nD τ).loc main_v72) = (fun i : S4x1024x1536.Idx =>
        Cert.Adam.square (total m c i) (m ((c.tc : Thread nD τ).loc main_arg4) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun r h c => ⟨(h c).1.trans rfl, (h c).2.1.trans rfl, (h c).2.2.1.trans rfl, (h c).2.2.2.1.trans rfl, (h c).2.2.2.2⟩)
    (Value.run (F := Ideal) m ρ)

end Cert.Reference31Ideal.Update

end
-- ==== Proof.ModForward.lean ====
/-
  The scales, shifts and gates of the layers: a product with one weight for every layer, and a bias.
-/
module

public import proofs.«01_k».proof.Proof.Gen.Kernel30Ideal.Value
public import proofs.«01_k».proof.Proof.Gen.Reference30Ideal.Run
public import proofs.«01_k».proof.Proof.ModUpdate

@[expose] public section

set_option maxRecDepth 16384

noncomputable section

namespace Cert.Modulation

open Idealize.ShloMosaic

/-- Every example's row after the function, times a layer's weights, and the layer's bias. -/
def forward (x : (⟨2, ![8, 1024]⟩ : Shape).Idx → EReal) (w : (⟨3, ![4, 1024, 1536]⟩ : Shape).Idx → EReal)
    (b : (⟨3, ![4, 1, 1536]⟩ : Shape).Idx → EReal) (i : (⟨3, ![4, 8, 1536]⟩ : Shape).Idx) : EReal :=
  (∑ k : Fin 1024, swish (x (ix2 (i 1) k)) * w (ix3 (i 0) k (i 2))) + b (ix3 (i 0) 0 (i 2))

end Cert.Modulation

namespace Cert.Kernel30Ideal.Forward

open Cert.Kernel30Ideal Cert.Kernel30Ideal.Gen Idealize.ShloMosaic Idealize.ShloMosaic.TcCoe Idealize.SL.Sem Cert.Modulation

variable (m : (ℓ : Loc nD τ sig) → Buf (Elt Ideal) ℓ)

theorem idx : ∀ t : Fin grid0.N, win0_0.index t = ![0, 0] ∧ win0_1.index t = ![t.val / 2, 0, t.val % 2]
    ∧ win0_2.index t = ![t.val / 2, 0, t.val % 2] ∧ win0_3.index t = ![t.val / 2, 0, t.val % 2] := by
  decide +kernel

/-- The layer of a point, and a column of a block as its column of the layer. -/
def layer (t : Fin cfg0.N) : Fin 4 := ⟨t.val / 2, by have := lt_of_lt_of_eq t.isLt N_0; omega⟩

def at_ (t : Fin cfg0.N) (j : Fin 768) : Fin 1536 := ⟨768 * (t.val % 2) + j.val, by omega⟩

variable (c : Dev nD) (t : Fin cfg0.N)

theorem block0 (e : Fin 8) (k : Fin 1024) : iblk m c 0 t (ix2 e k) = m ((c : Thread nD τ).loc main_arg0) (ix2 e k) := by
  blk_ext [iblk, V, idx t]

theorem block1 (z : Fin 1) (k : Fin 1024) (j : Fin 768) :
    iblk m c 1 t (ix3 z k j) = m ((c : Thread nD τ).loc main_arg1) (ix3 (layer t) k (at_ t j)) := by
  unfold layer at_; blk_ext [iblk, V, idx t]

theorem block2 (z y : Fin 1) (j : Fin 768) :
    iblk m c 2 t (ix3 z y j) = m ((c : Thread nD τ).loc main_arg2) (ix3 (layer t) 0 (at_ t j)) := by
  unfold layer at_; blk_ext [iblk, V, idx t]

theorem made_apply (x : Vec Ideal S8x1024 .f32) (w : Vec Ideal S1x1024x768 .f32) (b : Vec Ideal S1x1x768 .f32) (z : Fin 1) (e : Fin 8) (j : Fin 768) :
    k0_pay1 (F := Ideal) x w b (ix3 z e j) = (∑ k : Fin 1024, swish (x (ix2 e k)) * w (ix3 0 k j)) + b (ix3 0 0 j) := by
  unfold swish
  pointwise [k0_pay1]
  simp only [zero_sub, zero_add]

theorem result : (dats m 0 c).arrAt 3 cfg0.N = forward (m ((c : Thread nD τ).loc main_arg0)) (m ((c : Thread nD τ).loc main_arg1))
    (m ((c : Thread nD τ).loc main_arg2)) := by
  refine (dats m 0 c).arrAt_eq_of_covers 3 _ (by decide +kernel) fun t hf y => ?_
  blk_simp
  rw [after0_3]
  idx_vars y
  have q : ((cfg0.win 3).blk t).view.emb (ix3 y0 y1 y2) = ix3 (layer t) y1 (at_ t y2) := by unfold at_ layer; blk_ext [idx t]
  rw [q]
  frame_out
  rw [made_apply]
  unfold forward
  simp only [block0, block1, block2]
  rfl

end Cert.Kernel30Ideal.Forward

namespace Cert.Reference30Ideal.Forward

open Cert.Reference30Ideal Cert.Reference30Ideal.Gen Idealize.ShloMosaic Idealize.ShloMosaic.TcCoe Idealize.SL.Sem Cert.Modulation

variable (m : (ℓ : Loc nD τ sig) → Buf (Elt Ideal) ℓ)

/-- The rows after the function, as the run names them. -/
def rows (c : Dev nD) : FVec Ideal S8x1024 .f32 :=
  mulf (m ((c.tc : Thread nD τ).loc main_arg0)) (Host.divf (broadcastInDim S8x1024 ![] bcast_S_S8x1024 (constant S_ .f32 0x3F800000#32))
    (addf (broadcastInDim S8x1024 ![] bcast_S_S8x1024 (constant S_ .f32 0x3F800000#32)) (Host.exp (Host.negf (m ((c.tc : Thread nD τ).loc main_arg0))))))

/-- One layer. -/
def one (c : Dev nD) (w : FVec Ideal S1x1024x1536 .f32) (b : FVec Ideal S1x1x1536 .f32) : FVec Ideal S1x8x1536 .f32 :=
  broadcastInDim S1x8x1536 ![1, 2] bcast_S8x1536_S1x8x1536_1_2 (addf
    (Host.dotGeneral dot_S8x1024_S1024x1536_S8x1536_1_0_0_1_n_n none (rows m c) (shapeCast _ w shapeCasts_S1x1024x1536_S1024x1536))
    (broadcastInDim S8x1536 ![0, 1] bcast_S1x1536_S8x1536_0_1 (shapeCast _ b shapeCasts_S1x1x1536_S1x1536)))

/-- The four layers, one after another. -/
def total (c : Dev nD) : FVec Ideal S4x8x1536 .f32 :=
  concatenate S4x8x1536 0 [
    ⟨S1x8x1536, one m c (extractStridedSlice S1x1024x1536 ![0, 0, 0] (m ((c.tc : Thread nD τ).loc main_arg1)) slices_S4x1024x1536_S1x1024x1536_0_0_0)
      (extractStridedSlice S1x1x1536 ![0, 0, 0] (m ((c.tc : Thread nD τ).loc main_arg2)) slices_S4x1x1536_S1x1x1536_0_0_0)⟩,
    ⟨S1x8x1536, one m c (extractStridedSlice S1x1024x1536 ![1, 0, 0] (m ((c.tc : Thread nD τ).loc main_arg1)) slices_S4x1024x1536_S1x1024x1536_1_0_0)
      (extractStridedSlice S1x1x1536 ![1, 0, 0] (m ((c.tc : Thread nD τ).loc main_arg2)) slices_S4x1x1536_S1x1x1536_1_0_0)⟩,
    ⟨S1x8x1536, one m c (extractStridedSlice S1x1024x1536 ![2, 0, 0] (m ((c.tc : Thread nD τ).loc main_arg1)) slices_S4x1024x1536_S1x1024x1536_2_0_0)
      (extractStridedSlice S1x1x1536 ![2, 0, 0] (m ((c.tc : Thread nD τ).loc main_arg2)) slices_S4x1x1536_S1x1x1536_2_0_0)⟩,
    ⟨S1x8x1536, one m c (extractStridedSlice S1x1024x1536 ![3, 0, 0] (m ((c.tc : Thread nD τ).loc main_arg1)) slices_S4x1024x1536_S1x1024x1536_3_0_0)
      (extractStridedSlice S1x1x1536 ![3, 0, 0] (m ((c.tc : Thread nD τ).loc main_arg2)) slices_S4x1x1536_S1x1x1536_3_0_0)⟩]
    concatenates_S1x8x1536_S1x8x1536_S1x8x1536_S1x8x1536_S4x8x1536_d0

theorem one_apply (c : Dev nD) (w : FVec Ideal S1x1024x1536 .f32) (b : FVec Ideal S1x1x1536 .f32) (z : Fin 1) (e : Fin 8) (j : Fin 1536) :
    one m c w b (ix3 z e j) = (∑ k : Fin 1024, swish (m ((c.tc : Thread nD τ).loc main_arg0) (ix2 e k)) * w (ix3 0 k j)) + b (ix3 0 0 j) := by
  have e1 (k : Fin 1024) : rows m c (ix2 e k) = swish (m ((c.tc : Thread nD τ).loc main_arg0) (ix2 e k)) := by
    unfold swish
    pointwise [rows]
  simp only [← e1]
  pointwise [one]

theorem total_eq (c : Dev nD) : total m c = forward (m ((c.tc : Thread nD τ).loc main_arg0)) (m ((c.tc : Thread nD τ).loc main_arg1))
    (m ((c.tc : Thread nD τ).loc main_arg2)) := by
  funext i
  idx_vars i
  fin_cases i0 <;> · pointwise [total, one_apply, forward]

theorem run (ρ : Dev nD → PrngReg) : θ_run defs (onTc (τ := τ) (main (F := Ideal))) ⟨m, fun _ => 0, ρ⟩ fun r => ∀ c : Dev nD,
      r.2.mem ((c.tc : Thread nD τ).loc main_v33) = forward (m ((c.tc : Thread nD τ).loc main_arg0)) (m ((c.tc : Thread nD τ).loc main_arg1))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun r h c => ⟨((h c).1.trans rfl).trans (total_eq m c), (h c).2⟩) (Value.run (F := Ideal) m ρ)

end Cert.Reference30Ideal.Forward

end
-- ==== Proof.SumDevices.lean ====
/-
  The sum of the eight devices' gradients of the small weights.
-/
module

public import proofs.«01_k».proof.Proof.Gen.Kernel29Ideal.Value
public import proofs.«01_k».proof.Proof.Gen.Reference29Ideal.Run
public import Idealize.ShloMosaic.Lib.Pointwise
public import Idealize.ShloMosaic.Lib.Pipeline.ValueKit

@[expose] public section

set_option maxRecDepth 16384

noncomputable section

namespace Cert.Devices

open Idealize.ShloMosaic

/-- Each number added over the eight devices. -/
def added (x : (⟨3, ![8, 1792, 128]⟩ : Shape).Idx → EReal) (i : (⟨2, ![1792, 128]⟩ : Shape).Idx) : EReal :=
  ∑ e : Fin 8, x (ix3 e (i 0) (i 1))

end Cert.Devices

namespace Cert.Kernel29Ideal.Sum

open Cert.Kernel29Ideal Cert.Kernel29Ideal.Gen Idealize.ShloMosaic Idealize.ShloMosaic.TcCoe Idealize.SL.Sem Cert.Devices

variable (m : (ℓ : Loc nD τ sig) → Buf (Elt Ideal) ℓ)

theorem idx : ∀ t : Fin grid0.N, win0_0.index t = ![0, t.val, 0] ∧ win0_1.index t = ![t.val, 0] := by
  decide +kernel

variable (c : Dev nD) (t : Fin cfg0.N)

/-- A row of a block as its row of the array. -/
def at_ (r : Fin 256) : Fin 1792 := ⟨256 * t.val + r.val, by have := lt_of_lt_of_eq t.isLt N_0; omega⟩

theorem block0 (e : Fin 8) (r : Fin 256) (j : Fin 128) :
    iblk m c 0 t (ix3 e r j) = m ((c : Thread nD τ).loc main_arg0) (ix3 e (at_ t r) j) := by
  unfold at_; blk_ext [iblk, V, idx t]

theorem result : (dats m 0 c).arrAt 1 cfg0.N = added (m ((c : Thread nD τ).loc main_arg0)) := by
  refine (dats m 0 c).arrAt_eq_of_covers 1 _ (by decide +kernel) fun t hf y => ?_
  blk_simp
  rw [after0_1]
  idx_vars y
  have q : ((cfg0.win 1).blk t).view.emb (ix2 y0 y1) = ix2 (at_ t y0) y1 := by unfold at_; blk_ext [idx t]
  rw [q]
  unfold added
  simp only [ix2_0, ix2_1, ← block0, Fin.sum_univ_eight]
  frame_out
  pointwise [k0_pay1]

end Cert.Kernel29Ideal.Sum

namespace Cert.Reference29Ideal.Sum

open Cert.Reference29Ideal Cert.Reference29Ideal.Gen Idealize.ShloMosaic Idealize.ShloMosaic.TcCoe Idealize.SL.Sem Cert.Devices

variable (m : (ℓ : Loc nD τ sig) → Buf (Elt Ideal) ℓ)

theorem run (ρ : Dev nD → PrngReg) : θ_run defs (onTc (τ := τ) (main (F := Ideal))) ⟨m, fun _ => 0, ρ⟩ fun r => ∀ c : Dev nD,
      r.2.mem ((c.tc : Thread nD τ).loc main_v0) = added (m ((c.tc : Thread nD τ).loc main_arg0))
      ∧ r.2.mem ((c.tc : Thread nD τ).loc main_arg0) = m ((c.tc : Thread nD τ).loc main_arg0) :=
  (θ_run _ _ _).mono (fun r h c => ⟨(h c).1.trans (by funext i; idx_vars i; pointwise [added]), (h c).2⟩) (Value.run (F := Ideal) m ρ)

end Cert.Reference29Ideal.Sum

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import Idealize.ShloMosaic.Adequacy
public import Idealize.ShloMosaic.Init
public import Idealize.ShloMosaic.Lib.Quiescent
public import proofs.«01_k».proof.Pre_finite_gradient
public import proofs.«01_k».proof.Proof.PoolClaims
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.DownInput
public import proofs.«01_k».proof.Proof.DownWeight
public import proofs.«01_k».proof.Proof.UpInput
public import proofs.«01_k».proof.Proof.UpWeight
public import proofs.«01_k».proof.Proof.UpForward
public import proofs.«01_k».proof.Proof.DownForward
public import proofs.«01_k».proof.Proof.Gen.Kernel8.Frame
public import proofs.«01_k».proof.Proof.Gen.Kernel8Ideal.Value
public import proofs.«01_k».proof.Proof.Gen.Reference8Ideal.Run
public import proofs.«01_k».proof.Proof.NormClaims
public import proofs.«01_k».proof.Proof.Gen.Kernel9.Frame
public import proofs.«01_k».proof.Proof.Gen.Kernel9Ideal.Value
public import proofs.«01_k».proof.Proof.Gen.Reference9Ideal.Run
public import proofs.«01_k».proof.Proof.BetweenClaims
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Kernel21.Frame
public import proofs.«01_k».proof.Proof.Gen.Kernel21Ideal.Value
public import proofs.«01_k».proof.Proof.Gen.Reference21Ideal.Run
public import proofs.«01_k».proof.Proof.Gen.Kernel22.Frame
public import proofs.«01_k».proof.Proof.Gen.Kernel22Ideal.Value
public import proofs.«01_k».proof.Proof.Gen.Reference22Ideal.Run
public import proofs.«01_k».proof.Proof.MixerLast
public import proofs.«01_k».proof.Proof.MixerFirst
public import proofs.«01_k».proof.Proof.MixerWeight
public import proofs.«01_k».proof.Proof.MixerGroups
public import proofs.«01_k».proof.Proof.Gen.Kernel23.Frame
public import proofs.«01_k».proof.Proof.Gen.Kernel23Ideal.Value
public import proofs.«01_k».proof.Proof.Gen.Reference23Ideal.Run
public import proofs.«01_k».proof.Proof.Gen.Kernel24.Frame
public import proofs.«01_k».proof.Proof.Gen.Kernel24Ideal.Value
public import proofs.«01_k».proof.Proof.Gen.Reference24Ideal.Run
public import proofs.«01_k».proof.Proof.Gen.Kernel25.Frame
public import proofs.«01_k».proof.Proof.Gen.Kernel25Ideal.Value
public import proofs.«01_k».proof.Proof.Gen.Reference25Ideal.Run
public import proofs.«01_k».proof.Proof.Gen.Kernel26.Frame
public import proofs.«01_k».proof.Proof.Gen.Kernel26Ideal.Value
public import proofs.«01_k».proof.Proof.Gen.Reference26Ideal.Run
public import proofs.«01_k».proof.Proof.Gen.Kernel27.Frame
public import proofs.«01_k».proof.Proof.Gen.Kernel27Ideal.Value
public import proofs.«01_k».proof.Proof.Gen.Reference27Ideal.Run
public import proofs.«01_k».proof.Proof.Gen.Kernel28.Frame
public import proofs.«01_k».proof.Proof.Gen.Kernel28Ideal.Value
public import proofs.«01_k».proof.Proof.Gen.Reference28Ideal.Run
public import proofs.«01_k».proof.Proof.Affine
public import proofs.«01_k».proof.Proof.NormForward
public import proofs.«01_k».proof.Proof.LastNorm
public import proofs.«01_k».proof.Proof.LastClaims
public import proofs.«01_k».proof.Proof.PoolMeans
public import proofs.«01_k».proof.Proof.Gen.Kernel29.Frame
public import proofs.«01_k».proof.Proof.Gen.Kernel29Ideal.Value
public import proofs.«01_k».proof.Proof.Gen.Reference29Ideal.Run
public import proofs.«01_k».proof.Proof.Gen.Kernel30.Frame
public import proofs.«01_k».proof.Proof.Gen.Kernel30Ideal.Value
public import proofs.«01_k».proof.Proof.Gen.Reference30Ideal.Run
public import proofs.«01_k».proof.Proof.Gen.Kernel31.Frame
public import proofs.«01_k».proof.Proof.Gen.Kernel31Ideal.Frame
public import proofs.«01_k».proof.Proof.Gen.Reference31Ideal.Run
public import proofs.«01_k».proof.Proof.Gen.Kernel32.Frame
public import proofs.«01_k».proof.Proof.Gen.Kernel32Ideal.Value
public import proofs.«01_k».proof.Proof.Gen.Reference32Ideal.Run
public import proofs.«01_k».proof.Proof.Adam
public import proofs.«01_k».proof.Proof.ModUpdate
public import proofs.«01_k».proof.Proof.ModForward
public import proofs.«01_k».proof.Proof.SumDevices

@[expose] public section

noncomputable section

namespace Cert.Proof

open Idealize.ShloMosaic Idealize.SL.Sem Cert.Kernel

theorem facts_finite : Cert.Pre_finite_gradient.Facts := ⟨by decide⟩
theorem facts_factors : Cert.Pre_finite_factors.Facts := ⟨by decide, by decide, by decide⟩
theorem facts_rows : Cert.Pre_finite_rows.Facts := ⟨by decide, by decide, by decide⟩

theorem facts_scale : Cert.Pre_finite_scale.Facts := ⟨by decide, by decide, by decide⟩
theorem facts_ends : Cert.Pre_finite_ends.Facts := ⟨by decide, by decide, by decide⟩
theorem facts_input : Cert.Pre_finite_input.Facts := ⟨by decide⟩

instance : Cert.Kernel.Facts := Cert.Kernel.Gen.facts
instance : Cert.KernelIdeal.Facts := Cert.KernelIdeal.Gen.facts
instance : Cert.ReferenceIdeal.Facts := Cert.ReferenceIdeal.Gen.facts
instance : Cert.Kernel2.Facts := Cert.Kernel2.Gen.facts
instance : Cert.Kernel2Ideal.Facts := Cert.Kernel2Ideal.Gen.facts
instance : Cert.Reference2Ideal.Facts := Cert.Reference2Ideal.Gen.facts
instance : Cert.Kernel3.Facts := Cert.Kernel3.Gen.facts
instance : Cert.Kernel3Ideal.Facts := Cert.Kernel3Ideal.Gen.facts
instance : Cert.Reference3Ideal.Facts := Cert.Reference3Ideal.Gen.facts
instance : Cert.Kernel4.Facts := Cert.Kernel4.Gen.facts
instance : Cert.Kernel4Ideal.Facts := Cert.Kernel4Ideal.Gen.facts
instance : Cert.Reference4Ideal.Facts := Cert.Reference4Ideal.Gen.facts
instance : Cert.Kernel5.Facts := Cert.Kernel5.Gen.facts
instance : Cert.Kernel5Ideal.Facts := Cert.Kernel5Ideal.Gen.facts
instance : Cert.Reference5Ideal.Facts := Cert.Reference5Ideal.Gen.facts
instance : Cert.Kernel6.Facts := Cert.Kernel6.Gen.facts
instance : Cert.Kernel6Ideal.Facts := Cert.Kernel6Ideal.Gen.facts
instance : Cert.Reference6Ideal.Facts := Cert.Reference6Ideal.Gen.facts
instance : Cert.Kernel7.Facts := Cert.Kernel7.Gen.facts
instance : Cert.Kernel7Ideal.Facts := Cert.Kernel7Ideal.Gen.facts
instance : Cert.Reference7Ideal.Facts := Cert.Reference7Ideal.Gen.facts
instance : Cert.Kernel8.Facts := Cert.Kernel8.Gen.facts
instance : Cert.Kernel8Ideal.Facts := Cert.Kernel8Ideal.Gen.facts
instance : Cert.Reference8Ideal.Facts := Cert.Reference8Ideal.Gen.facts
instance : Cert.Kernel9.Facts := Cert.Kernel9.Gen.facts
instance : Cert.Kernel9Ideal.Facts := Cert.Kernel9Ideal.Gen.facts
instance : Cert.Reference9Ideal.Facts := Cert.Reference9Ideal.Gen.facts
instance : Cert.Kernel10.Facts := Cert.Kernel10.Gen.facts
instance : Cert.Kernel10Ideal.Facts := Cert.Kernel10Ideal.Gen.facts
instance : Cert.Reference10Ideal.Facts := Cert.Reference10Ideal.Gen.facts
instance : Cert.Kernel11.Facts := Cert.Kernel11.Gen.facts
instance : Cert.Kernel11Ideal.Facts := Cert.Kernel11Ideal.Gen.facts
instance : Cert.Reference11Ideal.Facts := Cert.Reference11Ideal.Gen.facts
instance : Cert.Kernel12.Facts := Cert.Kernel12.Gen.facts
instance : Cert.Kernel12Ideal.Facts := Cert.Kernel12Ideal.Gen.facts
instance : Cert.Reference12Ideal.Facts := Cert.Reference12Ideal.Gen.facts
instance : Cert.Kernel13.Facts := Cert.Kernel13.Gen.facts
instance : Cert.Kernel13Ideal.Facts := Cert.Kernel13Ideal.Gen.facts
instance : Cert.Reference13Ideal.Facts := Cert.Reference13Ideal.Gen.facts
instance : Cert.Kernel14.Facts := Cert.Kernel14.Gen.facts
instance : Cert.Kernel14Ideal.Facts := Cert.Kernel14Ideal.Gen.facts
instance : Cert.Reference14Ideal.Facts := Cert.Reference14Ideal.Gen.facts
instance : Cert.Kernel15.Facts := Cert.Kernel15.Gen.facts
instance : Cert.Kernel15Ideal.Facts := Cert.Kernel15Ideal.Gen.facts
instance : Cert.Reference15Ideal.Facts := Cert.Reference15Ideal.Gen.facts
instance : Cert.Kernel16.Facts := Cert.Kernel16.Gen.facts
instance : Cert.Kernel16Ideal.Facts := Cert.Kernel16Ideal.Gen.facts
instance : Cert.Reference16Ideal.Facts := Cert.Reference16Ideal.Gen.facts
instance : Cert.Kernel17.Facts := Cert.Kernel17.Gen.facts
instance : Cert.Kernel17Ideal.Facts := Cert.Kernel17Ideal.Gen.facts
instance : Cert.Reference17Ideal.Facts := Cert.Reference17Ideal.Gen.facts
instance : Cert.Kernel18.Facts := Cert.Kernel18.Gen.facts
instance : Cert.Kernel18Ideal.Facts := Cert.Kernel18Ideal.Gen.facts
instance : Cert.Reference18Ideal.Facts := Cert.Reference18Ideal.Gen.facts
instance : Cert.Kernel19.Facts := Cert.Kernel19.Gen.facts
instance : Cert.Kernel19Ideal.Facts := Cert.Kernel19Ideal.Gen.facts
instance : Cert.Reference19Ideal.Facts := Cert.Reference19Ideal.Gen.facts
instance : Cert.Kernel20.Facts := Cert.Kernel20.Gen.facts
instance : Cert.Kernel20Ideal.Facts := Cert.Kernel20Ideal.Gen.facts
instance : Cert.Reference20Ideal.Facts := Cert.Reference20Ideal.Gen.facts
instance : Cert.Kernel21.Facts := Cert.Kernel21.Gen.facts
instance : Cert.Kernel21Ideal.Facts := Cert.Kernel21Ideal.Gen.facts
instance : Cert.Reference21Ideal.Facts := Cert.Reference21Ideal.Gen.facts
instance : Cert.Kernel22.Facts := Cert.Kernel22.Gen.facts
instance : Cert.Kernel22Ideal.Facts := Cert.Kernel22Ideal.Gen.facts
instance : Cert.Reference22Ideal.Facts := Cert.Reference22Ideal.Gen.facts
instance : Cert.Kernel23.Facts := Cert.Kernel23.Gen.facts
instance : Cert.Kernel23Ideal.Facts := Cert.Kernel23Ideal.Gen.facts
instance : Cert.Reference23Ideal.Facts := Cert.Reference23Ideal.Gen.facts
instance : Cert.Kernel24.Facts := Cert.Kernel24.Gen.facts
instance : Cert.Kernel24Ideal.Facts := Cert.Kernel24Ideal.Gen.facts
instance : Cert.Reference24Ideal.Facts := Cert.Reference24Ideal.Gen.facts
instance : Cert.Kernel25.Facts := Cert.Kernel25.Gen.facts
instance : Cert.Kernel25Ideal.Facts := Cert.Kernel25Ideal.Gen.facts
instance : Cert.Reference25Ideal.Facts := Cert.Reference25Ideal.Gen.facts
instance : Cert.Kernel26.Facts := Cert.Kernel26.Gen.facts
instance : Cert.Kernel26Ideal.Facts := Cert.Kernel26Ideal.Gen.facts
instance : Cert.Reference26Ideal.Facts := Cert.Reference26Ideal.Gen.facts
instance : Cert.Kernel27.Facts := Cert.Kernel27.Gen.facts
instance : Cert.Kernel27Ideal.Facts := Cert.Kernel27Ideal.Gen.facts
instance : Cert.Reference27Ideal.Facts := Cert.Reference27Ideal.Gen.facts
instance : Cert.Kernel28.Facts := Cert.Kernel28.Gen.facts
instance : Cert.Kernel28Ideal.Facts := Cert.Kernel28Ideal.Gen.facts
instance : Cert.Reference28Ideal.Facts := Cert.Reference28Ideal.Gen.facts
instance : Cert.Kernel29.Facts := Cert.Kernel29.Gen.facts
instance : Cert.Kernel29Ideal.Facts := Cert.Kernel29Ideal.Gen.facts
instance : Cert.Reference29Ideal.Facts := Cert.Reference29Ideal.Gen.facts
instance : Cert.Kernel30.Facts := Cert.Kernel30.Gen.facts
instance : Cert.Kernel30Ideal.Facts := Cert.Kernel30Ideal.Gen.facts
instance : Cert.Reference30Ideal.Facts := Cert.Reference30Ideal.Gen.facts
instance : Cert.Kernel31.Facts := Cert.Kernel31.Gen.facts
instance : Cert.Kernel31Ideal.Facts := Cert.Kernel31Ideal.Gen.facts
instance : Cert.Reference31Ideal.Facts := Cert.Reference31Ideal.Gen.facts
instance : Cert.Kernel32.Facts := Cert.Kernel32.Gen.facts
instance : Cert.Kernel32Ideal.Facts := Cert.Kernel32Ideal.Gen.facts
instance : Cert.Reference32Ideal.Facts := Cert.Reference32Ideal.Gen.facts
instance : Cert.Pre_finite_scale.Facts := facts_scale
instance : Cert.Pre_finite_ends.Facts := facts_ends
instance : Cert.Pre_finite_input.Facts := facts_input
instance : Cert.Pre_finite_factors.Facts := facts_factors
instance : Cert.Pre_finite_gradient.Facts := facts_finite
instance : Cert.Pre_finite_rows.Facts := facts_rows

/-! ## The pooling gradient -/

theorem pool_frame : Cert.quiescent_Kernel := fun m ρ _ => Cert.Kernel.Gen.frame m ρ

theorem pool_frame_ideal : Cert.quiescent_KernelIdeal := fun m ρ _ => Cert.KernelIdeal.Gen.frame m ρ

theorem pool_reference_run (m ρ) : θ_run (Cert.ReferenceIdeal.defs (F := Ideal)) (onTc (τ := Cert.ReferenceIdeal.τ) (Cert.ReferenceIdeal.main (F := Ideal)))
    ⟨m, fun _ => 0, ρ⟩ (fun r => (∀ c : Dev Cert.ReferenceIdeal.nD,
      r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0)) ∧ r.2.sem = fun _ => 0) :=
  (θ_run _ _ _).mono (fun r h => ⟨fun c => (h c).2, Idealize.ShloMosaic.sem_eq_zero_of_no_sems (by decide) r.2⟩)
    (Cert.ReferenceIdeal.Value.run (F := Ideal) m ρ)

theorem pool_frame_reference : Cert.quiescent_ReferenceIdeal := fun m ρ _ => pool_reference_run m ρ

theorem pool_algebraic : Cert.algebraic_KernelIdeal_ReferenceIdeal_pre_finite_gradient := by
  intro m ρ m' ρ' hpre hag
  refine ⟨fun c => Cert.Pool.grad (Cert.KernelIdeal.PoolBlock.arg m c), ?_, ?_⟩
  · exact (θ_run _ _ _).mono (fun r h c => ⟨(h c).1.trans (Cert.KernelIdeal.PoolBlock.result m c), (h c).2⟩)
      (Cert.KernelIdeal.Value.run_blocks (F := Ideal) m ρ)
  · exact (θ_run _ _ _).mono (fun r h c => ⟨(h c).1.trans (Cert.ReferenceIdeal.Pool.result m' c _ (hag c)
        (Cert.Pool.finite _ (hpre c))), (h c).2⟩)
      (Cert.ReferenceIdeal.Value.run (F := Ideal) m' ρ')

/-! ## The products of the feed-forward network -/

theorem down_input_reference : Cert.quiescent_Reference2Ideal := fun m ρ _ =>
  (θ_run _ _ _).mono (fun r h => ⟨fun c => (h c).2, Idealize.ShloMosaic.sem_eq_zero_of_no_sems (by decide) r.2⟩)
    (Cert.Reference2Ideal.Value.run (F := Ideal) m ρ)

theorem down_input : Cert.algebraic_Kernel2Ideal_Reference2Ideal := by
  intro m ρ m' ρ' _ hag
  refine ⟨fun c => (Cert.Kernel2Ideal.Gen.dats m 0 c).arrAt 2 _, (θ_run _ _ _).mono (fun r h c => h c) (Cert.Kernel2Ideal.Value.run_blocks (F := Ideal) m ρ), (θ_run _ _ _).mono (fun r h c => ⟨?_, (h c).2⟩) (Cert.Reference2Ideal.Value.run (F := Ideal) m' ρ')⟩
  rw [(h c).1, (hag c).1, (hag c).2]
  exact (Cert.Reference2Ideal.Down.result ..).trans (Cert.Kernel2Ideal.Down.result m c).symm

theorem down_weight_reference : Cert.quiescent_Reference3Ideal := fun m ρ _ =>
  (θ_run _ _ _).mono (fun r h => ⟨fun c => (h c).2, Idealize.ShloMosaic.sem_eq_zero_of_no_sems (by decide) r.2⟩)
    (Cert.Reference3Ideal.Value.run (F := Ideal) m ρ)

theorem down_weight : Cert.algebraic_Kernel3Ideal_Reference3Ideal := by
  intro m ρ m' ρ' _ hag
  refine ⟨fun c => (Cert.Kernel3Ideal.Gen.dats m 0 c).arrAt 2 _, (θ_run _ _ _).mono (fun r h c => h c) (Cert.Kernel3Ideal.Value.run_blocks (F := Ideal) m ρ), (θ_run _ _ _).mono (fun r h c => ⟨?_, (h c).2⟩) (Cert.Reference3Ideal.Value.run (F := Ideal) m' ρ')⟩
  rw [(h c).1, (hag c).1, (hag c).2]
  exact (Cert.Reference3Ideal.Down.result ..).trans (Cert.Kernel3Ideal.Down.result m c).symm

theorem up_input_reference : Cert.quiescent_Reference4Ideal := fun m ρ _ =>
  (θ_run _ _ _).mono (fun r h => ⟨fun c => (h c).2, Idealize.ShloMosaic.sem_eq_zero_of_no_sems (by decide) r.2⟩)
    (Cert.Reference4Ideal.Value.run (F := Ideal) m ρ)

theorem up_input : Cert.algebraic_Kernel4Ideal_Reference4Ideal := by
  intro m ρ m' ρ' _ hag
  refine ⟨fun c => (Cert.Kernel4Ideal.Gen.dats m 0 c).arrAt 2 _, (θ_run _ _ _).mono (fun r h c => h c) (Cert.Kernel4Ideal.Value.run_blocks (F := Ideal) m ρ), (θ_run _ _ _).mono (fun r h c => ⟨?_, (h c).2⟩) (Cert.Reference4Ideal.Value.run (F := Ideal) m' ρ')⟩
  rw [(h c).1, (hag c).1, (hag c).2]
  exact (Cert.Reference4Ideal.Up.result ..).trans (Cert.Kernel4Ideal.Up.result m c).symm

theorem up_weight_reference : Cert.quiescent_Reference5Ideal := fun m ρ _ =>
  (θ_run _ _ _).mono (fun r h => ⟨fun c => (h c).2, Idealize.ShloMosaic.sem_eq_zero_of_no_sems (by decide) r.2⟩)
    (Cert.Reference5Ideal.Value.run (F := Ideal) m ρ)

theorem up_weight : Cert.algebraic_Kernel5Ideal_Reference5Ideal := by
  intro m ρ m' ρ' _ hag
  refine ⟨fun c => (Cert.Kernel5Ideal.Gen.dats m 0 c).arrAt 2 _, (θ_run _ _ _).mono (fun r h c => h c) (Cert.Kernel5Ideal.Value.run_blocks (F := Ideal) m ρ), (θ_run _ _ _).mono (fun r h c => ⟨?_, (h c).2⟩) (Cert.Reference5Ideal.Value.run (F := Ideal) m' ρ')⟩
  rw [(h c).1, (hag c).1, (hag c).2]
  exact (Cert.Reference5Ideal.Up.result ..).trans (Cert.Kernel5Ideal.Up.result m c).symm

theorem up_forward_reference : Cert.quiescent_Reference6Ideal := fun m ρ _ =>
  (θ_run _ _ _).mono (fun r h => ⟨fun c => (h c).2, Idealize.ShloMosaic.sem_eq_zero_of_no_sems (by decide) r.2⟩)
    (Cert.Reference6Ideal.Value.run (F := Ideal) m ρ)

theorem up_forward : Cert.algebraic_Kernel6Ideal_Reference6Ideal := by
  intro m ρ m' ρ' _ hag
  refine ⟨fun c => (Cert.Kernel6Ideal.Gen.dats m 0 c).arrAt 2 _, (θ_run _ _ _).mono (fun r h c => h c) (Cert.Kernel6Ideal.Value.run_blocks (F := Ideal) m ρ), (θ_run _ _ _).mono (fun r h c => ⟨?_, (h c).2⟩) (Cert.Reference6Ideal.Value.run (F := Ideal) m' ρ')⟩
  rw [(h c).1, (hag c).1, (hag c).2]
  exact (Cert.Reference6Ideal.Up.result ..).trans (Cert.Kernel6Ideal.Up.result m c).symm

theorem down_forward_reference : Cert.quiescent_Reference7Ideal := fun m ρ _ =>
  (θ_run _ _ _).mono (fun r h => ⟨fun c => (h c).2, Idealize.ShloMosaic.sem_eq_zero_of_no_sems (by decide) r.2⟩)
    (Cert.Reference7Ideal.Value.run (F := Ideal) m ρ)

theorem down_forward : Cert.algebraic_Kernel7Ideal_Reference7Ideal := by
  intro m ρ m' ρ' _ hag
  refine ⟨fun c => (Cert.Kernel7Ideal.Gen.dats m 0 c).arrAt 2 _, (θ_run _ _ _).mono (fun r h c => h c) (Cert.Kernel7Ideal.Value.run_blocks (F := Ideal) m ρ), (θ_run _ _ _).mono (fun r h c => ⟨?_, (h c).2⟩) (Cert.Reference7Ideal.Value.run (F := Ideal) m' ρ')⟩
  rw [(h c).1, (hag c).1, (hag c).2]
  exact (Cert.Reference7Ideal.Down.result ..).trans (Cert.Kernel7Ideal.Down.result m c).symm

/-! ## The gradient of the norm before the first mixer -/

theorem norm_reference_run (m ρ) : θ_run (Cert.Reference8Ideal.defs (F := Ideal)) (onTc (τ := Cert.Reference8Ideal.τ) (Cert.Reference8Ideal.main (F := Ideal)))
    ⟨m, fun _ => 0, ρ⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)) ∧ r.2.sem = fun _ => 0) :=
  (θ_run _ _ _).mono (fun r h => ⟨fun c => (h c).2.2.2.2, Idealize.ShloMosaic.sem_eq_zero_of_no_sems (by decide) r.2⟩)
    (Cert.Reference8Ideal.Value.run (F := Ideal) m ρ)

theorem norm_reference : Cert.quiescent_Reference8Ideal := fun m ρ _ => norm_reference_run m ρ

theorem norm_algebraic : Cert.algebraic_Kernel8Ideal_Reference8Ideal_pre_finite_rows := by
  intro m ρ m' ρ' hpre hag
  have e0 (c) : Cert.Reference8Ideal.Norm.onward m' c = Cert.Kernel8Ideal.Norm.onward m c := (hag c).1
  have e1 (c) : Cert.Reference8Ideal.Norm.gradient m' c = Cert.Kernel8Ideal.Norm.gradient m c := (hag c).2.1
  have e2 (c) : Cert.Reference8Ideal.Norm.input m' c = Cert.Kernel8Ideal.Norm.input m c := (hag c).2.2.1
  have e3 (c) : Cert.Reference8Ideal.Norm.gain m' c = Cert.Kernel8Ideal.Norm.gain m c := (hag c).2.2.2.1
  have e4 (c) : Cert.Reference8Ideal.Norm.scale m' c = Cert.Kernel8Ideal.Norm.scale m c := (hag c).2.2.2.2
  have en (c) : Cert.Reference8Ideal.Norm.normed m' c = Cert.Kernel8Ideal.Norm.normed m c := by
    unfold Cert.Reference8Ideal.Norm.normed Cert.Kernel8Ideal.Norm.normed; rw [e2]
  have hn (c) : Cert.Reference8Ideal.Norm.Numbers m' c := by
    have h := Cert.Norm.numbers _ _ _ _ _ (hpre c)
    refine ⟨fun t j => ?_, fun j => ?_, fun j => ?_⟩
    · rw [e1]; exact (h t j).1
    · rw [e3]; exact (h 0 j).2.1
    · rw [e4]; exact (h 0 j).2.2
  refine ⟨fun c => (Cert.Kernel8Ideal.Gen.dats m 0 c).arrAt 5 _, fun c => (Cert.Kernel8Ideal.Gen.dats m 0 c).arrAt 6 _,
    fun c => (Cert.Kernel8Ideal.Gen.dats m 0 c).arrAt 7 _, fun c => (Cert.Kernel8Ideal.Gen.dats m 0 c).arrAt 8 _,
    (θ_run _ _ _).mono (fun r h c => h c) (Cert.Kernel8Ideal.Value.run_blocks (F := Ideal) m ρ),
    (θ_run _ _ _).mono (fun r h c => ⟨(h c).1.trans (Eq.trans ?_ (Cert.Kernel8Ideal.Norm.result_rows m c).symm),
      (h c).2.1.trans (Eq.trans ?_ (Cert.Kernel8Ideal.Norm.result_shift m c).symm),
      (h c).2.2.1.trans (Eq.trans ?_ (Cert.Kernel8Ideal.Norm.result_scale m c).symm),
      (h c).2.2.2.1.trans (Eq.trans ?_ (Cert.Kernel8Ideal.Norm.result_gain m c).symm), (h c).2.2.2.2⟩)
      (Cert.Reference8Ideal.Norm.run ρ' hn)⟩
  · rw [e0, e1, e2, e3, e4]
  · rw [e1]
  · rw [e1, e3, en]
  · rw [e1, e4, en]

/-! ## The gradient of the norms between two layers -/

theorem between_reference_run (m ρ) : θ_run (Cert.Reference9Ideal.defs (F := Ideal)) (onTc (τ := Cert.Reference9Ideal.τ) (Cert.Reference9Ideal.main (F := Ideal)))
    ⟨m, fun _ => 0, ρ⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)) ∧ r.2.sem = fun _ => 0) :=
  (θ_run _ _ _).mono (fun r h => ⟨fun c => (h c).2.2.2.2.2.2.2.2, Idealize.ShloMosaic.sem_eq_zero_of_no_sems (by decide) r.2⟩)
    (Cert.Reference9Ideal.Value.run (F := Ideal) m ρ)

theorem between_reference : Cert.quiescent_Reference9Ideal := fun m ρ _ => between_reference_run m ρ

theorem between_algebraic : Cert.algebraic_Kernel9Ideal_Reference9Ideal_pre_finite_factors := by
  intro m ρ m' ρ' hpre hag
  have e (c) : Cert.Reference9Ideal.Norm.arrays m' c = Cert.Kernel9Ideal.Norm.arrays m c := by
    obtain ⟨a0, a1, a2, a3, a4, a5, a6, a7⟩ := hag c
    unfold Cert.Reference9Ideal.Norm.arrays Cert.Kernel9Ideal.Norm.arrays
    congr
  have hn (c) : (Cert.Reference9Ideal.Norm.arrays m' c).Numbers := by
    rw [e]
    exact Cert.Norm.factors (Cert.Kernel9Ideal.Norm.arrays m c) (hpre c)
  refine ⟨fun c => (Cert.Kernel9Ideal.Gen.dats m 0 c).arrAt 8 _, fun c => (Cert.Kernel9Ideal.Gen.dats m 0 c).arrAt 9 _, fun c => (Cert.Kernel9Ideal.Gen.dats m 0 c).arrAt 10 _, fun c => (Cert.Kernel9Ideal.Gen.dats m 0 c).arrAt 11 _, fun c => (Cert.Kernel9Ideal.Gen.dats m 0 c).arrAt 12 _, fun c => (Cert.Kernel9Ideal.Gen.dats m 0 c).arrAt 13 _, fun c => (Cert.Kernel9Ideal.Gen.dats m 0 c).arrAt 14 _, fun c => (Cert.Kernel9Ideal.Gen.dats m 0 c).arrAt 15 _,
    (θ_run _ _ _).mono (fun r h c => h c) (Cert.Kernel9Ideal.Value.run_blocks (F := Ideal) m ρ),
    (θ_run _ _ _).mono (fun r h c => ⟨(h c).1.trans (Eq.trans (by rw [e]) (Cert.Kernel9Ideal.Norm.result_rows m c).symm),
      (h c).2.1.trans (Eq.trans (by rw [e]) (Cert.Kernel9Ideal.Norm.result_layer m c).symm),
      (h c).2.2.1.trans (Eq.trans (by rw [e]) (Cert.Kernel9Ideal.Norm.result_shift m c).symm),
      (h c).2.2.2.1.trans (Eq.trans (by rw [e]) (Cert.Kernel9Ideal.Norm.result_scale m c).symm),
      (h c).2.2.2.2.1.trans (Eq.trans (by rw [e]) (Cert.Kernel9Ideal.Norm.result_gain m c).symm),
      (h c).2.2.2.2.2.1.trans (Eq.trans (by rw [e]) (Cert.Kernel9Ideal.Norm.result_gain' m c).symm),
      (h c).2.2.2.2.2.2.1.trans (Eq.trans (by rw [e]) (Cert.Kernel9Ideal.Norm.result_gate m c).symm),
      (h c).2.2.2.2.2.2.2.1.trans (Eq.trans (by rw [e]) (Cert.Kernel9Ideal.Norm.result_bias m c).symm), (h c).2.2.2.2.2.2.2.2⟩)
      (Cert.Reference9Ideal.Norm.run ρ' hn)⟩

/-! ## The products of the mixers -/

theorem last_input_reference : Cert.quiescent_Reference10Ideal := fun m ρ _ =>
  (θ_run _ _ _).mono (fun r h => ⟨fun c => (h c).2, Idealize.ShloMosaic.sem_eq_zero_of_no_sems (by decide) r.2⟩)
    (Cert.Reference10Ideal.Value.run (F := Ideal) m ρ)

theorem last_input : Cert.algebraic_Kernel10Ideal_Reference10Ideal := by
  intro m ρ m' ρ' _ hag
  refine ⟨fun c => (Cert.Kernel10Ideal.Gen.dats m 0 c).arrAt 2 _, (θ_run _ _ _).mono (fun r h c => h c) (Cert.Kernel10Ideal.Value.run_blocks (F := Ideal) m ρ), (θ_run _ _ _).mono (fun r h c => ⟨?_, (h c).2⟩) (Cert.Reference10Ideal.Value.run (F := Ideal) m' ρ')⟩
  rw [(h c).1, (hag c).1, (hag c).2]
  exact (Cert.Reference10Ideal.Last.result ..).trans (Cert.Kernel10Ideal.Last.result m c).symm

theorem last_weight_reference : Cert.quiescent_Reference11Ideal := fun m ρ _ =>
  (θ_run _ _ _).mono (fun r h => ⟨fun c => (h c).2, Idealize.ShloMosaic.sem_eq_zero_of_no_sems (by decide) r.2⟩)
    (Cert.Reference11Ideal.Value.run (F := Ideal) m ρ)

theorem last_weight : Cert.algebraic_Kernel11Ideal_Reference11Ideal := by
  intro m ρ m' ρ' _ hag
  refine ⟨fun c => (Cert.Kernel11Ideal.Gen.dats m 0 c).arrAt 2 _, (θ_run _ _ _).mono (fun r h c => h c) (Cert.Kernel11Ideal.Value.run_blocks (F := Ideal) m ρ), (θ_run _ _ _).mono (fun r h c => ⟨?_, (h c).2⟩) (Cert.Reference11Ideal.Value.run (F := Ideal) m' ρ')⟩
  rw [(h c).1, (hag c).1, (hag c).2]
  exact (Cert.Reference11Ideal.Last.result ..).trans (Cert.Kernel11Ideal.Last.result m c).symm

theorem first_input_conformer_reference : Cert.quiescent_Reference12Ideal := fun m ρ _ =>
  (θ_run _ _ _).mono (fun r h => ⟨fun c => (h c).2, Idealize.ShloMosaic.sem_eq_zero_of_no_sems (by decide) r.2⟩)
    (Cert.Reference12Ideal.Value.run (F := Ideal) m ρ)

theorem first_input_conformer : Cert.algebraic_Kernel12Ideal_Reference12Ideal := by
  intro m ρ m' ρ' _ hag
  refine ⟨fun c => (Cert.Kernel12Ideal.Gen.dats m 0 c).arrAt 2 _, (θ_run _ _ _).mono (fun r h c => h c) (Cert.Kernel12Ideal.Value.run_blocks (F := Ideal) m ρ), (θ_run _ _ _).mono (fun r h c => ⟨?_, (h c).2⟩) (Cert.Reference12Ideal.Value.run (F := Ideal) m' ρ')⟩
  rw [(h c).1, (hag c).1, (hag c).2]
  exact (Cert.Reference12Ideal.First.result ..).trans (Cert.Kernel12Ideal.First.result m c).symm

theorem first_weight_conformer_reference : Cert.quiescent_Reference13Ideal := fun m ρ _ =>
  (θ_run _ _ _).mono (fun r h => ⟨fun c => (h c).2, Idealize.ShloMosaic.sem_eq_zero_of_no_sems (by decide) r.2⟩)
    (Cert.Reference13Ideal.Value.run (F := Ideal) m ρ)

theorem first_weight_conformer : Cert.algebraic_Kernel13Ideal_Reference13Ideal := by
  intro m ρ m' ρ' _ hag
  refine ⟨fun c => (Cert.Kernel13Ideal.Gen.dats m 0 c).arrAt 2 _, (θ_run _ _ _).mono (fun r h c => h c) (Cert.Kernel13Ideal.Value.run_blocks (F := Ideal) m ρ), (θ_run _ _ _).mono (fun r h c => ⟨?_, (h c).2⟩) (Cert.Reference13Ideal.Value.run (F := Ideal) m' ρ')⟩
  rw [(h c).1, (hag c).1, (hag c).2]
  exact (Cert.Reference13Ideal.First.result ..).trans (Cert.Kernel13Ideal.First.result m c).symm

theorem first_input_short_reference : Cert.quiescent_Reference14Ideal := fun m ρ _ =>
  (θ_run _ _ _).mono (fun r h => ⟨fun c => (h c).2, Idealize.ShloMosaic.sem_eq_zero_of_no_sems (by decide) r.2⟩)
    (Cert.Reference14Ideal.Value.run (F := Ideal) m ρ)

theorem first_input_short : Cert.algebraic_Kernel14Ideal_Reference14Ideal := by
  intro m ρ m' ρ' _ hag
  refine ⟨fun c => (Cert.Kernel14Ideal.Gen.dats m 0 c).arrAt 2 _, (θ_run _ _ _).mono (fun r h c => h c) (Cert.Kernel14Ideal.Value.run_blocks (F := Ideal) m ρ), (θ_run _ _ _).mono (fun r h c => ⟨?_, (h c).2⟩) (Cert.Reference14Ideal.Value.run (F := Ideal) m' ρ')⟩
  rw [(h c).1, (hag c).1, (hag c).2]
  exact (Cert.Reference14Ideal.First.result ..).trans (Cert.Kernel14Ideal.First.result m c).symm

theorem first_weight_short_reference : Cert.quiescent_Reference15Ideal := fun m ρ _ =>
  (θ_run _ _ _).mono (fun r h => ⟨fun c => (h c).2, Idealize.ShloMosaic.sem_eq_zero_of_no_sems (by decide) r.2⟩)
    (Cert.Reference15Ideal.Value.run (F := Ideal) m ρ)

theorem first_weight_short : Cert.algebraic_Kernel15Ideal_Reference15Ideal := by
  intro m ρ m' ρ' _ hag
  refine ⟨fun c => (Cert.Kernel15Ideal.Gen.dats m 0 c).arrAt 2 _, (θ_run _ _ _).mono (fun r h c => h c) (Cert.Kernel15Ideal.Value.run_blocks (F := Ideal) m ρ), (θ_run _ _ _).mono (fun r h c => ⟨?_, (h c).2⟩) (Cert.Reference15Ideal.Value.run (F := Ideal) m' ρ')⟩
  rw [(h c).1, (hag c).1, (hag c).2]
  exact (Cert.Reference15Ideal.First.result ..).trans (Cert.Kernel15Ideal.First.result m c).symm

theorem first_conformer_reference : Cert.quiescent_Reference16Ideal := fun m ρ _ =>
  (θ_run _ _ _).mono (fun r h => ⟨fun c => (h c).2, Idealize.ShloMosaic.sem_eq_zero_of_no_sems (by decide) r.2⟩)
    (Cert.Reference16Ideal.Value.run (F := Ideal) m ρ)

theorem first_conformer : Cert.algebraic_Kernel16Ideal_Reference16Ideal := by
  intro m ρ m' ρ' _ hag
  refine ⟨fun c => (Cert.Kernel16Ideal.Gen.dats m 0 c).arrAt 2 _, (θ_run _ _ _).mono (fun r h c => h c) (Cert.Kernel16Ideal.Value.run_blocks (F := Ideal) m ρ), (θ_run _ _ _).mono (fun r h c => ⟨?_, (h c).2⟩) (Cert.Reference16Ideal.Value.run (F := Ideal) m' ρ')⟩
  rw [(h c).1, (hag c).1, (hag c).2]
  exact (Cert.Reference16Ideal.First.result ..).trans (Cert.Kernel16Ideal.First.result m c).symm

theorem last_biased_reference : Cert.quiescent_Reference17Ideal := fun m ρ _ =>
  (θ_run _ _ _).mono (fun r h => ⟨fun c => (h c).2, Idealize.ShloMosaic.sem_eq_zero_of_no_sems (by decide) r.2⟩)
    (Cert.Reference17Ideal.Value.run (F := Ideal) m ρ)

theorem last_biased : Cert.algebraic_Kernel17Ideal_Reference17Ideal := by
  intro m ρ m' ρ' _ hag
  refine ⟨fun c => (Cert.Kernel17Ideal.Gen.dats m 0 c).arrAt 3 _, (θ_run _ _ _).mono (fun r h c => h c) (Cert.Kernel17Ideal.Value.run_blocks (F := Ideal) m ρ), (θ_run _ _ _).mono (fun r h c => ⟨?_, (h c).2⟩) (Cert.Reference17Ideal.Value.run (F := Ideal) m' ρ')⟩
  rw [(h c).1, (hag c).1, (hag c).2.1, (hag c).2.2]
  exact (Cert.Reference17Ideal.Last.result ..).trans (Cert.Kernel17Ideal.Last.result m c).symm

theorem first_short_reference : Cert.quiescent_Reference18Ideal := fun m ρ _ =>
  (θ_run _ _ _).mono (fun r h => ⟨fun c => (h c).2, Idealize.ShloMosaic.sem_eq_zero_of_no_sems (by decide) r.2⟩)
    (Cert.Reference18Ideal.Value.run (F := Ideal) m ρ)

theorem first_short : Cert.algebraic_Kernel18Ideal_Reference18Ideal := by
  intro m ρ m' ρ' _ hag
  refine ⟨fun c => (Cert.Kernel18Ideal.Gen.dats m 0 c).arrAt 2 _, (θ_run _ _ _).mono (fun r h c => h c) (Cert.Kernel18Ideal.Value.run_blocks (F := Ideal) m ρ), (θ_run _ _ _).mono (fun r h c => ⟨?_, (h c).2⟩) (Cert.Reference18Ideal.Value.run (F := Ideal) m' ρ')⟩
  rw [(h c).1, (hag c).1, (hag c).2]
  exact (Cert.Reference18Ideal.First.result ..).trans (Cert.Kernel18Ideal.First.result m c).symm

theorem last_plain_reference : Cert.quiescent_Reference19Ideal := fun m ρ _ =>
  (θ_run _ _ _).mono (fun r h => ⟨fun c => (h c).2, Idealize.ShloMosaic.sem_eq_zero_of_no_sems (by decide) r.2⟩)
    (Cert.Reference19Ideal.Value.run (F := Ideal) m ρ)

theorem last_plain : Cert.algebraic_Kernel19Ideal_Reference19Ideal := by
  intro m ρ m' ρ' _ hag
  refine ⟨fun c => (Cert.Kernel19Ideal.Gen.dats m 0 c).arrAt 2 _, (θ_run _ _ _).mono (fun r h c => h c) (Cert.Kernel19Ideal.Value.run_blocks (F := Ideal) m ρ), (θ_run _ _ _).mono (fun r h c => ⟨?_, (h c).2⟩) (Cert.Reference19Ideal.Value.run (F := Ideal) m' ρ')⟩
  rw [(h c).1, (hag c).1, (hag c).2]
  exact (Cert.Reference19Ideal.Last.result ..).trans (Cert.Kernel19Ideal.Last.result m c).symm

theorem mix_input_reference : Cert.quiescent_Reference20Ideal := fun m ρ _ =>
  (θ_run _ _ _).mono (fun r h => ⟨fun c => (h c).2, Idealize.ShloMosaic.sem_eq_zero_of_no_sems (by decide) r.2⟩)
    (Cert.Reference20Ideal.Value.run (F := Ideal) m ρ)

theorem mix_input : Cert.algebraic_Kernel20Ideal_Reference20Ideal := by
  intro m ρ m' ρ' _ hag
  refine ⟨fun c => (Cert.Kernel20Ideal.Gen.dats m 0 c).arrAt 2 _, (θ_run _ _ _).mono (fun r h c => h c) (Cert.Kernel20Ideal.Value.run_blocks (F := Ideal) m ρ), (θ_run _ _ _).mono (fun r h c => ⟨?_, (h c).2⟩) (Cert.Reference20Ideal.Value.run (F := Ideal) m' ρ')⟩
  rw [(h c).1, (hag c).1, (hag c).2]
  exact (Cert.Reference20Ideal.Mix.result ..).trans (Cert.Kernel20Ideal.Mix.result m c).symm

theorem mix_weight_reference : Cert.quiescent_Reference21Ideal := fun m ρ _ =>
  (θ_run _ _ _).mono (fun r h => ⟨fun c => (h c).2, Idealize.ShloMosaic.sem_eq_zero_of_no_sems (by decide) r.2⟩)
    (Cert.Reference21Ideal.Value.run (F := Ideal) m ρ)

theorem mix_weight : Cert.algebraic_Kernel21Ideal_Reference21Ideal := by
  intro m ρ m' ρ' _ hag
  refine ⟨fun c => (Cert.Kernel21Ideal.Gen.dats m 0 c).arrAt 2 _, (θ_run _ _ _).mono (fun r h c => h c) (Cert.Kernel21Ideal.Value.run_blocks (F := Ideal) m ρ), (θ_run _ _ _).mono (fun r h c => ⟨?_, (h c).2⟩) (Cert.Reference21Ideal.Value.run (F := Ideal) m' ρ')⟩
  rw [(h c).1, (hag c).1, (hag c).2]
  exact (Cert.Reference21Ideal.Mix.result ..).trans (Cert.Kernel21Ideal.Mix.result m c).symm

theorem mix_reference : Cert.quiescent_Reference22Ideal := fun m ρ _ =>
  (θ_run _ _ _).mono (fun r h => ⟨fun c => (h c).2, Idealize.ShloMosaic.sem_eq_zero_of_no_sems (by decide) r.2⟩)
    (Cert.Reference22Ideal.Value.run (F := Ideal) m ρ)

theorem mix : Cert.algebraic_Kernel22Ideal_Reference22Ideal := by
  intro m ρ m' ρ' _ hag
  refine ⟨fun c => (Cert.Kernel22Ideal.Gen.dats m 0 c).arrAt 2 _, (θ_run _ _ _).mono (fun r h c => h c) (Cert.Kernel22Ideal.Value.run_blocks (F := Ideal) m ρ), (θ_run _ _ _).mono (fun r h c => ⟨?_, (h c).2⟩) (Cert.Reference22Ideal.Value.run (F := Ideal) m' ρ')⟩
  rw [(h c).1, (hag c).1, (hag c).2]
  exact (Cert.Reference22Ideal.Mix.result ..).trans (Cert.Kernel22Ideal.Mix.result m c).symm

/-! ## The scale and shift of the pooling mixer, and its means -/

theorem affine_back_reference_run (m ρ) : θ_run (Cert.Reference23Ideal.defs (F := Ideal)) (onTc (τ := Cert.Reference23Ideal.τ) (Cert.Reference23Ideal.main (F := Ideal)))
    ⟨m, fun _ => 0, ρ⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)) ∧ r.2.sem = fun _ => 0) :=
  (θ_run _ _ _).mono (fun r h => ⟨fun c => (h c).2.2.2, Idealize.ShloMosaic.sem_eq_zero_of_no_sems (by decide) r.2⟩)
    (Cert.Reference23Ideal.Value.run (F := Ideal) m ρ)

theorem affine_back_reference : Cert.quiescent_Reference23Ideal := fun m ρ _ => affine_back_reference_run m ρ

theorem affine_back_algebraic : Cert.algebraic_Kernel23Ideal_Reference23Ideal_pre_finite_scale := by
  intro m ρ m' ρ' hpre hag
  have e (c) : Cert.Reference23Ideal.Affine.arrays m' c = Cert.Kernel23Ideal.Affine.arrays m c := by
    obtain ⟨a0, a1, a2, a3⟩ := hag c
    unfold Cert.Reference23Ideal.Affine.arrays Cert.Kernel23Ideal.Affine.arrays
    congr
  have hn (c) : (Cert.Reference23Ideal.Affine.arrays m' c).Numbers := by
    rw [e]
    exact Cert.Affine.Arrays.numbers (Cert.Kernel23Ideal.Affine.arrays m c) (hpre c)
  refine ⟨fun c => (Cert.Kernel23Ideal.Gen.dats m 0 c).arrAt 4 _, fun c => (Cert.Kernel23Ideal.Gen.dats m 0 c).arrAt 5 _,
    fun c => (Cert.Kernel23Ideal.Gen.dats m 0 c).arrAt 6 _,
    (θ_run _ _ _).mono (fun r h c => h c) (Cert.Kernel23Ideal.Value.run_blocks (F := Ideal) m ρ),
    (θ_run _ _ _).mono (fun r h c => ⟨(h c).1.trans (Eq.trans (by rw [e]) (Cert.Kernel23Ideal.Affine.result_rows m c).symm),
      (h c).2.1.trans (Eq.trans (by rw [e]) (Cert.Kernel23Ideal.Affine.result_scale m c).symm),
      (h c).2.2.1.trans (Eq.trans (by rw [e]) (Cert.Kernel23Ideal.Affine.result_bias m c).symm), (h c).2.2.2⟩)
      (Cert.Reference23Ideal.Affine.run m' ρ' hn)⟩

theorem affine_reference : Cert.quiescent_Reference27Ideal := fun m ρ _ =>
  (θ_run _ _ _).mono (fun r h => ⟨fun c => (h c).2, Idealize.ShloMosaic.sem_eq_zero_of_no_sems (by decide) r.2⟩)
    (Cert.Reference27Ideal.Value.run (F := Ideal) m ρ)

theorem affine : Cert.algebraic_Kernel27Ideal_Reference27Ideal := by
  intro m ρ m' ρ' _ hag
  refine ⟨fun c => (Cert.Kernel27Ideal.Gen.dats m 0 c).arrAt 3 _, (θ_run _ _ _).mono (fun r h c => h c) (Cert.Kernel27Ideal.Value.run_blocks (F := Ideal) m ρ), (θ_run _ _ _).mono (fun r h c => ⟨?_, (h c).2⟩) (Cert.Reference27Ideal.Value.run (F := Ideal) m' ρ')⟩
  rw [(h c).1, (hag c).1, (hag c).2.1, (hag c).2.2]
  exact (Cert.Reference27Ideal.Affine.result ..).trans (Cert.Kernel27Ideal.Affine.result m c).symm

theorem means_reference_run (m ρ) : θ_run (Cert.Reference28Ideal.defs (F := Ideal)) (onTc (τ := Cert.Reference28Ideal.τ) (Cert.Reference28Ideal.main (F := Ideal)))
    ⟨m, fun _ => 0, ρ⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)) ∧ r.2.sem = fun _ => 0) :=
  (θ_run _ _ _).mono (fun r h => ⟨fun c => (h c).2, Idealize.ShloMosaic.sem_eq_zero_of_no_sems (by decide) r.2⟩)
    (Cert.Reference28Ideal.Value.run (F := Ideal) m ρ)

theorem means_reference : Cert.quiescent_Reference28Ideal := fun m ρ _ => means_reference_run m ρ

theorem means_algebraic : Cert.algebraic_Kernel28Ideal_Reference28Ideal_pre_finite_input := by
  intro m ρ m' ρ' hpre hag
  refine ⟨fun c => Cert.Pool.pooled (Cert.Kernel28Ideal.PoolBlock.arg m c), ?_, ?_⟩
  · exact (θ_run _ _ _).mono (fun r h c => ⟨(h c).1.trans (Cert.Kernel28Ideal.PoolBlock.result m c), (h c).2⟩)
      (Cert.Kernel28Ideal.Value.run_blocks (F := Ideal) m ρ)
  · exact (θ_run _ _ _).mono (fun r h c => ⟨(h c).1.trans (Cert.Reference28Ideal.Pool.reference m' c _ (hag c)
        (Cert.Pool.entries _ (hpre c))), (h c).2⟩)
      (Cert.Reference28Ideal.Value.run (F := Ideal) m' ρ')

/-! ## The gradient of the last norm and of the loss -/

theorem ending_reference_run (m ρ) : θ_run (Cert.Reference24Ideal.defs (F := Ideal)) (onTc (τ := Cert.Reference24Ideal.τ) (Cert.Reference24Ideal.main (F := Ideal)))
    ⟨m, fun _ => 0, ρ⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)) ∧ r.2.sem = fun _ => 0) :=
  (θ_run _ _ _).mono (fun r h => ⟨fun c => (h c).2.2.2.2.2.2, Idealize.ShloMosaic.sem_eq_zero_of_no_sems (by decide) r.2⟩)
    (Cert.Reference24Ideal.Value.run (F := Ideal) m ρ)

theorem ending_reference : Cert.quiescent_Reference24Ideal := fun m ρ _ => ending_reference_run m ρ

theorem ending_algebraic : Cert.algebraic_Kernel24Ideal_Reference24Ideal_pre_finite_ends := by
  intro m ρ m' ρ' hpre hag
  have e (c) : Cert.Reference24Ideal.Norm.arrays m' c = Cert.Kernel24Ideal.Norm.arrays m c := by
    obtain ⟨a0, a1, a2, a3, a4⟩ := hag c
    unfold Cert.Reference24Ideal.Norm.arrays Cert.Kernel24Ideal.Norm.arrays
    congr
  have hn (c) : (Cert.Reference24Ideal.Norm.arrays m' c).Numbers := by
    rw [e]
    exact Cert.Norm.Ends.numbers (Cert.Kernel24Ideal.Norm.arrays m c) (hpre c)
  refine ⟨fun c => (Cert.Kernel24Ideal.Gen.dats m 0 c).arrAt 5 _, fun c => (Cert.Kernel24Ideal.Gen.dats m 0 c).arrAt 6 _, fun c => (Cert.Kernel24Ideal.Gen.dats m 0 c).arrAt 7 _, fun c => (Cert.Kernel24Ideal.Gen.dats m 0 c).arrAt 8 _, fun c => (Cert.Kernel24Ideal.Gen.dats m 0 c).arrAt 9 _, fun c => (Cert.Kernel24Ideal.Gen.dats m 0 c).arrAt 10 _,
    (θ_run _ _ _).mono (fun r h c => h c) (Cert.Kernel24Ideal.Value.run_blocks (F := Ideal) m ρ),
    (θ_run _ _ _).mono (fun r h c => ⟨(h c).1.trans (Eq.trans (by rw [e]) (Cert.Kernel24Ideal.Norm.result_rows m c).symm),
      (h c).2.1.trans (Eq.trans (by rw [e]) (Cert.Kernel24Ideal.Norm.result_layer m c).symm),
      (h c).2.2.1.trans (Eq.trans (by rw [e]) (Cert.Kernel24Ideal.Norm.result_gain m c).symm),
      (h c).2.2.2.1.trans (Eq.trans (by rw [e]) (Cert.Kernel24Ideal.Norm.result_gate m c).symm),
      (h c).2.2.2.2.1.trans (Eq.trans (by rw [e]) (Cert.Kernel24Ideal.Norm.result_bias m c).symm),
      (h c).2.2.2.2.2.1.trans (Eq.trans (by rw [e]) (Cert.Kernel24Ideal.Norm.result_loss m c).symm), (h c).2.2.2.2.2.2⟩)
      (Cert.Reference24Ideal.Norm.run ρ' hn)⟩

/-! ## The norms themselves -/

theorem first_norm_reference : Cert.quiescent_Reference25Ideal := fun m ρ _ =>
  (θ_run _ _ _).mono (fun r h => ⟨fun c => (h c).2, Idealize.ShloMosaic.sem_eq_zero_of_no_sems (by decide) r.2⟩)
    (Cert.Reference25Ideal.Value.run (F := Ideal) m ρ)

theorem first_norm : Cert.algebraic_Kernel25Ideal_Reference25Ideal := by
  intro m ρ m' ρ' _ hag
  refine ⟨fun c => (Cert.Kernel25Ideal.Gen.dats m 0 c).arrAt 4 _, (θ_run _ _ _).mono (fun r h c => h c) (Cert.Kernel25Ideal.Value.run_blocks (F := Ideal) m ρ),
    (θ_run _ _ _).mono (fun r h c => ⟨(h c).1.trans (Eq.trans ?_ (Cert.Kernel25Ideal.Norm.result m c).symm), (h c).2⟩) (Cert.Reference25Ideal.Norm.run m' ρ')⟩
  rw [(hag c).1, (hag c).2.1, (hag c).2.2.1, (hag c).2.2.2]

theorem mid_norm_reference : Cert.quiescent_Reference26Ideal := fun m ρ _ =>
  (θ_run _ _ _).mono (fun r h => ⟨fun c => (h c).2.2, Idealize.ShloMosaic.sem_eq_zero_of_no_sems (by decide) r.2⟩)
    (Cert.Reference26Ideal.Value.run (F := Ideal) m ρ)

theorem mid_norm : Cert.algebraic_Kernel26Ideal_Reference26Ideal := by
  intro m ρ m' ρ' _ hag
  have e (c) : Cert.Reference26Ideal.Norm.rows m' c = Cert.Kernel26Ideal.Norm.rows m c := by
    unfold Cert.Reference26Ideal.Norm.rows Cert.Kernel26Ideal.Norm.rows
    rw [(hag c).1, (hag c).2.1, (hag c).2.2.1, (hag c).2.2.2.1]
  refine ⟨fun c => (Cert.Kernel26Ideal.Gen.dats m 0 c).arrAt 7 _, fun c => (Cert.Kernel26Ideal.Gen.dats m 0 c).arrAt 8 _,
    (θ_run _ _ _).mono (fun r h c => h c) (Cert.Kernel26Ideal.Value.run_blocks (F := Ideal) m ρ),
    (θ_run _ _ _).mono (fun r h c => ⟨(h c).1.trans (Eq.trans ?_ (Cert.Kernel26Ideal.Norm.result_rows m c).symm),
      (h c).2.1.trans (Eq.trans ?_ (Cert.Kernel26Ideal.Norm.result_shifted m c).symm), (h c).2.2⟩) (Cert.Reference26Ideal.Norm.run m' ρ')⟩
  · rw [e]
  · rw [e, (hag c).2.2.2.2.1, (hag c).2.2.2.2.2.1, (hag c).2.2.2.2.2.2]

/-! ## The sum over the devices -/

theorem sum_devices_reference : Cert.quiescent_Reference29Ideal := fun m ρ _ =>
  (θ_run _ _ _).mono (fun r h => ⟨fun c => (h c).2, Idealize.ShloMosaic.sem_eq_zero_of_no_sems (by decide) r.2⟩)
    (Cert.Reference29Ideal.Sum.run m ρ)

theorem sum_devices : Cert.algebraic_Kernel29Ideal_Reference29Ideal := by
  intro m ρ m' ρ' _ hag
  refine ⟨fun c => (Cert.Kernel29Ideal.Gen.dats m 0 c).arrAt 1 _, (θ_run _ _ _).mono (fun r h c => h c) (Cert.Kernel29Ideal.Value.run_blocks (F := Ideal) m ρ),
    (θ_run _ _ _).mono (fun r h c => ⟨?_, (h c).2⟩) (Cert.Reference29Ideal.Sum.run m' ρ')⟩
  rw [(h c).1, hag c]
  exact (Cert.Kernel29Ideal.Sum.result m c).symm

/-! ## The scales, shifts and gates, their weights' update, and the optimiser -/

theorem modulation_reference : Cert.quiescent_Reference30Ideal := fun m ρ _ =>
  (θ_run _ _ _).mono (fun r h => ⟨fun c => (h c).2, Idealize.ShloMosaic.sem_eq_zero_of_no_sems (by decide) r.2⟩)
    (Cert.Reference30Ideal.Forward.run m ρ)

theorem modulation : Cert.algebraic_Kernel30Ideal_Reference30Ideal := by
  intro m ρ m' ρ' _ hag
  refine ⟨fun c => (Cert.Kernel30Ideal.Gen.dats m 0 c).arrAt 3 _, (θ_run _ _ _).mono (fun r h c => h c) (Cert.Kernel30Ideal.Value.run_blocks (F := Ideal) m ρ),
    (θ_run _ _ _).mono (fun r h c => ⟨?_, (h c).2⟩) (Cert.Reference30Ideal.Forward.run m' ρ')⟩
  rw [(h c).1, (hag c).1, (hag c).2.1, (hag c).2.2]
  exact (Cert.Kernel30Ideal.Forward.result m c).symm

theorem modulation_update_reference : Cert.quiescent_Reference31Ideal := fun m ρ _ =>
  (θ_run _ _ _).mono (fun r h => ⟨fun c => (h c).2.2.2.2, Idealize.ShloMosaic.sem_eq_zero_of_no_sems (by decide) r.2⟩)
    (Cert.Reference31Ideal.Update.run m ρ)

theorem modulation_update : Cert.algebraic_Kernel31Ideal_Reference31Ideal := by
  intro m ρ m' ρ' _ hag
  have e (c) : Cert.Reference31Ideal.Update.total m' c = Cert.Kernel31Ideal.Update.made m c := by
    rw [Cert.Reference31Ideal.Update.total_eq, (hag c).1, (hag c).2.1]
    rfl
  refine ⟨fun c => _, fun c => _, fun c => _, fun c => _, (θ_run _ _ _).mono (fun r h c => h c) (Cert.Kernel31Ideal.Update.run m ρ),
    (θ_run _ _ _).mono (fun r h c => ⟨?_, ?_, ?_, ?_, (h c).2.2.2.2⟩) (Cert.Reference31Ideal.Update.run m' ρ')⟩
  · rw [(h c).1, e]
  · rw [(h c).2.1, e, (hag c).2.2.1, (hag c).2.2.2.1, (hag c).2.2.2.2]
  · rw [(h c).2.2.1, e, (hag c).2.2.2.1]
  · rw [(h c).2.2.2.1, e, (hag c).2.2.2.2]

theorem adam_reference : Cert.quiescent_Reference32Ideal := fun m ρ _ =>
  (θ_run _ _ _).mono (fun r h => ⟨fun c => (h c).2.2.2, Idealize.ShloMosaic.sem_eq_zero_of_no_sems (by decide) r.2⟩)
    (Cert.Reference32Ideal.Adam.run m ρ)

theorem adam : Cert.algebraic_Kernel32Ideal_Reference32Ideal := by
  intro m ρ m' ρ' _ hag
  refine ⟨fun c => (Cert.Kernel32Ideal.Gen.dats m 0 c).arrAt 4 _, fun c => (Cert.Kernel32Ideal.Gen.dats m 0 c).arrAt 5 _,
    fun c => (Cert.Kernel32Ideal.Gen.dats m 0 c).arrAt 6 _,
    (θ_run _ _ _).mono (fun r h c => h c) (Cert.Kernel32Ideal.Value.run_blocks (F := Ideal) m ρ),
    (θ_run _ _ _).mono (fun r h c => ⟨?_, ?_, ?_, (h c).2.2.2⟩) (Cert.Reference32Ideal.Adam.run m' ρ')⟩
  · rw [(h c).1, (hag c).1, (hag c).2.1, (hag c).2.2.1, (hag c).2.2.2]
    exact (Cert.Kernel32Ideal.Adam.result_change m c).symm
  · rw [(h c).2.1, (hag c).2.1, (hag c).2.2.1]
    exact (Cert.Kernel32Ideal.Adam.result_mean m c).symm
  · rw [(h c).2.2.1, (hag c).2.1, (hag c).2.2.2]
    exact (Cert.Kernel32Ideal.Adam.result_square m c).symm

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Kernel30.Gen.facts, Cert.Kernel30Ideal.Gen.facts, Cert.Reference30Ideal.Gen.facts, Cert.Kernel31.Gen.facts, Cert.Kernel31Ideal.Gen.facts, Cert.Reference31Ideal.Gen.facts, Cert.Kernel32.Gen.facts, Cert.Kernel32Ideal.Gen.facts, Cert.Reference32Ideal.Gen.facts, facts_finite, facts_rows, facts_factors, facts_scale, facts_ends, facts_input,
  pool_frame, pool_frame_ideal, fun m ρ _ => Cert.KernelIdeal.Gen.frame m ρ, pool_frame_reference, fun m ρ _ => pool_reference_run m ρ,
  fun m ρ _ => Cert.Kernel2.Gen.frame m ρ, fun m ρ _ => Cert.Kernel2Ideal.Gen.frame m ρ, down_input_reference,
  fun m ρ _ => Cert.Kernel3.Gen.frame m ρ, fun m ρ _ => Cert.Kernel3Ideal.Gen.frame m ρ, down_weight_reference,
  fun m ρ _ => Cert.Kernel4.Gen.frame m ρ, fun m ρ _ => Cert.Kernel4Ideal.Gen.frame m ρ, up_input_reference,
  fun m ρ _ => Cert.Kernel5.Gen.frame m ρ, fun m ρ _ => Cert.Kernel5Ideal.Gen.frame m ρ, up_weight_reference,
  fun m ρ _ => Cert.Kernel6.Gen.frame m ρ, fun m ρ _ => Cert.Kernel6Ideal.Gen.frame m ρ, up_forward_reference,
  fun m ρ _ => Cert.Kernel7.Gen.frame m ρ, fun m ρ _ => Cert.Kernel7Ideal.Gen.frame m ρ, down_forward_reference,
  fun m ρ _ => Cert.Kernel8.Gen.frame m ρ, fun m ρ _ => Cert.Kernel8Ideal.Gen.frame m ρ, fun m ρ _ => Cert.Kernel8Ideal.Gen.frame m ρ, norm_reference, fun m ρ _ => norm_reference_run m ρ,
  fun m ρ _ => Cert.Kernel9.Gen.frame m ρ, fun m ρ _ => Cert.Kernel9Ideal.Gen.frame m ρ, fun m ρ _ => Cert.Kernel9Ideal.Gen.frame m ρ, between_reference, fun m ρ _ => between_reference_run m ρ,
  fun m ρ _ => Cert.Kernel10.Gen.frame m ρ, fun m ρ _ => Cert.Kernel10Ideal.Gen.frame m ρ, last_input_reference,
  fun m ρ _ => Cert.Kernel11.Gen.frame m ρ, fun m ρ _ => Cert.Kernel11Ideal.Gen.frame m ρ, last_weight_reference,
  fun m ρ _ => Cert.Kernel12.Gen.frame m ρ, fun m ρ _ => Cert.Kernel12Ideal.Gen.frame m ρ, first_input_conformer_reference,
  fun m ρ _ => Cert.Kernel13.Gen.frame m ρ, fun m ρ _ => Cert.Kernel13Ideal.Gen.frame m ρ, first_weight_conformer_reference,
  fun m ρ _ => Cert.Kernel14.Gen.frame m ρ, fun m ρ _ => Cert.Kernel14Ideal.Gen.frame m ρ, first_input_short_reference,
  fun m ρ _ => Cert.Kernel15.Gen.frame m ρ, fun m ρ _ => Cert.Kernel15Ideal.Gen.frame m ρ, first_weight_short_reference,
  fun m ρ _ => Cert.Kernel16.Gen.frame m ρ, fun m ρ _ => Cert.Kernel16Ideal.Gen.frame m ρ, first_conformer_reference,
  fun m ρ _ => Cert.Kernel17.Gen.frame m ρ, fun m ρ _ => Cert.Kernel17Ideal.Gen.frame m ρ, last_biased_reference,
  fun m ρ _ => Cert.Kernel18.Gen.frame m ρ, fun m ρ _ => Cert.Kernel18Ideal.Gen.frame m ρ, first_short_reference,
  fun m ρ _ => Cert.Kernel19.Gen.frame m ρ, fun m ρ _ => Cert.Kernel19Ideal.Gen.frame m ρ, last_plain_reference,
  fun m ρ _ => Cert.Kernel20.Gen.frame m ρ, fun m ρ _ => Cert.Kernel20Ideal.Gen.frame m ρ, mix_input_reference,
  fun m ρ _ => Cert.Kernel21.Gen.frame m ρ, fun m ρ _ => Cert.Kernel21Ideal.Gen.frame m ρ, mix_weight_reference,
  fun m ρ _ => Cert.Kernel22.Gen.frame m ρ, fun m ρ _ => Cert.Kernel22Ideal.Gen.frame m ρ, mix_reference,
  fun m ρ _ => Cert.Kernel23.Gen.frame m ρ, fun m ρ _ => Cert.Kernel23Ideal.Gen.frame m ρ, fun m ρ _ => Cert.Kernel23Ideal.Gen.frame m ρ, affine_back_reference, fun m ρ _ => affine_back_reference_run m ρ,
  fun m ρ _ => Cert.Kernel24.Gen.frame m ρ, fun m ρ _ => Cert.Kernel24Ideal.Gen.frame m ρ, fun m ρ _ => Cert.Kernel24Ideal.Gen.frame m ρ, ending_reference, fun m ρ _ => ending_reference_run m ρ,
  fun m ρ _ => Cert.Kernel25.Gen.frame m ρ, fun m ρ _ => Cert.Kernel25Ideal.Gen.frame m ρ, first_norm_reference,
  fun m ρ _ => Cert.Kernel26.Gen.frame m ρ, fun m ρ _ => Cert.Kernel26Ideal.Gen.frame m ρ, mid_norm_reference,
  fun m ρ _ => Cert.Kernel27.Gen.frame m ρ, fun m ρ _ => Cert.Kernel27Ideal.Gen.frame m ρ, affine_reference,
  fun m ρ _ => Cert.Kernel28.Gen.frame m ρ, fun m ρ _ => Cert.Kernel28Ideal.Gen.frame m ρ, fun m ρ _ => Cert.Kernel28Ideal.Gen.frame m ρ, means_reference, fun m ρ _ => means_reference_run m ρ,
  fun m ρ _ => Cert.Kernel29.Gen.frame m ρ, fun m ρ _ => Cert.Kernel29Ideal.Gen.frame m ρ, sum_devices_reference,
  fun m ρ _ => Cert.Kernel30.Gen.frame m ρ, fun m ρ _ => Cert.Kernel30Ideal.Gen.frame m ρ, modulation_reference,
  fun m ρ _ => Cert.Kernel31.Gen.frame m ρ, fun m ρ _ => Cert.Kernel31Ideal.Gen.frame m ρ, modulation_update_reference,
  fun m ρ _ => Cert.Kernel32.Gen.frame m ρ, fun m ρ _ => Cert.Kernel32Ideal.Gen.frame m ρ, adam_reference,
  trivial, pool_algebraic,
  trivial, down_input,
  trivial, down_weight,
  trivial, up_input,
  trivial, up_weight,
  trivial, up_forward,
  trivial, down_forward,
  trivial, norm_algebraic,
  trivial, between_algebraic,
  trivial, last_input,
  trivial, last_weight,
  trivial, first_input_conformer,
  trivial, first_weight_conformer,
  trivial, first_input_short,
  trivial, first_weight_short,
  trivial, first_conformer,
  trivial, last_biased,
  trivial, first_short,
  trivial, last_plain,
  trivial, mix_input,
  trivial, mix_weight,
  trivial, mix,
  trivial, affine_back_algebraic,
  trivial, ending_algebraic,
  trivial, first_norm,
  trivial, mid_norm,
  trivial, affine,
  trivial, means_algebraic,
  trivial, sum_devices,
  trivial, modulation,
  trivial, modulation_update,
  trivial, adam⟩

end Cert.Proof

end
